-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_finite_x [hPre_finite_x : Cert.Pre_finite_x.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_finite_x.fn (F := Ideal) (m ((c.tc : Thread Cert.QuantXIdeal.nD Cert.QuantXIdeal.τ).loc Cert.QuantXIdeal.main_arg0))) = (fun _ => 1#1)

def Pre_QuantXReferenceIdeal (m : (ℓ : Loc Cert.QuantXReferenceIdeal.nD Cert.QuantXReferenceIdeal.τ Cert.QuantXReferenceIdeal.sig) → Buf (Elt Ideal) ℓ) : Prop :=
  True

def Pre_QuantXReferenceIdeal_finite_x [hPre_finite_x : Cert.Pre_finite_x.Facts] (m : (ℓ : Loc Cert.QuantXReferenceIdeal.nD Cert.QuantXReferenceIdeal.τ Cert.QuantXReferenceIdeal.sig) → Buf (Elt Ideal) ℓ) : Prop :=
  ∀ c : Dev Cert.QuantXReferenceIdeal.nD,
    (Cert.Pre_finite_x.fn (F := Ideal) (m ((c.tc : Thread Cert.QuantXReferenceIdeal.nD Cert.QuantXReferenceIdeal.τ).loc Cert.QuantXReferenceIdeal.main_arg0))) = (fun _ => 1#1)

def Pre_QuantK (m : (ℓ : Loc Cert.QuantK.nD Cert.QuantK.τ Cert.QuantK.sig) → Buf (Elt Bits) ℓ) : Prop :=
  True

def Pre_QuantKIdeal (m : (ℓ : Loc Cert.QuantKIdeal.nD Cert.QuantKIdeal.τ Cert.QuantKIdeal.sig) → Buf (Elt Ideal) ℓ) : Prop :=
  True

def Pre_QuantKIdeal_finite_k [hPre_finite_k : Cert.Pre_finite_k.Facts] (m : (ℓ : Loc Cert.QuantKIdeal.nD Cert.QuantKIdeal.τ Cert.QuantKIdeal.sig) → Buf (Elt Ideal) ℓ) : Prop :=
  ∀ c : Dev Cert.QuantKIdeal.nD,
    (Cert.Pre_finite_k.fn (F := Ideal) (m ((c.tc : Thread Cert.QuantKIdeal.nD Cert.QuantKIdeal.τ).loc Cert.QuantKIdeal.main_arg0))) = (fun _ => 1#1)

def Pre_QuantKReferenceIdeal (m : (ℓ : Loc Cert.QuantKReferenceIdeal.nD Cert.QuantKReferenceIdeal.τ Cert.QuantKReferenceIdeal.sig) → Buf (Elt Ideal) ℓ) : Prop :=
  True

def Pre_QuantKReferenceIdeal_finite_k [hPre_finite_k : Cert.Pre_finite_k.Facts] (m : (ℓ : Loc Cert.QuantKReferenceIdeal.nD Cert.QuantKReferenceIdeal.τ Cert.QuantKReferenceIdeal.sig) → Buf (Elt Ideal) ℓ) : Prop :=
  ∀ c : Dev Cert.QuantKReferenceIdeal.nD,
    (Cert.Pre_finite_k.fn (F := Ideal) (m ((c.tc : Thread Cert.QuantKReferenceIdeal.nD Cert.QuantKReferenceIdeal.τ).loc Cert.QuantKReferenceIdeal.main_arg0))) = (fun _ => 1#1)

def Pre_QuantV (m : (ℓ : Loc Cert.QuantV.nD Cert.QuantV.τ Cert.QuantV.sig) → Buf (Elt Bits) ℓ) : Prop :=
  True

def Pre_QuantVIdeal (m : (ℓ : Loc Cert.QuantVIdeal.nD Cert.QuantVIdeal.τ Cert.QuantVIdeal.sig) → Buf (Elt Ideal) ℓ) : Prop :=
  True

def Pre_QuantVIdeal_finite_v [hPre_finite_v : Cert.Pre_finite_v.Facts] (m : (ℓ : Loc Cert.QuantVIdeal.nD Cert.QuantVIdeal.τ Cert.QuantVIdeal.sig) → Buf (Elt Ideal) ℓ) : Prop :=
  ∀ c : Dev Cert.QuantVIdeal.nD,
    (Cert.Pre_finite_v.fn (F := Ideal) (m ((c.tc : Thread Cert.QuantVIdeal.nD Cert.QuantVIdeal.τ).loc Cert.QuantVIdeal.main_arg0))) = (fun _ => 1#1)

def Pre_QuantVReferenceIdeal (m : (ℓ : Loc Cert.QuantVReferenceIdeal.nD Cert.QuantVReferenceIdeal.τ Cert.QuantVReferenceIdeal.sig) → Buf (Elt Ideal) ℓ) : Prop :=
  True

def Pre_QuantVReferenceIdeal_finite_v [hPre_finite_v : Cert.Pre_finite_v.Facts] (m : (ℓ : Loc Cert.QuantVReferenceIdeal.nD Cert.QuantVReferenceIdeal.τ Cert.QuantVReferenceIdeal.sig) → Buf (Elt Ideal) ℓ) : Prop :=
  ∀ c : Dev Cert.QuantVReferenceIdeal.nD,
    (Cert.Pre_finite_v.fn (F := Ideal) (m ((c.tc : Thread Cert.QuantVReferenceIdeal.nD Cert.QuantVReferenceIdeal.τ).loc Cert.QuantVReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXIdeal_pre_finite_x [hQuantXIdeal : Cert.QuantXIdeal.Facts] [hPre_finite_x : Cert.Pre_finite_x.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_finite_x m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXReferenceIdeal [hQuantXReferenceIdeal : Cert.QuantXReferenceIdeal.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0))
      ∧ r.2.sem = fun _ => 0)

def quiescent_QuantXReferenceIdeal_pre_finite_x [hQuantXReferenceIdeal : Cert.QuantXReferenceIdeal.Facts] [hPre_finite_x : Cert.Pre_finite_x.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal_finite_x m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0))
      ∧ r.2.sem = fun _ => 0)

def quiescent_QuantK [hQuantK : Cert.QuantK.Facts] : Prop :=
  ∀ (m : (ℓ : Loc Cert.QuantK.nD Cert.QuantK.τ Cert.QuantK.sig) → Buf (Elt Bits) ℓ) (g : Dev Cert.QuantK.nD → PrngReg), Pre_QuantK m →
    θ_run (Cert.QuantK.defs (F := Bits)) (onTc (τ := Cert.QuantK.τ) (Cert.QuantK.main (F := Bits))) ⟨m, fun _ => 0, g⟩ (fun r => (∀ c : Dev Cert.QuantK.nD,
      r.2.mem ((c.tc : Thread Cert.QuantK.nD Cert.QuantK.τ).loc Cert.QuantK.main_arg0) = m ((c.tc : Thread Cert.QuantK.nD Cert.QuantK.τ).loc Cert.QuantK.main_arg0))
      ∧ r.2.sem = fun _ => 0)

def quiescent_QuantKIdeal [hQuantKIdeal : Cert.QuantKIdeal.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_QuantKIdeal_pre_finite_k [hQuantKIdeal : Cert.QuantKIdeal.Facts] [hPre_finite_k : Cert.Pre_finite_k.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal_finite_k m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_QuantKReferenceIdeal [hQuantKReferenceIdeal : Cert.QuantKReferenceIdeal.Facts] : Prop :=
  ∀ (m : (ℓ : Loc Cert.QuantKReferenceIdeal.nD Cert.QuantKReferenceIdeal.τ Cert.QuantKReferenceIdeal.sig) → Buf (Elt Ideal) ℓ) (g : Dev Cert.QuantKReferenceIdeal.nD → PrngReg), Pre_QuantKReferenceIdeal m →
    θ_run (Cert.QuantKReferenceIdeal.defs (F := Ideal)) (onTc (τ := Cert.QuantKReferenceIdeal.τ) (Cert.QuantKReferenceIdeal.main (F := Ideal))) ⟨m, fun _ => 0, g⟩ (fun r => (∀ c : Dev Cert.QuantKReferenceIdeal.nD,
      r.2.mem ((c.tc : Thread Cert.QuantKReferenceIdeal.nD Cert.QuantKReferenceIdeal.τ).loc Cert.QuantKReferenceIdeal.main_arg0) = m ((c.tc : Thread Cert.QuantKReferenceIdeal.nD Cert.QuantKReferenceIdeal.τ).loc Cert.QuantKReferenceIdeal.main_arg0))
      ∧ r.2.sem = fun _ => 0)

def quiescent_QuantKReferenceIdeal_pre_finite_k [hQuantKReferenceIdeal : Cert.QuantKReferenceIdeal.Facts] [hPre_finite_k : Cert.Pre_finite_k.Facts] : Prop :=
  ∀ (m : (ℓ : Loc Cert.QuantKReferenceIdeal.nD Cert.QuantKReferenceIdeal.τ Cert.QuantKReferenceIdeal.sig) → Buf (Elt Ideal) ℓ) (g : Dev Cert.QuantKReferenceIdeal.nD → PrngReg), Pre_QuantKReferenceIdeal_finite_k m →
    θ_run (Cert.QuantKReferenceIdeal.defs (F := Ideal)) (onTc (τ := Cert.QuantKReferenceIdeal.τ) (Cert.QuantKReferenceIdeal.main (F := Ideal))) ⟨m, fun _ => 0, g⟩ (fun r => (∀ c : Dev Cert.QuantKReferenceIdeal.nD,
      r.2.mem ((c.tc : Thread Cert.QuantKReferenceIdeal.nD Cert.QuantKReferenceIdeal.τ).loc Cert.QuantKReferenceIdeal.main_arg0) = m ((c.tc : Thread Cert.QuantKReferenceIdeal.nD Cert.QuantKReferenceIdeal.τ).loc Cert.QuantKReferenceIdeal.main_arg0))
      ∧ r.2.sem = fun _ => 0)

def quiescent_QuantV [hQuantV : Cert.QuantV.Facts] : Prop :=
  ∀ (m : (ℓ : Loc Cert.QuantV.nD Cert.QuantV.τ Cert.QuantV.sig) → Buf (Elt Bits) ℓ) (g : Dev Cert.QuantV.nD → PrngReg), Pre_QuantV m →
    θ_run (Cert.QuantV.defs (F := Bits)) (onTc (τ := Cert.QuantV.τ) (Cert.QuantV.main (F := Bits))) ⟨m, fun _ => 0, g⟩ (fun r => (∀ c : Dev Cert.QuantV.nD,
      r.2.mem ((c.tc : Thread Cert.QuantV.nD Cert.QuantV.τ).loc Cert.QuantV.main_arg0) = m ((c.tc : Thread Cert.QuantV.nD Cert.QuantV.τ).loc Cert.QuantV.main_arg0))
      ∧ r.2.sem = fun _ => 0)

def quiescent_QuantVIdeal [hQuantVIdeal : Cert.QuantVIdeal.Facts] : Prop :=
  ∀ (m : (ℓ : Loc Cert.QuantVIdeal.nD Cert.QuantVIdeal.τ Cert.QuantVIdeal.sig) → Buf (Elt Ideal) ℓ) (g : Dev Cert.QuantVIdeal.nD → PrngReg), Pre_QuantVIdeal m →
    θ_run (Cert.QuantVIdeal.defs (F := Ideal)) (onTc (τ := Cert.QuantVIdeal.τ) (Cert.QuantVIdeal.main (F := Ideal))) ⟨m, fun _ => 0, g⟩ (fun r => (∀ c : Dev Cert.QuantVIdeal.nD,
      r.2.mem ((c.tc : Thread Cert.QuantVIdeal.nD Cert.QuantVIdeal.τ).loc Cert.QuantVIdeal.main_arg0) = m ((c.tc : Thread Cert.QuantVIdeal.nD Cert.QuantVIdeal.τ).loc Cert.QuantVIdeal.main_arg0))
      ∧ r.2.sem = fun _ => 0)

def quiescent_QuantVIdeal_pre_finite_v [hQuantVIdeal : Cert.QuantVIdeal.Facts] [hPre_finite_v : Cert.Pre_finite_v.Facts] : Prop :=
  ∀ (m : (ℓ : Loc Cert.QuantVIdeal.nD Cert.QuantVIdeal.τ Cert.QuantVIdeal.sig) → Buf (Elt Ideal) ℓ) (g : Dev Cert.QuantVIdeal.nD → PrngReg), Pre_QuantVIdeal_finite_v m →
    θ_run (Cert.QuantVIdeal.defs (F := Ideal)) (onTc (τ := Cert.QuantVIdeal.τ) (Cert.QuantVIdeal.main (F := Ideal))) ⟨m, fun _ => 0, g⟩ (fun r => (∀ c : Dev Cert.QuantVIdeal.nD,
      r.2.mem ((c.tc : Thread Cert.QuantVIdeal.nD Cert.QuantVIdeal.τ).loc Cert.QuantVIdeal.main_arg0) = m ((c.tc : Thread Cert.QuantVIdeal.nD Cert.QuantVIdeal.τ).loc Cert.QuantVIdeal.main_arg0))
      ∧ r.2.sem = fun _ => 0)

def quiescent_QuantVReferenceIdeal [hQuantVReferenceIdeal : Cert.QuantVReferenceIdeal.Facts] : Prop :=
  ∀ (m : (ℓ : Loc Cert.QuantVReferenceIdeal.nD Cert.QuantVReferenceIdeal.τ Cert.QuantVReferenceIdeal.sig) → Buf (Elt Ideal) ℓ) (g : Dev Cert.QuantVReferenceIdeal.nD → PrngReg), Pre_QuantVReferenceIdeal m →
    θ_run (Cert.QuantVReferenceIdeal.defs (F := Ideal)) (onTc (τ := Cert.QuantVReferenceIdeal.τ) (Cert.QuantVReferenceIdeal.main (F := Ideal))) ⟨m, fun _ => 0, g⟩ (fun r => (∀ c : Dev Cert.QuantVReferenceIdeal.nD,
      r.2.mem ((c.tc : Thread Cert.QuantVReferenceIdeal.nD Cert.QuantVReferenceIdeal.τ).loc Cert.QuantVReferenceIdeal.main_arg0) = m ((c.tc : Thread Cert.QuantVReferenceIdeal.nD Cert.QuantVReferenceIdeal.τ).loc Cert.QuantVReferenceIdeal.main_arg0))
      ∧ r.2.sem = fun _ => 0)

def quiescent_QuantVReferenceIdeal_pre_finite_v [hQuantVReferenceIdeal : Cert.QuantVReferenceIdeal.Facts] [hPre_finite_v : Cert.Pre_finite_v.Facts] : Prop :=
  ∀ (m : (ℓ : Loc Cert.QuantVReferenceIdeal.nD Cert.QuantVReferenceIdeal.τ Cert.QuantVReferenceIdeal.sig) → Buf (Elt Ideal) ℓ) (g : Dev Cert.QuantVReferenceIdeal.nD → PrngReg), Pre_QuantVReferenceIdeal_finite_v m →
    θ_run (Cert.QuantVReferenceIdeal.defs (F := Ideal)) (onTc (τ := Cert.QuantVReferenceIdeal.τ) (Cert.QuantVReferenceIdeal.main (F := Ideal))) ⟨m, fun _ => 0, g⟩ (fun r => (∀ c : Dev Cert.QuantVReferenceIdeal.nD,
      r.2.mem ((c.tc : Thread Cert.QuantVReferenceIdeal.nD Cert.QuantVReferenceIdeal.τ).loc Cert.QuantVReferenceIdeal.main_arg0) = m ((c.tc : Thread Cert.QuantVReferenceIdeal.nD Cert.QuantVReferenceIdeal.τ).loc Cert.QuantVReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_QuantX_QuantXIdeal : Prop :=
  True

def algebraic_QuantXIdeal_QuantXReferenceIdeal_pre_finite_x [hQuantXIdeal : Cert.QuantXIdeal.Facts] [hQuantXReferenceIdeal : Cert.QuantXReferenceIdeal.Facts] [hPre_finite_x : Cert.Pre_finite_x.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXReferenceIdeal.nD Cert.QuantXReferenceIdeal.τ Cert.QuantXReferenceIdeal.sig) → Buf (Elt Ideal) ℓ) (g' : Dev Cert.QuantXReferenceIdeal.nD → PrngReg), Pre_QuantXIdeal_finite_x m →
    (∀ c : Dev Cert.QuantXIdeal.nD,
      m' ((c.tc : Thread Cert.QuantXReferenceIdeal.nD Cert.QuantXReferenceIdeal.τ).loc Cert.QuantXReferenceIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v0_0)) (v1 : (c : Dev Cert.QuantXIdeal.nD) → Buf (Elt Ideal) ((c.tc : Thread Cert.QuantXIdeal.nD Cert.QuantXIdeal.τ).loc Cert.QuantXIdeal.main_v0_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_0) = v0 c
          ∧ r.2.mem ((c.tc : Thread Cert.QuantXIdeal.nD Cert.QuantXIdeal.τ).loc Cert.QuantXIdeal.main_v0_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantXReferenceIdeal.defs (F := Ideal)) (onTc (τ := Cert.QuantXReferenceIdeal.τ) (Cert.QuantXReferenceIdeal.main (F := Ideal))) ⟨m', fun _ => 0, g'⟩ (fun r => ∀ c : Dev Cert.QuantXReferenceIdeal.nD,
          r.2.mem ((c.tc : Thread Cert.QuantXReferenceIdeal.nD Cert.QuantXReferenceIdeal.τ).loc Cert.QuantXReferenceIdeal.main_v0_0) = v0 c
          ∧ r.2.mem ((c.tc : Thread Cert.QuantXReferenceIdeal.nD Cert.QuantXReferenceIdeal.τ).loc Cert.QuantXReferenceIdeal.main_v0_1) = v1 c
          ∧ r.2.mem ((c.tc : Thread Cert.QuantXReferenceIdeal.nD Cert.QuantXReferenceIdeal.τ).loc Cert.QuantXReferenceIdeal.main_arg0) = m' ((c.tc : Thread Cert.QuantXReferenceIdeal.nD Cert.QuantXReferenceIdeal.τ).loc Cert.QuantXReferenceIdeal.main_arg0))

def preserves_QuantK_QuantKIdeal : Prop :=
  True

def algebraic_QuantKIdeal_QuantKReferenceIdeal_pre_finite_k [hQuantKIdeal : Cert.QuantKIdeal.Facts] [hQuantKReferenceIdeal : Cert.QuantKReferenceIdeal.Facts] [hPre_finite_k : Cert.Pre_finite_k.Facts] : Prop :=
  ∀ (m : (ℓ : Loc Cert.QuantKIdeal.nD Cert.QuantKIdeal.τ Cert.QuantKIdeal.sig) → Buf (Elt Ideal) ℓ) (g : Dev Cert.QuantKIdeal.nD → PrngReg)
    (m' : (ℓ : Loc Cert.QuantKReferenceIdeal.nD Cert.QuantKReferenceIdeal.τ Cert.QuantKReferenceIdeal.sig) → Buf (Elt Ideal) ℓ) (g' : Dev Cert.QuantKReferenceIdeal.nD → PrngReg), Pre_QuantKIdeal_finite_k m →
    (∀ c : Dev Cert.QuantKIdeal.nD,
      m' ((c.tc : Thread Cert.QuantKReferenceIdeal.nD Cert.QuantKReferenceIdeal.τ).loc Cert.QuantKReferenceIdeal.main_arg0) = m ((c.tc : Thread Cert.QuantKIdeal.nD Cert.QuantKIdeal.τ).loc Cert.QuantKIdeal.main_arg0)) →
    ∃ (v0 : (c : Dev Cert.QuantKIdeal.nD) → Buf (Elt Ideal) ((c.tc : Thread Cert.QuantKIdeal.nD Cert.QuantKIdeal.τ).loc Cert.QuantKIdeal.main_v0_0)) (v1 : (c : Dev Cert.QuantKIdeal.nD) → Buf (Elt Ideal) ((c.tc : Thread Cert.QuantKIdeal.nD Cert.QuantKIdeal.τ).loc Cert.QuantKIdeal.main_v0_1)) (v2 : (c : Dev Cert.QuantKIdeal.nD) → Buf (Elt Ideal) ((c.tc : Thread Cert.QuantKIdeal.nD Cert.QuantKIdeal.τ).loc Cert.QuantKIdeal.main_v0_2)),
      θ_run (Cert.QuantKIdeal.defs (F := Ideal)) (onTc (τ := Cert.QuantKIdeal.τ) (Cert.QuantKIdeal.main (F := Ideal))) ⟨m, fun _ => 0, g⟩ (fun r => ∀ c : Dev Cert.QuantKIdeal.nD,
          r.2.mem ((c.tc : Thread Cert.QuantKIdeal.nD Cert.QuantKIdeal.τ).loc Cert.QuantKIdeal.main_v0_0) = v0 c
          ∧ r.2.mem ((c.tc : Thread Cert.QuantKIdeal.nD Cert.QuantKIdeal.τ).loc Cert.QuantKIdeal.main_v0_1) = v1 c
          ∧ r.2.mem ((c.tc : Thread Cert.QuantKIdeal.nD Cert.QuantKIdeal.τ).loc Cert.QuantKIdeal.main_v0_2) = v2 c
          ∧ r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ θ_run (Cert.QuantKReferenceIdeal.defs (F := Ideal)) (onTc (τ := Cert.QuantKReferenceIdeal.τ) (Cert.QuantKReferenceIdeal.main (F := Ideal))) ⟨m', fun _ => 0, g'⟩ (fun r => ∀ c : Dev Cert.QuantKReferenceIdeal.nD,
          r.2.mem ((c.tc : Thread Cert.QuantKReferenceIdeal.nD Cert.QuantKReferenceIdeal.τ).loc Cert.QuantKReferenceIdeal.main_v0_0) = v0 c
          ∧ r.2.mem ((c.tc : Thread Cert.QuantKReferenceIdeal.nD Cert.QuantKReferenceIdeal.τ).loc Cert.QuantKReferenceIdeal.main_v0_1) = v1 c
          ∧ r.2.mem ((c.tc : Thread Cert.QuantKReferenceIdeal.nD Cert.QuantKReferenceIdeal.τ).loc Cert.QuantKReferenceIdeal.main_v0_2) = v2 c
          ∧ r.2.mem ((c.tc : Thread Cert.QuantKReferenceIdeal.nD Cert.QuantKReferenceIdeal.τ).loc Cert.QuantKReferenceIdeal.main_arg0) = m' ((c.tc : Thread Cert.QuantKReferenceIdeal.nD Cert.QuantKReferenceIdeal.τ).loc Cert.QuantKReferenceIdeal.main_arg0))

def preserves_QuantV_QuantVIdeal : Prop :=
  True

def algebraic_QuantVIdeal_QuantVReferenceIdeal_pre_finite_v [hQuantVIdeal : Cert.QuantVIdeal.Facts] [hQuantVReferenceIdeal : Cert.QuantVReferenceIdeal.Facts] [hPre_finite_v : Cert.Pre_finite_v.Facts] : Prop :=
  ∀ (m : (ℓ : Loc Cert.QuantVIdeal.nD Cert.QuantVIdeal.τ Cert.QuantVIdeal.sig) → Buf (Elt Ideal) ℓ) (g : Dev Cert.QuantVIdeal.nD → PrngReg)
    (m' : (ℓ : Loc Cert.QuantVReferenceIdeal.nD Cert.QuantVReferenceIdeal.τ Cert.QuantVReferenceIdeal.sig) → Buf (Elt Ideal) ℓ) (g' : Dev Cert.QuantVReferenceIdeal.nD → PrngReg), Pre_QuantVIdeal_finite_v m →
    (∀ c : Dev Cert.QuantVIdeal.nD,
      m' ((c.tc : Thread Cert.QuantVReferenceIdeal.nD Cert.QuantVReferenceIdeal.τ).loc Cert.QuantVReferenceIdeal.main_arg0) = m ((c.tc : Thread Cert.QuantVIdeal.nD Cert.QuantVIdeal.τ).loc Cert.QuantVIdeal.main_arg0)) →
    ∃ (v0 : (c : Dev Cert.QuantVIdeal.nD) → Buf (Elt Ideal) ((c.tc : Thread Cert.QuantVIdeal.nD Cert.QuantVIdeal.τ).loc Cert.QuantVIdeal.main_v0_0)) (v1 : (c : Dev Cert.QuantVIdeal.nD) → Buf (Elt Ideal) ((c.tc : Thread Cert.QuantVIdeal.nD Cert.QuantVIdeal.τ).loc Cert.QuantVIdeal.main_v0_1)) (v2 : (c : Dev Cert.QuantVIdeal.nD) → Buf (Elt Ideal) ((c.tc : Thread Cert.QuantVIdeal.nD Cert.QuantVIdeal.τ).loc Cert.QuantVIdeal.main_v0_2)),
      θ_run (Cert.QuantVIdeal.defs (F := Ideal)) (onTc (τ := Cert.QuantVIdeal.τ) (Cert.QuantVIdeal.main (F := Ideal))) ⟨m, fun _ => 0, g⟩ (fun r => ∀ c : Dev Cert.QuantVIdeal.nD,
          r.2.mem ((c.tc : Thread Cert.QuantVIdeal.nD Cert.QuantVIdeal.τ).loc Cert.QuantVIdeal.main_v0_0) = v0 c
          ∧ r.2.mem ((c.tc : Thread Cert.QuantVIdeal.nD Cert.QuantVIdeal.τ).loc Cert.QuantVIdeal.main_v0_1) = v1 c
          ∧ r.2.mem ((c.tc : Thread Cert.QuantVIdeal.nD Cert.QuantVIdeal.τ).loc Cert.QuantVIdeal.main_v0_2) = v2 c
          ∧ r.2.mem ((c.tc : Thread Cert.QuantVIdeal.nD Cert.QuantVIdeal.τ).loc Cert.QuantVIdeal.main_arg0) = m ((c.tc : Thread Cert.QuantVIdeal.nD Cert.QuantVIdeal.τ).loc Cert.QuantVIdeal.main_arg0))
      ∧ θ_run (Cert.QuantVReferenceIdeal.defs (F := Ideal)) (onTc (τ := Cert.QuantVReferenceIdeal.τ) (Cert.QuantVReferenceIdeal.main (F := Ideal))) ⟨m', fun _ => 0, g'⟩ (fun r => ∀ c : Dev Cert.QuantVReferenceIdeal.nD,
          r.2.mem ((c.tc : Thread Cert.QuantVReferenceIdeal.nD Cert.QuantVReferenceIdeal.τ).loc Cert.QuantVReferenceIdeal.main_v0_0) = v0 c
          ∧ r.2.mem ((c.tc : Thread Cert.QuantVReferenceIdeal.nD Cert.QuantVReferenceIdeal.τ).loc Cert.QuantVReferenceIdeal.main_v0_1) = v1 c
          ∧ r.2.mem ((c.tc : Thread Cert.QuantVReferenceIdeal.nD Cert.QuantVReferenceIdeal.τ).loc Cert.QuantVReferenceIdeal.main_v0_2) = v2 c
          ∧ r.2.mem ((c.tc : Thread Cert.QuantVReferenceIdeal.nD Cert.QuantVReferenceIdeal.τ).loc Cert.QuantVReferenceIdeal.main_arg0) = m' ((c.tc : Thread Cert.QuantVReferenceIdeal.nD Cert.QuantVReferenceIdeal.τ).loc Cert.QuantVReferenceIdeal.main_arg0))

def Claim : Prop :=
  ∃ (hKernel : Cert.Kernel.Facts) (hKernelIdeal : Cert.KernelIdeal.Facts) (hReferenceIdeal : Cert.ReferenceIdeal.Facts) (hQuantX : Cert.QuantX.Facts) (hQuantXIdeal : Cert.QuantXIdeal.Facts) (hQuantXReferenceIdeal : Cert.QuantXReferenceIdeal.Facts) (hQuantK : Cert.QuantK.Facts) (hQuantKIdeal : Cert.QuantKIdeal.Facts) (hQuantKReferenceIdeal : Cert.QuantKReferenceIdeal.Facts) (hQuantV : Cert.QuantV.Facts) (hQuantVIdeal : Cert.QuantVIdeal.Facts) (hQuantVReferenceIdeal : Cert.QuantVReferenceIdeal.Facts) (hPre_finite_x : Cert.Pre_finite_x.Facts) (hPre_finite_k : Cert.Pre_finite_k.Facts) (hPre_finite_v : Cert.Pre_finite_v.Facts),
    quiescent_Kernel (hKernel := hKernel)
    ∧ quiescent_KernelIdeal (hKernelIdeal := hKernelIdeal)
    ∧ quiescent_ReferenceIdeal (hReferenceIdeal := hReferenceIdeal)
    ∧ quiescent_QuantX (hQuantX := hQuantX)
    ∧ quiescent_QuantXIdeal (hQuantXIdeal := hQuantXIdeal)
    ∧ quiescent_QuantXIdeal_pre_finite_x (hQuantXIdeal := hQuantXIdeal) (hPre_finite_x := hPre_finite_x)
    ∧ quiescent_QuantXReferenceIdeal (hQuantXReferenceIdeal := hQuantXReferenceIdeal)
    ∧ quiescent_QuantXReferenceIdeal_pre_finite_x (hQuantXReferenceIdeal := hQuantXReferenceIdeal) (hPre_finite_x := hPre_finite_x)
    ∧ quiescent_QuantK (hQuantK := hQuantK)
    ∧ quiescent_QuantKIdeal (hQuantKIdeal := hQuantKIdeal)
    ∧ quiescent_QuantKIdeal_pre_finite_k (hQuantKIdeal := hQuantKIdeal) (hPre_finite_k := hPre_finite_k)
    ∧ quiescent_QuantKReferenceIdeal (hQuantKReferenceIdeal := hQuantKReferenceIdeal)
    ∧ quiescent_QuantKReferenceIdeal_pre_finite_k (hQuantKReferenceIdeal := hQuantKReferenceIdeal) (hPre_finite_k := hPre_finite_k)
    ∧ quiescent_QuantV (hQuantV := hQuantV)
    ∧ quiescent_QuantVIdeal (hQuantVIdeal := hQuantVIdeal)
    ∧ quiescent_QuantVIdeal_pre_finite_v (hQuantVIdeal := hQuantVIdeal) (hPre_finite_v := hPre_finite_v)
    ∧ quiescent_QuantVReferenceIdeal (hQuantVReferenceIdeal := hQuantVReferenceIdeal)
    ∧ quiescent_QuantVReferenceIdeal_pre_finite_v (hQuantVReferenceIdeal := hQuantVReferenceIdeal) (hPre_finite_v := hPre_finite_v)
    ∧ preserves_Kernel_KernelIdeal
    ∧ algebraic_KernelIdeal_ReferenceIdeal (hKernelIdeal := hKernelIdeal) (hReferenceIdeal := hReferenceIdeal)
    ∧ preserves_QuantX_QuantXIdeal
    ∧ algebraic_QuantXIdeal_QuantXReferenceIdeal_pre_finite_x (hQuantXIdeal := hQuantXIdeal) (hQuantXReferenceIdeal := hQuantXReferenceIdeal) (hPre_finite_x := hPre_finite_x)
    ∧ preserves_QuantK_QuantKIdeal
    ∧ algebraic_QuantKIdeal_QuantKReferenceIdeal_pre_finite_k (hQuantKIdeal := hQuantKIdeal) (hQuantKReferenceIdeal := hQuantKReferenceIdeal) (hPre_finite_k := hPre_finite_k)
    ∧ preserves_QuantV_QuantVIdeal
    ∧ algebraic_QuantVIdeal_QuantVReferenceIdeal_pre_finite_v (hQuantVIdeal := hQuantVIdeal) (hQuantVReferenceIdeal := hQuantVReferenceIdeal) (hPre_finite_v := hPre_finite_v)
-- ==== Pre_finite_k.lean ====
abbrev S2x32768x512 : Shape := ⟨3, ![2, 32768, 512]⟩
abbrev S_ : Shape := ⟨0, ![]⟩

class Facts : Prop where
  bitsLt_bf16_f32 : FTy.bits .bf16 < FTy.bits .f32
  bcast_S_S2x32768x512 : S_.BroadcastsInDim S2x32768x512 (![] : Fin 0 → Fin S2x32768x512.rank)
  reducesTo_S2x32768x512_S_d0_1_2 : S2x32768x512.ReducesTo [0, 1, 2] S_
  h_S_ : 0 < S_.numel

variable [Facts]

def fn {F : FTy → Type} [FloatOps F] (main_arg0 : FVec F S2x32768x512 .bf16) : IVec S_ 1 :=
  let main_v0 : FVec F S2x32768x512 .f32 := (extf .f32 · bitsLt_bf16_f32) main_arg0
  let main_v1 : FVec F S2x32768x512 .f32 := Host.absf main_v0
  let main_cst : FVec F S_ .f32 := constant S_ .f32 0x7F7F0000#32
  let main_v2 : FVec F S2x32768x512 .f32 := broadcastInDim S2x32768x512 ![] bcast_S_S2x32768x512 main_cst
  let main_v3 : IVec S2x32768x512 1 := cmpf .ole main_v1 main_v2
  let main_c : IVec S_ 1 := constantI S_ 1 1#1
  let main_v4 : IVec S_ 1 := (fun x v => Host.reduce IntOp.andi x v reducesTo_S2x32768x512_S_d0_1_2 h_S_) main_v3 main_c
  main_v4
-- ==== Pre_finite_v.lean ====
abbrev S2x32768x512 : Shape := ⟨3, ![2, 32768, 512]⟩
abbrev S_ : Shape := ⟨0, ![]⟩

class Facts : Prop where
  bitsLt_bf16_f32 : FTy.bits .bf16 < FTy.bits .f32
  bcast_S_S2x32768x512 : S_.BroadcastsInDim S2x32768x512 (![] : Fin 0 → Fin S2x32768x512.rank)
  reducesTo_S2x32768x512_S_d0_1_2 : S2x32768x512.ReducesTo [0, 1, 2] S_
  h_S_ : 0 < S_.numel

variable [Facts]

def fn {F : FTy → Type} [FloatOps F] (main_arg0 : FVec F S2x32768x512 .bf16) : IVec S_ 1 :=
  let main_v0 : FVec F S2x32768x512 .f32 := (extf .f32 · bitsLt_bf16_f32) main_arg0
  let main_v1 : FVec F S2x32768x512 .f32 := Host.absf main_v0
  let main_cst : FVec F S_ .f32 := constant S_ .f32 0x7F7F0000#32
  let main_v2 : FVec F S2x32768x512 .f32 := broadcastInDim S2x32768x512 ![] bcast_S_S2x32768x512 main_cst
  let main_v3 : IVec S2x32768x512 1 := cmpf .ole main_v1 main_v2
  let main_c : IVec S_ 1 := constantI S_ 1 1#1
  let main_v4 : IVec S_ 1 := (fun x v => Host.reduce IntOp.andi x v reducesTo_S2x32768x512_S_d0_1_2 h_S_) main_v3 main_c
  main_v4
-- ==== Pre_finite_x.lean ====
abbrev S2x32768x2048 : Shape := ⟨3, ![2, 32768, 2048]⟩
abbrev S_ : Shape := ⟨0, ![]⟩

class Facts : Prop where
  bitsLt_bf16_f32 : FTy.bits .bf16 < FTy.bits .f32
  bcast_S_S2x32768x2048 : S_.BroadcastsInDim S2x32768x2048 (![] : Fin 0 → Fin S2x32768x2048.rank)
  reducesTo_S2x32768x2048_S_d0_1_2 : S2x32768x2048.ReducesTo [0, 1, 2] S_
  h_S_ : 0 < S_.numel

variable [Facts]

def fn {F : FTy → Type} [FloatOps F] (main_arg0 : FVec F S2x32768x2048 .bf16) : IVec S_ 1 :=
  let main_v0 : FVec F S2x32768x2048 .f32 := (extf .f32 · bitsLt_bf16_f32) main_arg0
  let main_v1 : FVec F S2x32768x2048 .f32 := Host.absf main_v0
  let main_cst : FVec F S_ .f32 := constant S_ .f32 0x7F7F0000#32
  let main_v2 : FVec F S2x32768x2048 .f32 := broadcastInDim S2x32768x2048 ![] bcast_S_S2x32768x2048 main_cst
  let main_v3 : IVec S2x32768x2048 1 := cmpf .ole main_v1 main_v2
  let main_c : IVec S_ 1 := constantI S_ 1 1#1
  let main_v4 : IVec S_ 1 := (fun x v => Host.reduce IntOp.andi x v reducesTo_S2x32768x2048_S_d0_1_2 h_S_) main_v3 main_c
  main_v4
-- ==== Kernel.lean ====
abbrev S2x256x16 : Shape := ⟨3, ![2, 256, 16]⟩
abbrev S2x256x4 : Shape := ⟨3, ![2, 256, 4]⟩
abbrev S2x32768x2048 : Shape := ⟨3, ![2, 32768, 2048]⟩
abbrev S2x4x32768x128 : Shape := ⟨4, ![2, 4, 32768, 128]⟩
abbrev S2x4x256x128x128 : Shape := ⟨5, ![2, 4, 256, 128, 128]⟩
abbrev S8192 : Shape := ⟨1, ![8192]⟩
abbrev S2048 : Shape := ⟨1, ![2048]⟩
abbrev S1x128x512 : Shape := ⟨3, ![1, 128, 512]⟩
abbrev S1x1x32768x128 : Shape := ⟨4, ![1, 1, 32768, 128]⟩
abbrev S1x1x256x128x128 : Shape := ⟨5, ![1, 1, 256, 128, 128]⟩
abbrev S4224x512 : Shape := ⟨2, ![4224, 512]⟩
abbrev S264x512 : Shape := ⟨2, ![264, 512]⟩
abbrev S40x512 : Shape := ⟨2, ![40, 512]⟩
abbrev S128x512 : Shape := ⟨2, ![128, 512]⟩
abbrev S1x128x128 : Shape := ⟨3, ![1, 128, 128]⟩
abbrev S128x128 : Shape := ⟨2, ![128, 128]⟩
abbrev S512x128 : Shape := ⟨2, ![512, 128]⟩
abbrev S1 : Shape := ⟨1, ![1]⟩
abbrev S1x128 : Shape := ⟨2, ![1, 128]⟩
abbrev S1x512 : Shape := ⟨2, ![1, 512]⟩
abbrev S1x1x128x128 : Shape := ⟨4, ![1, 1, 128, 128]⟩
abbrev S16x8x512 : Shape := ⟨3, ![16, 8, 512]⟩
abbrev S8x512 : Shape := ⟨2, ![8, 512]⟩
abbrev S512 : Shape := ⟨1, ![512]⟩
abbrev S33x8x512 : Shape := ⟨3, ![33, 8, 512]⟩
abbrev S33x512 : Shape := ⟨2, ![33, 512]⟩
abbrev S33x128 : Shape := ⟨2, ![33, 128]⟩
abbrev S33 : Shape := ⟨1, ![33]⟩
abbrev S33x1 : Shape := ⟨2, ![33, 1]⟩
abbrev S33x254 : Shape := ⟨2, ![33, 254]⟩
abbrev S1x1x1x128x128 : Shape := ⟨5, ![1, 1, 1, 128, 128]⟩

abbrev nBuf : Space → Nat
  | .hbm => 10
  | .vmem => 13
  | .smem => 3
  | _ => 0

abbrev bufTy : (tb : Table) → Fin (tcTables nBuf tb) → BufTy
  | .hbm, ⟨0, _⟩ => ⟨S2x256x16, .f32⟩
  | .hbm, ⟨1, _⟩ => ⟨S2x256x4, .f32⟩
  | .hbm, ⟨2, _⟩ => ⟨S2x256x4, .f32⟩
  | .hbm, ⟨3, _⟩ => ⟨S2x32768x2048, .fp8e4m3⟩
  | .hbm, ⟨4, _⟩ => ⟨S2x4x32768x128, .fp8e4m3⟩
  | .hbm, ⟨5, _⟩ => ⟨S2x4x256x128x128, .fp8e4m3⟩
  | .hbm, ⟨6, _⟩ => ⟨S8192, .f32⟩
  | .hbm, ⟨7, _⟩ => ⟨S2048, .f32⟩
  | .hbm, ⟨8, _⟩ => ⟨S2048, .f32⟩
  | .hbm, ⟨9, _⟩ => ⟨S2x32768x2048, .bf16⟩
  | .local _ .vmem, ⟨0, _⟩ => ⟨S1x128x512, .fp8e4m3⟩
  | .local _ .vmem, ⟨1, _⟩ => ⟨S1x128x512, .fp8e4m3⟩
  | .local _ .vmem, ⟨2, _⟩ => ⟨S1x1x32768x128, .fp8e4m3⟩
  | .local _ .vmem, ⟨3, _⟩ => ⟨S1x1x32768x128, .fp8e4m3⟩
  | .local _ .vmem, ⟨4, _⟩ => ⟨S1x1x256x128x128, .fp8e4m3⟩
  | .local _ .vmem, ⟨5, _⟩ => ⟨S1x1x256x128x128, .fp8e4m3⟩
  | .local _ .vmem, ⟨6, _⟩ => ⟨S1x128x512, .bf16⟩
  | .local _ .vmem, ⟨7, _⟩ => ⟨S1x128x512, .bf16⟩
  | .local _ .vmem, ⟨8, _⟩ => ⟨S4224x512, .f32⟩
  | .local _ .vmem, ⟨9, _⟩ => ⟨S264x512, .f32⟩
  | .local _ .vmem, ⟨10, _⟩ => ⟨S40x512, .f32⟩
  | .local _ .vmem, ⟨11, _⟩ => ⟨S40x512, .f32⟩
  | .local _ .vmem, ⟨12, _⟩ => ⟨S128x512, .f32⟩
  | .local _ .smem, ⟨0, _⟩ => ⟨S8192, .f32⟩
  | .local _ .smem, ⟨1, _⟩ => ⟨S2048, .f32⟩
  | .local _ .smem, ⟨2, _⟩ => ⟨S2048, .f32⟩
  | _, _ => ⟨S2x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 4, 256], ![false, false, false]⟩

def k0_off1 (i : grid0.Coords) (c0_i32_8 : BitVec 32) : Fin 1 → Nat :=
  let arg0 : BitVec 32 := BitVec.ofNat 32 (i 0).val
  let c256_i32 : BitVec 32 := 256#32
  let v11 : BitVec 32 := Scalar.muli arg0 c256_i32
  let arg2 : BitVec 32 := BitVec.ofNat 32 (i 2).val
  let v12 : BitVec 32 := Scalar.addi v11 arg2
  let c16_i32 : BitVec 32 := 16#32
  let v13 : BitVec 32 := Scalar.muli v12 c16_i32
  let arg1 : BitVec 32 := BitVec.ofNat 32 (i 1).val
  let c4_i32 : BitVec 32 := 4#32
  let v14 : BitVec 32 := Scalar.muli arg1 c4_i32
  let v15 : BitVec 32 := Scalar.addi v13 v14
  let v16 : BitVec 32 := Scalar.addi v15 c0_i32_8
  let v17 : Index := Scalar.indexCast v16
  ![v17.toNat]
def k0_cond2 (i : grid0.Coords) : BitVec 1 :=
  let arg2 : BitVec 32 := BitVec.ofNat 32 (i 2).val
  let c32_i32_11 : BitVec 32 := 32#32
  let v38 : BitVec 1 := Scalar.cmpi .sge arg2 c32_i32_11
  let v39 : BitVec 32 := Scalar.extui v38
  let c0_i32_12 : BitVec 32 := 0#32
  let v40 : BitVec 1 := Scalar.cmpi .ne v39 c0_i32_12
  v40

def k0_off2 (i : grid0.Coords) : Fin 4 → Nat :=
  let c0_132 : Index := 0#32
  let c0_133 : Index := 0#32
  let arg2 : BitVec 32 := BitVec.ofNat 32 (i 2).val
  let c32_i32_128 : BitVec 32 := 32#32
  let v313 : BitVec 32 := Scalar.subi arg2 c32_i32_128
  let c0_i32_129 : BitVec 32 := 0#32
  let v314 : BitVec 32 := Scalar.addi v313 c0_i32_129
  let c0_i32_130 : BitVec 32 := 0#32
  let v315 : BitVec 32 := Scalar.maxsi v314 c0_i32_130
  let c128_i32_131 : BitVec 32 := 128#32
  let v316 : BitVec 32 := Scalar.muli v315 c128_i32_131
  let v317 : Index := Scalar.indexCast v316
  let c0_134 : Index := 0#32
  ![0, 0, v317.toNat, 0]
def k0_off3 (i : grid0.Coords) : Fin 1 → Nat :=
  let arg0 : BitVec 32 := BitVec.ofNat 32 (i 0).val
  let c256_i32_136 : BitVec 32 := 256#32
  let v321 : BitVec 32 := Scalar.muli arg0 c256_i32_136
  let arg2 : BitVec 32 := BitVec.ofNat 32 (i 2).val
  let c32_i32_128 : BitVec 32 := 32#32
  let v313 : BitVec 32 := Scalar.subi arg2 c32_i32_128
  let c0_i32_129 : BitVec 32 := 0#32
  let v314 : BitVec 32 := Scalar.addi v313 c0_i32_129
  let c0_i32_130 : BitVec 32 := 0#32
  let v315 : BitVec 32 := Scalar.maxsi v314 c0_i32_130
  let v322 : BitVec 32 := Scalar.addi v321 v315
  let c4_i32_137 : BitVec 32 := 4#32
  let v323 : BitVec 32 := Scalar.muli v322 c4_i32_137
  let arg1 : BitVec 32 := BitVec.ofNat 32 (i 1).val
  let v324 : BitVec 32 := Scalar.addi v323 arg1
  let v325 : Index := Scalar.indexCast v324
  ![v325.toNat]
@[reducible] def k0_t1_loop (i : grid0.Coords) : Scf.Loop 32 :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let c1_i32_17 : BitVec 32 := 1#32
  ⟨v41, v46, c1_i32_17⟩
def k0_off4 (i : grid0.Coords) (k0_t1 : Fin (k0_t1_loop i).trips) : Fin 4 → Nat :=
  let c0_131 : Index := 0#32
  let c0_132 : Index := 0#32
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c1_i32_17 : BitVec 32 := 1#32
  let arg15 : BitVec 32 := Scf.iv v41 c1_i32_17 k0_t1
  let v313 : BitVec 32 := Scalar.addi v312 arg15
  let c0_i32_129 : BitVec 32 := 0#32
  let v314 : BitVec 32 := Scalar.maxsi v313 c0_i32_129
  let c128_i32_130 : BitVec 32 := 128#32
  let v315 : BitVec 32 := Scalar.muli v314 c128_i32_130
  let v316 : Index := Scalar.indexCast v315
  let c0_133 : Index := 0#32
  ![0, 0, v316.toNat, 0]
def k0_off5 (i : grid0.Coords) (k0_t1 : Fin (k0_t1_loop i).trips) : Fin 1 → Nat :=
  let arg0 : BitVec 32 := BitVec.ofNat 32 (i 0).val
  let c256_i32_135 : BitVec 32 := 256#32
  let v320 : BitVec 32 := Scalar.muli arg0 c256_i32_135
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c1_i32_17 : BitVec 32 := 1#32
  let arg15 : BitVec 32 := Scf.iv v41 c1_i32_17 k0_t1
  let v313 : BitVec 32 := Scalar.addi v312 arg15
  let c0_i32_129 : BitVec 32 := 0#32
  let v314 : BitVec 32 := Scalar.maxsi v313 c0_i32_129
  let v321 : BitVec 32 := Scalar.addi v320 v314
  let c4_i32_136 : BitVec 32 := 4#32
  let v322 : BitVec 32 := Scalar.muli v321 c4_i32_136
  let arg1 : BitVec 32 := BitVec.ofNat 32 (i 1).val
  let v323 : BitVec 32 := Scalar.addi v322 arg1
  let v324 : Index := Scalar.indexCast v323
  ![v324.toNat]
def k0_off6 (i : grid0.Coords) (k0_t1 : Fin (k0_t1_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c1_i32_17 : BitVec 32 := 1#32
  let arg15 : BitVec 32 := Scf.iv v41 c1_i32_17 k0_t1
  let c128_i32_138 : BitVec 32 := 128#32
  let v332 : BitVec 32 := Scalar.muli arg15 c128_i32_138
  let v333 : Index := Scalar.indexCast v332
  let c0_139 : Index := 0#32
  ![v333.toNat, 0]
def k0_off7 (i : grid0.Coords) (k0_t1 : Fin (k0_t1_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c1_i32_17 : BitVec 32 := 1#32
  let arg15 : BitVec 32 := Scf.iv v41 c1_i32_17 k0_t1
  let c8_i32 : BitVec 32 := 8#32
  let v339 : BitVec 32 := Scalar.muli arg15 c8_i32
  let v340 : Index := Scalar.indexCast v339
  let c0_141 : Index := 0#32
  ![v340.toNat, 0]
@[reducible] def k0_t2_loop (i : grid0.Coords) : Scf.Loop 32 :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let v43 : BitVec 32 := Scalar.addi v41 v42
  let c1_i32_18 : BitVec 32 := 1#32
  ⟨v46, v43, c1_i32_18⟩
def k0_off8 (i : grid0.Coords) (k0_t2 : Fin (k0_t2_loop i).trips) : Fin 4 → Nat :=
  let c0_131 : Index := 0#32
  let c0_132 : Index := 0#32
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let c1_i32_18 : BitVec 32 := 1#32
  let arg15 : BitVec 32 := Scf.iv v46 c1_i32_18 k0_t2
  let v313 : BitVec 32 := Scalar.addi v312 arg15
  let c0_i32_129 : BitVec 32 := 0#32
  let v314 : BitVec 32 := Scalar.maxsi v313 c0_i32_129
  let c128_i32_130 : BitVec 32 := 128#32
  let v315 : BitVec 32 := Scalar.muli v314 c128_i32_130
  let v316 : Index := Scalar.indexCast v315
  let c0_133 : Index := 0#32
  ![0, 0, v316.toNat, 0]
def k0_off9 (i : grid0.Coords) (k0_t2 : Fin (k0_t2_loop i).trips) : Fin 1 → Nat :=
  let arg0 : BitVec 32 := BitVec.ofNat 32 (i 0).val
  let c256_i32_135 : BitVec 32 := 256#32
  let v320 : BitVec 32 := Scalar.muli arg0 c256_i32_135
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let c1_i32_18 : BitVec 32 := 1#32
  let arg15 : BitVec 32 := Scf.iv v46 c1_i32_18 k0_t2
  let v313 : BitVec 32 := Scalar.addi v312 arg15
  let c0_i32_129 : BitVec 32 := 0#32
  let v314 : BitVec 32 := Scalar.maxsi v313 c0_i32_129
  let v321 : BitVec 32 := Scalar.addi v320 v314
  let c4_i32_136 : BitVec 32 := 4#32
  let v322 : BitVec 32 := Scalar.muli v321 c4_i32_136
  let arg1 : BitVec 32 := BitVec.ofNat 32 (i 1).val
  let v323 : BitVec 32 := Scalar.addi v322 arg1
  let v324 : Index := Scalar.indexCast v323
  ![v324.toNat]
def k0_off10 (i : grid0.Coords) (k0_t2 : Fin (k0_t2_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let c1_i32_18 : BitVec 32 := 1#32
  let arg15 : BitVec 32 := Scf.iv v46 c1_i32_18 k0_t2
  let c128_i32_138 : BitVec 32 := 128#32
  let v332 : BitVec 32 := Scalar.muli arg15 c128_i32_138
  let v333 : Index := Scalar.indexCast v332
  let c0_139 : Index := 0#32
  ![v333.toNat, 0]
def k0_off11 (i : grid0.Coords) (k0_t2 : Fin (k0_t2_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_13 : BitVec 32 := 1#32
  let v41 : BitVec 32 := Scalar.maxsi v1 c1_i32_13
  let c32_i32_15 : BitVec 32 := 32#32
  let v42 : BitVec 32 := Scalar.subi c32_i32_15 v41
  let c1_i32_16 : BitVec 32 := 1#32
  let v44 : BitVec 32 := Scalar.divsi v42 c1_i32_16
  let v45 : BitVec 32 := Scalar.muli v44 c1_i32_16
  let v46 : BitVec 32 := Scalar.addi v41 v45
  let c1_i32_18 : BitVec 32 := 1#32
  let arg15 : BitVec 32 := Scf.iv v46 c1_i32_18 k0_t2
  let c8_i32 : BitVec 32 := 8#32
  let v339 : BitVec 32 := Scalar.muli arg15 c8_i32
  let v340 : Index := Scalar.indexCast v339
  let c0_141 : Index := 0#32
  ![v340.toNat, 0]
def k0_off12 (i : grid0.Coords) : Fin 4 → Nat :=
  let c0_22 : Index := 0#32
  let c0_23 : Index := 0#32
  let arg2 : BitVec 32 := BitVec.ofNat 32 (i 2).val
  let c32_i32_19 : BitVec 32 := 32#32
  let v48 : BitVec 32 := Scalar.subi arg2 c32_i32_19
  let c32_i32_20 : BitVec 32 := 32#32
  let v49 : BitVec 32 := Scalar.addi v48 c32_i32_20
  let c0_i32_21 : BitVec 32 := 0#32
  let v50 : BitVec 32 := Scalar.maxsi v49 c0_i32_21
  let c128_i32 : BitVec 32 := 128#32
  let v51 : BitVec 32 := Scalar.muli v50 c128_i32
  let v52 : Index := Scalar.indexCast v51
  let c0_24 : Index := 0#32
  ![0, 0, v52.toNat, 0]
def k0_off13 (i : grid0.Coords) : Fin 1 → Nat :=
  let arg0 : BitVec 32 := BitVec.ofNat 32 (i 0).val
  let c256_i32_25 : BitVec 32 := 256#32
  let v56 : BitVec 32 := Scalar.muli arg0 c256_i32_25
  let arg2 : BitVec 32 := BitVec.ofNat 32 (i 2).val
  let c32_i32_19 : BitVec 32 := 32#32
  let v48 : BitVec 32 := Scalar.subi arg2 c32_i32_19
  let c32_i32_20 : BitVec 32 := 32#32
  let v49 : BitVec 32 := Scalar.addi v48 c32_i32_20
  let c0_i32_21 : BitVec 32 := 0#32
  let v50 : BitVec 32 := Scalar.maxsi v49 c0_i32_21
  let v57 : BitVec 32 := Scalar.addi v56 v50
  let c4_i32_26 : BitVec 32 := 4#32
  let v58 : BitVec 32 := Scalar.muli v57 c4_i32_26
  let arg1 : BitVec 32 := BitVec.ofNat 32 (i 1).val
  let v59 : BitVec 32 := Scalar.addi v58 arg1
  let v60 : Index := Scalar.indexCast v59
  ![v60.toNat]
@[reducible] def k0_t3_loop (i : grid0.Coords) : Scf.Loop 32 :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let c1_i32_111 : BitVec 32 := 1#32
  ⟨v1, v280, c1_i32_111⟩
def k0_off14 (i : grid0.Coords) (k0_t3 : Fin (k0_t3_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_111 : BitVec 32 := 1#32
  let arg15 : BitVec 32 := Scf.iv v1 c1_i32_111 k0_t3
  let c128_i32_130 : BitVec 32 := 128#32
  let v315 : BitVec 32 := Scalar.muli arg15 c128_i32_130
  let v316 : Index := Scalar.indexCast v315
  let c0_131 : Index := 0#32
  ![v316.toNat, 0]
def k0_off15 (i : grid0.Coords) (k0_t3 : Fin (k0_t3_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c1_i32_111 : BitVec 32 := 1#32
  let arg15 : BitVec 32 := Scf.iv v1 c1_i32_111 k0_t3
  let v324 : Index := Scalar.indexCast arg15
  let c0_133 : Index := 0#32
  ![v324.toNat, 0]
def k0_off16 (i : grid0.Coords) (k0_t3 : Fin (k0_t3_loop i).trips) : Fin 5 → Nat :=
  let c0_136 : Index := 0#32
  let c0_137 : Index := 0#32
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_111 : BitVec 32 := 1#32
  let arg15 : BitVec 32 := Scf.iv v1 c1_i32_111 k0_t3
  let v313 : BitVec 32 := Scalar.addi v312 arg15
  let c0_i32_129 : BitVec 32 := 0#32
  let v314 : BitVec 32 := Scalar.maxsi v313 c0_i32_129
  let v333 : Index := Scalar.indexCast v314
  let c0_138 : Index := 0#32
  let c0_139 : Index := 0#32
  ![0, 0, v333.toNat, 0, 0]
def k0_off17 (i : grid0.Coords) (k0_t3 : Fin (k0_t3_loop i).trips) : Fin 1 → Nat :=
  let arg0 : BitVec 32 := BitVec.ofNat 32 (i 0).val
  let c256_i32_142 : BitVec 32 := 256#32
  let v339 : BitVec 32 := Scalar.muli arg0 c256_i32_142
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c1_i32_111 : BitVec 32 := 1#32
  let arg15 : BitVec 32 := Scf.iv v1 c1_i32_111 k0_t3
  let v313 : BitVec 32 := Scalar.addi v312 arg15
  let c0_i32_129 : BitVec 32 := 0#32
  let v314 : BitVec 32 := Scalar.maxsi v313 c0_i32_129
  let v340 : BitVec 32 := Scalar.addi v339 v314
  let c4_i32_143 : BitVec 32 := 4#32
  let v341 : BitVec 32 := Scalar.muli v340 c4_i32_143
  let arg1 : BitVec 32 := BitVec.ofNat 32 (i 1).val
  let v342 : BitVec 32 := Scalar.addi v341 arg1
  let v343 : Index := Scalar.indexCast v342
  ![v343.toNat]
@[reducible] def k0_t4_loop (i : grid0.Coords) : Scf.Loop 32 :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let v277 : BitVec 32 := Scalar.addi v1 v276
  let c1_i32_112 : BitVec 32 := 1#32
  ⟨v280, v277, c1_i32_112⟩
def k0_off18 (i : grid0.Coords) (k0_t4 : Fin (k0_t4_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let c1_i32_112 : BitVec 32 := 1#32
  let arg15 : BitVec 32 := Scf.iv v280 c1_i32_112 k0_t4
  let c128_i32_130 : BitVec 32 := 128#32
  let v315 : BitVec 32 := Scalar.muli arg15 c128_i32_130
  let v316 : Index := Scalar.indexCast v315
  let c0_131 : Index := 0#32
  ![v316.toNat, 0]
def k0_off19 (i : grid0.Coords) (k0_t4 : Fin (k0_t4_loop i).trips) : Fin 2 → Nat :=
  let c32_i32 : BitVec 32 := 32#32
  let arg2 : BitVec 32 := BitVec.ofNat 32 (i 2).val
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let c1_i32_112 : BitVec 32 := 1#32
  let arg15 : BitVec 32 := Scf.iv v280 c1_i32_112 k0_t4
  let v324 : Index := Scalar.indexCast arg15
  let c0_133 : Index := 0#32
  ![v324.toNat, 0]
def k0_off20 (i : grid0.Coords) (k0_t4 : Fin (k0_t4_loop i).trips) : Fin 5 → Nat :=
  let c0_136 : Index := 0#32
  let c0_137 : Index := 0#32
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let c1_i32_112 : BitVec 32 := 1#32
  let arg15 : BitVec 32 := Scf.iv v280 c1_i32_112 k0_t4
  let v313 : BitVec 32 := Scalar.addi v312 arg15
  let c0_i32_129 : BitVec 32 := 0#32
  let v314 : BitVec 32 := Scalar.maxsi v313 c0_i32_129
  let v333 : Index := Scalar.indexCast v314
  let c0_138 : Index := 0#32
  let c0_139 : Index := 0#32
  ![0, 0, v333.toNat, 0, 0]
def k0_off21 (i : grid0.Coords) (k0_t4 : Fin (k0_t4_loop i).trips) : Fin 1 → Nat :=
  let arg0 : BitVec 32 := BitVec.ofNat 32 (i 0).val
  let c256_i32_142 : BitVec 32 := 256#32
  let v339 : BitVec 32 := Scalar.muli arg0 c256_i32_142
  let arg2 : BitVec 32 := BitVec.ofNat 32 (i 2).val
  let c32_i32_128 : BitVec 32 := 32#32
  let v312 : BitVec 32 := Scalar.subi arg2 c32_i32_128
  let c32_i32 : BitVec 32 := 32#32
  let v0 : BitVec 32 := Scalar.subi c32_i32 arg2
  let c0_i32 : BitVec 32 := 0#32
  let v1 : BitVec 32 := Scalar.maxsi v0 c0_i32
  let c33_i32 : BitVec 32 := 33#32
  let v276 : BitVec 32 := Scalar.subi c33_i32 v1
  let c1_i32_110 : BitVec 32 := 1#32
  let v278 : BitVec 32 := Scalar.divsi v276 c1_i32_110
  let v279 : BitVec 32 := Scalar.muli v278 c1_i32_110
  let v280 : BitVec 32 := Scalar.addi v1 v279
  let c1_i32_112 : BitVec 32 := 1#32
  let arg15 : BitVec 32 := Scf.iv v280 c1_i32_112 k0_t4
  let v313 : BitVec 32 := Scalar.addi v312 arg15
  let c0_i32_129 : BitVec 32 := 0#32
  let v314 : BitVec 32 := Scalar.maxsi v313 c0_i32_129
  let v340 : BitVec 32 := Scalar.addi v339 v314
  let c4_i32_143 : BitVec 32 := 4#32
  let v341 : BitVec 32 := Scalar.muli v340 c4_i32_143
  let arg1 : BitVec 32 := BitVec.ofNat 32 (i 1).val
  let v342 : BitVec 32 := Scalar.addi v341 arg1
  let v343 : Index := Scalar.indexCast v342
  ![v343.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x32768x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x256x16 : Shape := ⟨3, ![2, 256, 16]⟩
abbrev S2x256x4 : Shape := ⟨3, ![2, 256, 4]⟩
abbrev S2x32768x2048 : Shape := ⟨3, ![2, 32768, 2048]⟩
abbrev S2x4x32768x128 : Shape := ⟨4, ![2, 4, 32768, 128]⟩
abbrev S2x4x256x128x128 : Shape := ⟨5, ![2, 4, 256, 128, 128]⟩
abbrev S2x256x128x4x4x128 : Shape := ⟨6, ![2, 256, 128, 4, 4, 128]⟩
abbrev S2x4x256x128x256x128x4 : Shape := ⟨7, ![2, 4, 256, 128, 256, 128, 4]⟩
abbrev S2x4x4x256x128x256x128 : Shape := ⟨7, ![2, 4, 4, 256, 128, 256, 128]⟩
abbrev S2x256x4x4 : Shape := ⟨4, ![2, 256, 4, 4]⟩
abbrev S2x4x4x256 : Shape := ⟨4, ![2, 4, 4, 256]⟩
abbrev S2x4x4x256x1x1x1 : Shape := ⟨7, ![2, 4, 4, 256, 1, 1, 1]⟩
abbrev S2x4x256 : Shape := ⟨3, ![2, 4, 256]⟩
abbrev S2x4x1x1x1x256x1 : Shape := ⟨7, ![2, 4, 1, 1, 1, 256, 1]⟩
abbrev S2x4x4x256x1x256x1 : Shape := ⟨7, ![2, 4, 4, 256, 1, 256, 1]⟩
abbrev S_ : Shape := ⟨0, ![]⟩
abbrev S32768 : Shape := ⟨1, ![32768]⟩
abbrev S256x128 : Shape := ⟨2, ![256, 128]⟩
abbrev S256x128x1x1 : Shape := ⟨4, ![256, 128, 1, 1]⟩
abbrev S1x1x256x128 : Shape := ⟨4, ![1, 1, 256, 128]⟩
abbrev S256x128x256x128 : Shape := ⟨4, ![256, 128, 256, 128]⟩
abbrev S2x4x4x256x128 : Shape := ⟨5, ![2, 4, 4, 256, 128]⟩
abbrev S2x4x4x256x128x1x1 : Shape := ⟨7, ![2, 4, 4, 256, 128, 1, 1]⟩
abbrev S2x4x4x256x256 : Shape := ⟨5, ![2, 4, 4, 256, 256]⟩
abbrev S254 : Shape := ⟨1, ![254]⟩
abbrev S2x4x4x256x1x256x1x1 : Shape := ⟨8, ![2, 4, 4, 256, 1, 256, 1, 1]⟩
abbrev S1x1x1x1x1x1x1x254 : Shape := ⟨8, ![1, 1, 1, 1, 1, 1, 1, 254]⟩
abbrev S2x4x4x256x1x256x1x254 : Shape := ⟨8, ![2, 4, 4, 256, 1, 256, 1, 254]⟩
abbrev S2x4x256x128x4x256x128 : Shape := ⟨7, ![2, 4, 256, 128, 4, 256, 128]⟩
abbrev S2x4x4x256x128x128 : Shape := ⟨6, ![2, 4, 4, 256, 128, 128]⟩
abbrev S2x4x4x256x128x1 : Shape := ⟨6, ![2, 4, 4, 256, 128, 1]⟩

abbrev nBuf : Space → Nat
  | .hbm => 120
  | .vmem => 6
  | .smem => 0
  | _ => 0

abbrev bufTy : (tb : Table) → Fin (tcTables nBuf tb) → BufTy
  | .hbm, ⟨0, _⟩ => ⟨S2x256x16, .f32⟩
  | .hbm, ⟨1, _⟩ => ⟨S2x256x4, .f32⟩
  | .hbm, ⟨2, _⟩ => ⟨S2x256x4, .f32⟩
  | .hbm, ⟨3, _⟩ => ⟨S2x32768x2048, .fp8e4m3⟩
  | .hbm, ⟨4, _⟩ => ⟨S2x4x32768x128, .fp8e4m3⟩
  | .hbm, ⟨5, _⟩ => ⟨S2x4x256x128x128, .fp8e4m3⟩
  | .hbm, ⟨6, _⟩ => ⟨S2x32768x2048, .f32⟩
  | .hbm, ⟨7, _⟩ => ⟨S2x4x32768x128, .f32⟩
  | .hbm, ⟨8, _⟩ => ⟨S2x4x256x128x128, .f32⟩
  | .hbm, ⟨9, _⟩ => ⟨S2x256x128x4x4x128, .f32⟩
  | .hbm, ⟨10, _⟩ => ⟨S2x4x256x128x128, .f32⟩
  | .hbm, ⟨11, _⟩ => ⟨S2x4x256x128x256x128x4, .f32⟩
  | .hbm, ⟨12, _⟩ => ⟨S2x4x4x256x128x256x128, .f32⟩
  | .hbm, ⟨13, _⟩ => ⟨S2x256x4x4, .f32⟩
  | .hbm, ⟨14, _⟩ => ⟨S2x4x4x256, .f32⟩
  | .hbm, ⟨15, _⟩ => ⟨S2x4x4x256x1x1x1, .f32⟩
  | .hbm, ⟨16, _⟩ => ⟨S2x4x256, .f32⟩
  | .hbm, ⟨17, _⟩ => ⟨S2x4x1x1x1x256x1, .f32⟩
  | .hbm, ⟨18, _⟩ => ⟨S2x4x256, .f32⟩
  | .hbm, ⟨19, _⟩ => ⟨S2x4x1x1x1x256x1, .f32⟩
  | .hbm, ⟨20, _⟩ => ⟨S2x4x4x256x1x256x1, .f32⟩
  | .hbm, ⟨21, _⟩ => ⟨S2x4x4x256x1x256x1, .f32⟩
  | .hbm, ⟨22, _⟩ => ⟨S2x4x4x256x1x256x1, .f32⟩
  | .hbm, ⟨23, _⟩ => ⟨S_, .f32⟩
  | .hbm, ⟨24, _⟩ => ⟨S2x4x4x256x1x256x1, .f32⟩
  | .hbm, ⟨25, _⟩ => ⟨S2x4x4x256x1x256x1, .f32⟩
  | .hbm, ⟨26, _⟩ => ⟨S2x4x4x256x128x256x128, .f32⟩
  | .hbm, ⟨27, _⟩ => ⟨S2x4x4x256x128x256x128, .f32⟩
  | .hbm, ⟨28, _⟩ => ⟨S32768, .i32⟩
  | .hbm, ⟨29, _⟩ => ⟨S256x128, .i32⟩
  | .hbm, ⟨30, _⟩ => ⟨S256x128x1x1, .i32⟩
  | .hbm, ⟨31, _⟩ => ⟨S1x1x256x128, .i32⟩
  | .hbm, ⟨32, _⟩ => ⟨S256x128x256x128, .i32⟩
  | .hbm, ⟨33, _⟩ => ⟨S256x128x256x128, .i32⟩
  | .hbm, ⟨34, _⟩ => ⟨S256x128x256x128, .i1⟩
  | .hbm, ⟨35, _⟩ => ⟨S256x128x256x128, .i32⟩
  | .hbm, ⟨36, _⟩ => ⟨S256x128x256x128, .i32⟩
  | .hbm, ⟨37, _⟩ => ⟨S256x128x256x128, .i32⟩
  | .hbm, ⟨38, _⟩ => ⟨S_, .i32⟩
  | .hbm, ⟨39, _⟩ => ⟨S256x128x256x128, .i32⟩
  | .hbm, ⟨40, _⟩ => ⟨S256x128x256x128, .i1⟩
  | .hbm, ⟨41, _⟩ => ⟨S256x128x256x128, .i1⟩
  | .hbm, ⟨42, _⟩ => ⟨S_, .f32⟩
  | .hbm, ⟨43, _⟩ => ⟨S_, .f32⟩
  | .hbm, ⟨44, _⟩ => ⟨S2x4x4x256x128x256x128, .i1⟩
  | .hbm, ⟨45, _⟩ => ⟨S2x4x4x256x128x256x128, .f32⟩
  | .hbm, ⟨46, _⟩ => ⟨S2x4x4x256x128x256x128, .f32⟩
  | .hbm, ⟨47, _⟩ => ⟨S_, .f32⟩
  | .hbm, ⟨48, _⟩ => ⟨S2x4x4x256x128, .f32⟩
  | .hbm, ⟨49, _⟩ => ⟨S2x4x4x256x128x1x1, .f32⟩
  | .hbm, ⟨50, _⟩ => ⟨S2x4x4x256x128x256x128, .f32⟩
  | .hbm, ⟨51, _⟩ => ⟨S2x4x4x256x128x256x128, .f32⟩
  | .hbm, ⟨52, _⟩ => ⟨S2x4x4x256x128x256x128, .f32⟩
  | .hbm, ⟨53, _⟩ => ⟨S_, .f32⟩
  | .hbm, ⟨54, _⟩ => ⟨S2x4x4x256x128, .f32⟩
  | .hbm, ⟨55, _⟩ => ⟨S2x4x4x256x128x256x128, .f32⟩
  | .hbm, ⟨56, _⟩ => ⟨S_, .f32⟩
  | .hbm, ⟨57, _⟩ => ⟨S2x4x4x256x256, .f32⟩
  | .hbm, ⟨58, _⟩ => ⟨S2x4x4x256x1x256x1, .f32⟩
  | .hbm, ⟨59, _⟩ => ⟨S254, .i32⟩
  | .hbm, ⟨60, _⟩ => ⟨S_, .i32⟩
  | .hbm, ⟨61, _⟩ => ⟨S254, .i32⟩
  | .hbm, ⟨62, _⟩ => ⟨S254, .i32⟩
  | .hbm, ⟨63, _⟩ => ⟨S254, .f32⟩
  | .hbm, ⟨64, _⟩ => ⟨S_, .f32⟩
  | .hbm, ⟨65, _⟩ => ⟨S254, .f32⟩
  | .hbm, ⟨66, _⟩ => ⟨S254, .f32⟩
  | .hbm, ⟨67, _⟩ => ⟨S2x4x4x256x1x256x1x1, .f32⟩
  | .hbm, ⟨68, _⟩ => ⟨S_, .f32⟩
  | .hbm, ⟨69, _⟩ => ⟨S2x4x4x256x1x256x1x1, .f32⟩
  | .hbm, ⟨70, _⟩ => ⟨S2x4x4x256x1x256x1x1, .f32⟩
  | .hbm, ⟨71, _⟩ => ⟨S1x1x1x1x1x1x1x254, .f32⟩
  | .hbm, ⟨72, _⟩ => ⟨S2x4x4x256x1x256x1x254, .f32⟩
  | .hbm, ⟨73, _⟩ => ⟨S2x4x4x256x1x256x1x254, .f32⟩
  | .hbm, ⟨74, _⟩ => ⟨S2x4x4x256x1x256x1x254, .i1⟩
  | .hbm, ⟨75, _⟩ => ⟨S2x4x4x256x1x256x1x254, .i32⟩
  | .hbm, ⟨76, _⟩ => ⟨S_, .i32⟩
  | .hbm, ⟨77, _⟩ => ⟨S2x4x4x256x1x256x1, .i32⟩
  | .hbm, ⟨78, _⟩ => ⟨S_, .i32⟩
  | .hbm, ⟨79, _⟩ => ⟨S2x4x4x256x1x256x1, .i32⟩
  | .hbm, ⟨80, _⟩ => ⟨S2x4x4x256x1x256x1, .i1⟩
  | .hbm, ⟨81, _⟩ => ⟨S_, .i32⟩
  | .hbm, ⟨82, _⟩ => ⟨S2x4x4x256x1x256x1, .i32⟩
  | .hbm, ⟨83, _⟩ => ⟨S2x4x4x256x1x256x1, .i32⟩
  | .hbm, ⟨84, _⟩ => ⟨S_, .i32⟩
  | .hbm, ⟨85, _⟩ => ⟨S_, .i32⟩
  | .hbm, ⟨86, _⟩ => ⟨S2x4x4x256x1x256x1, .i32⟩
  | .hbm, ⟨87, _⟩ => ⟨S2x4x4x256x1x256x1, .i32⟩
  | .hbm, ⟨88, _⟩ => ⟨S2x4x4x256x1x256x1, .f32⟩
  | .hbm, ⟨89, _⟩ => ⟨S_, .f32⟩
  | .hbm, ⟨90, _⟩ => ⟨S2x4x4x256x1x256x1, .f32⟩
  | .hbm, ⟨91, _⟩ => ⟨S2x4x4x256x1x256x1, .f32⟩
  | .hbm, ⟨92, _⟩ => ⟨S2x4x4x256x1x256x1, .f32⟩
  | .hbm, ⟨93, _⟩ => ⟨S_, .f32⟩
  | .hbm, ⟨94, _⟩ => ⟨S2x4x4x256x1x256x1, .f32⟩
  | .hbm, ⟨95, _⟩ => ⟨S2x4x4x256x1x256x1, .f32⟩
  | .hbm, ⟨96, _⟩ => ⟨S2x4x4x256x128x256x128, .f32⟩
  | .hbm, ⟨97, _⟩ => ⟨S2x4x4x256x128x256x128, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S2x4x4x256x128x256x128, .f32⟩
  | .hbm, ⟨102, _⟩ => ⟨S2x4x4x256x128x256x128, .f32⟩
  | .hbm, ⟨103, _⟩ => ⟨S_, .f32⟩
  | .hbm, ⟨104, _⟩ => ⟨S2x4x4x256x128x256x128, .f32⟩
  | .hbm, ⟨105, _⟩ => ⟨S2x4x4x256x128x256x128, .f32⟩
  | .hbm, ⟨106, _⟩ => ⟨S2x4x256x128x4x256x128, .f32⟩
  | .hbm, ⟨107, _⟩ => ⟨S2x4x4x256x128x256x128, .f32⟩
  | .hbm, ⟨108, _⟩ => ⟨S2x4x4x256x1x256x1, .f32⟩
  | .hbm, ⟨109, _⟩ => ⟨S2x4x4x256x1x256x1, .f32⟩
  | .hbm, ⟨110, _⟩ => ⟨S2x4x4x256x128x256x128, .f32⟩
  | .hbm, ⟨111, _⟩ => ⟨S2x4x4x256x128x256x128, .f32⟩
  | .hbm, ⟨112, _⟩ => ⟨S_, .f32⟩
  | .hbm, ⟨113, _⟩ => ⟨S2x4x4x256x128x128, .f32⟩
  | .hbm, ⟨114, _⟩ => ⟨S2x4x4x256x128x1, .f32⟩
  | .hbm, ⟨115, _⟩ => ⟨S2x4x4x256x128x128, .f32⟩
  | .hbm, ⟨116, _⟩ => ⟨S2x4x4x256x128x128, .f32⟩
  | .hbm, ⟨117, _⟩ => ⟨S2x256x128x4x4x128, .f32⟩
  | .hbm, ⟨118, _⟩ => ⟨S2x32768x2048, .f32⟩
  | .hbm, ⟨119, _⟩ => ⟨S2x32768x2048, .bf16⟩
  | .local _ .vmem, ⟨0, _⟩ => ⟨S2x32768x2048, .fp8e4m3⟩
  | .local _ .vmem, ⟨1, _⟩ => ⟨S2x4x32768x128, .fp8e4m3⟩
  | .local _ .vmem, ⟨2, _⟩ => ⟨S2x4x256x128x128, .fp8e4m3⟩
  | .local _ .vmem, ⟨3, _⟩ => ⟨S2x32768x2048, .f32⟩
  | .local _ .vmem, ⟨4, _⟩ => ⟨S2x4x32768x128, .f32⟩
  | .local _ .vmem, ⟨5, _⟩ => ⟨S2x4x256x128x128, .f32⟩
  | _, _ => ⟨S2x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_7 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_call1_v0 : Ref sig .tc := ⟨.hbm, 85, rfl⟩
abbrev main_call1_v1 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_cst_14 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x32768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x32768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x256x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantX.lean ====
abbrev S2x32768x2048 : Shape := ⟨3, ![2, 32768, 2048]⟩
abbrev S2x256x16 : Shape := ⟨3, ![2, 256, 16]⟩
abbrev S1x1024x2048 : Shape := ⟨3, ![1, 1024, 2048]⟩
abbrev S1x8x16 : Shape := ⟨3, ![1, 8, 16]⟩
abbrev S8x16 : Shape := ⟨2, ![8, 16]⟩
abbrev S1x1024x128 : Shape := ⟨3, ![1, 1024, 128]⟩
abbrev S1024x128 : Shape := ⟨2, ![1024, 128]⟩
abbrev S8x128x128 : Shape := ⟨3, ![8, 128, 128]⟩
abbrev S8 : Shape := ⟨1, ![8]⟩
abbrev S8x1x1 : Shape := ⟨3, ![8, 1, 1]⟩
abbrev S8x1x254 : Shape := ⟨3, ![8, 1, 254]⟩
abbrev S8x1 : Shape := ⟨2, ![8, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x32768x2048, .bf16⟩
  | .hbm, ⟨1, _⟩ => ⟨S2x32768x2048, .fp8e4m3⟩
  | .hbm, ⟨2, _⟩ => ⟨S2x256x16, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x8x16, .f32⟩
  | .local _ .vmem, ⟨5, _⟩ => ⟨S1x8x16, .f32⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuantXReferenceIdeal.lean ====
abbrev S2x32768x2048 : Shape := ⟨3, ![2, 32768, 2048]⟩
abbrev S2x256x16 : Shape := ⟨3, ![2, 256, 16]⟩
abbrev S2x256x128x16x128 : Shape := ⟨5, ![2, 256, 128, 16, 128]⟩
abbrev S2x256x128x16 : Shape := ⟨4, ![2, 256, 128, 16]⟩
abbrev S1x254 : Shape := ⟨2, ![1, 254]⟩
abbrev S254 : Shape := ⟨1, ![254]⟩
abbrev S2x256x16x1 : Shape := ⟨4, ![2, 256, 16, 1]⟩
abbrev S1x1x1x254 : Shape := ⟨4, ![1, 1, 1, 254]⟩
abbrev S2x256x16x254 : Shape := ⟨4, ![2, 256, 16, 254]⟩
abbrev S2x256x1x16x1 : Shape := ⟨5, ![2, 256, 1, 16, 1]⟩

abbrev nBuf : Space → Nat
  | .hbm => 3
  | .vmem => 3
  | .smem => 0
  | _ => 0

abbrev bufTy : (tb : Table) → Fin (tcTables nBuf tb) → BufTy
  | .hbm, ⟨0, _⟩ => ⟨S2x32768x2048, .bf16⟩
  | .hbm, ⟨1, _⟩ => ⟨S2x32768x2048, .fp8e4m3⟩
  | .hbm, ⟨2, _⟩ => ⟨S2x256x16, .f32⟩
  | .local _ .vmem, ⟨0, _⟩ => ⟨S2x32768x2048, .bf16⟩
  | .local _ .vmem, ⟨1, _⟩ => ⟨S2x32768x2048, .fp8e4m3⟩
  | .local _ .vmem, ⟨2, _⟩ => ⟨S2x256x16, .f32⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x32768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantK.lean ====
abbrev S2x32768x512 : Shape := ⟨3, ![2, 32768, 512]⟩
abbrev S2x256x4 : Shape := ⟨3, ![2, 256, 4]⟩
abbrev S2x4x32768x128 : Shape := ⟨4, ![2, 4, 32768, 128]⟩
abbrev S1x1024x512 : Shape := ⟨3, ![1, 1024, 512]⟩
abbrev S1x8x4 : Shape := ⟨3, ![1, 8, 4]⟩
abbrev S1x4x1024x128 : Shape := ⟨4, ![1, 4, 1024, 128]⟩
abbrev S8x4 : Shape := ⟨2, ![8, 4]⟩
abbrev S1x1024x128 : Shape := ⟨3, ![1, 1024, 128]⟩
abbrev S1024x128 : Shape := ⟨2, ![1024, 128]⟩
abbrev S8x128x128 : Shape := ⟨3, ![8, 128, 128]⟩
abbrev S8 : Shape := ⟨1, ![8]⟩
abbrev S8x1x1 : Shape := ⟨3, ![8, 1, 1]⟩
abbrev S8x1x254 : Shape := ⟨3, ![8, 1, 254]⟩
abbrev S8x1 : Shape := ⟨2, ![8, 1]⟩
abbrev S1x1x1024x128 : Shape := ⟨4, ![1, 1, 1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x32768x512, .bf16⟩
  | .hbm, ⟨1, _⟩ => ⟨S2x32768x512, .fp8e4m3⟩
  | .hbm, ⟨2, _⟩ => ⟨S2x256x4, .f32⟩
  | .hbm, ⟨3, _⟩ => ⟨S2x4x32768x128, .fp8e4m3⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .fp8e4m3⟩
  | .local _ .vmem, ⟨3, _⟩ => ⟨S1x1024x512, .fp8e4m3⟩
  | .local _ .vmem, ⟨4, _⟩ => ⟨S1x8x4, .f32⟩
  | .local _ .vmem, ⟨5, _⟩ => ⟨S1x8x4, .f32⟩
  | .local _ .vmem, ⟨6, _⟩ => ⟨S1x4x1024x128, .fp8e4m3⟩
  | .local _ .vmem, ⟨7, _⟩ => ⟨S1x4x1024x128, .fp8e4m3⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantKReferenceIdeal.lean ====
abbrev S2x32768x512 : Shape := ⟨3, ![2, 32768, 512]⟩
abbrev S2x256x4 : Shape := ⟨3, ![2, 256, 4]⟩
abbrev S2x4x32768x128 : Shape := ⟨4, ![2, 4, 32768, 128]⟩
abbrev S2x256x128x4x128 : Shape := ⟨5, ![2, 256, 128, 4, 128]⟩
abbrev S2x256x128x4 : Shape := ⟨4, ![2, 256, 128, 4]⟩
abbrev S1x254 : Shape := ⟨2, ![1, 254]⟩
abbrev S254 : Shape := ⟨1, ![254]⟩
abbrev S2x256x4x1 : Shape := ⟨4, ![2, 256, 4, 1]⟩
abbrev S1x1x1x254 : Shape := ⟨4, ![1, 1, 1, 254]⟩
abbrev S2x256x4x254 : Shape := ⟨4, ![2, 256, 4, 254]⟩
abbrev S2x256x1x4x1 : Shape := ⟨5, ![2, 256, 1, 4, 1]⟩
abbrev S2x32768x4x128 : Shape := ⟨4, ![2, 32768, 4, 128]⟩

abbrev nBuf : Space → Nat
  | .hbm => 4
  | .vmem => 4
  | .smem => 0
  | _ => 0

abbrev bufTy : (tb : Table) → Fin (tcTables nBuf tb) → BufTy
  | .hbm, ⟨0, _⟩ => ⟨S2x32768x512, .bf16⟩
  | .hbm, ⟨1, _⟩ => ⟨S2x32768x512, .fp8e4m3⟩
  | .hbm, ⟨2, _⟩ => ⟨S2x256x4, .f32⟩
  | .hbm, ⟨3, _⟩ => ⟨S2x4x32768x128, .fp8e4m3⟩
  | .local _ .vmem, ⟨0, _⟩ => ⟨S2x32768x512, .bf16⟩
  | .local _ .vmem, ⟨1, _⟩ => ⟨S2x32768x512, .fp8e4m3⟩
  | .local _ .vmem, ⟨2, _⟩ => ⟨S2x256x4, .f32⟩
  | .local _ .vmem, ⟨3, _⟩ => ⟨S2x4x32768x128, .fp8e4m3⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x32768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x32768x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantV.lean ====
abbrev S2x32768x512 : Shape := ⟨3, ![2, 32768, 512]⟩
abbrev S2x256x4 : Shape := ⟨3, ![2, 256, 4]⟩
abbrev S2x4x256x128x128 : Shape := ⟨5, ![2, 4, 256, 128, 128]⟩
abbrev S1x1024x512 : Shape := ⟨3, ![1, 1024, 512]⟩
abbrev S1x8x4 : Shape := ⟨3, ![1, 8, 4]⟩
abbrev S1x4x8x128x128 : Shape := ⟨5, ![1, 4, 8, 128, 128]⟩
abbrev S8x4 : Shape := ⟨2, ![8, 4]⟩
abbrev S1x1024x128 : Shape := ⟨3, ![1, 1024, 128]⟩
abbrev S1024x128 : Shape := ⟨2, ![1024, 128]⟩
abbrev S8x128x128 : Shape := ⟨3, ![8, 128, 128]⟩
abbrev S8 : Shape := ⟨1, ![8]⟩
abbrev S8x1x1 : Shape := ⟨3, ![8, 1, 1]⟩
abbrev S8x1x254 : Shape := ⟨3, ![8, 1, 254]⟩
abbrev S8x1 : Shape := ⟨2, ![8, 1]⟩
abbrev S1x128x128 : Shape := ⟨3, ![1, 128, 128]⟩
abbrev S128x128 : Shape := ⟨2, ![128, 128]⟩
abbrev S1x1x1x128x128 : Shape := ⟨5, ![1, 1, 1, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x32768x512, .bf16⟩
  | .hbm, ⟨1, _⟩ => ⟨S2x32768x512, .fp8e4m3⟩
  | .hbm, ⟨2, _⟩ => ⟨S2x256x4, .f32⟩
  | .hbm, ⟨3, _⟩ => ⟨S2x4x256x128x128, .fp8e4m3⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .fp8e4m3⟩
  | .local _ .vmem, ⟨3, _⟩ => ⟨S1x1024x512, .fp8e4m3⟩
  | .local _ .vmem, ⟨4, _⟩ => ⟨S1x8x4, .f32⟩
  | .local _ .vmem, ⟨5, _⟩ => ⟨S1x8x4, .f32⟩
  | .local _ .vmem, ⟨6, _⟩ => ⟨S1x4x8x128x128, .fp8e4m3⟩
  | .local _ .vmem, ⟨7, _⟩ => ⟨S1x4x8x128x128, .fp8e4m3⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8x128x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantVReferenceIdeal.lean ====
abbrev S2x32768x512 : Shape := ⟨3, ![2, 32768, 512]⟩
abbrev S2x256x4 : Shape := ⟨3, ![2, 256, 4]⟩
abbrev S2x4x256x128x128 : Shape := ⟨5, ![2, 4, 256, 128, 128]⟩
abbrev S2x256x128x4x128 : Shape := ⟨5, ![2, 256, 128, 4, 128]⟩
abbrev S2x256x128x4 : Shape := ⟨4, ![2, 256, 128, 4]⟩
abbrev S1x254 : Shape := ⟨2, ![1, 254]⟩
abbrev S254 : Shape := ⟨1, ![254]⟩
abbrev S2x256x4x1 : Shape := ⟨4, ![2, 256, 4, 1]⟩
abbrev S1x1x1x254 : Shape := ⟨4, ![1, 1, 1, 254]⟩
abbrev S2x256x4x254 : Shape := ⟨4, ![2, 256, 4, 254]⟩
abbrev S2x256x1x4x1 : Shape := ⟨5, ![2, 256, 1, 4, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x32768x512, .bf16⟩
  | .hbm, ⟨1, _⟩ => ⟨S2x32768x512, .fp8e4m3⟩
  | .hbm, ⟨2, _⟩ => ⟨S2x256x4, .f32⟩
  | .hbm, ⟨3, _⟩ => ⟨S2x4x256x128x128, .fp8e4m3⟩
  | .local _ .vmem, ⟨0, _⟩ => ⟨S2x32768x512, .bf16⟩
  | .local _ .vmem, ⟨1, _⟩ => ⟨S2x32768x512, .fp8e4m3⟩
  | .local _ .vmem, ⟨2, _⟩ => ⟨S2x256x4, .f32⟩
  | .local _ .vmem, ⟨3, _⟩ => ⟨S2x4x256x128x128, .fp8e4m3⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x32768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x128x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

/-! The attention body run once at each grid point, and the frame of the program: every argument array ends unchanged, whatever the
    output holds. The value of the output is the subject of the other modules. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch taken from query block 32 on, where the whole window lies inside the sequence. -/
theorem cond_ge (i : grid0.Coords) : k0_cond2 i = 1#1 ↔ 32 ≤ (i 2).val := by
  unfold k0_cond2
  generalize i 2 = x
  revert x
  decide

/-- The branch taken before query block 32, where the window starts before the sequence. -/
theorem cond_lt (i : grid0.Coords) :
    (Scalar.cmpi .ne (Scalar.extui (Scalar.cmpi .slt (BitVec.ofNat 32 (i 2).val) 32#32)) 0#32 : BitVec 1) = 1#1 ↔ (i 2).val < 32 := by
  generalize i 2 = x
  revert x
  decide

set_option maxHeartbeats 4000000 in
/-- The body from query block 32 on: the inputs end as they were, the output and the scratch buffers at some contents. -/
theorem run_ge (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : k0_cond2 i = 1#1) (hc' : ¬ (Scalar.cmpi .ne (Scalar.extui (Scalar.cmpi .slt (BitVec.ofNat 32 (i 2).val) 32#32)) 0#32 : BitVec 1) = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g)) ∗ (∃ g : Buf (Elt F) (arg14.view.loc (c : Thread nD τ)), (arg14.view.loc (c : Thread nD τ) ↦[arg14.view.set]{fullShare} g))) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
/-- The body before query block 32: the same. -/
theorem run_lt (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : ¬ k0_cond2 i = 1#1) (hc' : (Scalar.cmpi .ne (Scalar.extui (Scalar.cmpi .slt (BitVec.ofNat 32 (i 2).val) 32#32)) 0#32 : BitVec 1) = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g)) ∗ (∃ g : Buf (Elt F) (arg14.view.loc (c : Thread nD τ)), (arg14.view.loc (c : Thread nD τ) ↦[arg14.view.set]{fullShare} g))) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The body at any grid point, on buffers owned at read contents: the inputs end at what they held, the rest at something. -/
theorem sound_kernel (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (x3 : Vec F S8192 .f32) (x4 : Vec F S2048 .f32) (x5 : Vec F S2048 .f32) (x6 : Vec F S1x128x512 .fp8e4m3) (x7 : Vec F S1x1x32768x128 .fp8e4m3) (x8 : Vec F S1x1x256x128x128 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  by_cases h : 32 ≤ (i 2).val
  · iapply (run_ge c E i arg3 harg3 arg4 harg4 arg5 harg5 arg6 harg6 arg7 harg7 arg8 harg8 arg9 harg9 arg10 harg10 arg11 harg11 arg12 harg12 arg13 harg13 arg14 harg14 ((cond_ge i).mpr h) (fun e => absurd ((cond_lt i).mp e) (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14
  · iapply (run_lt c E i arg3 harg3 arg4 harg4 arg5 harg5 arg6 harg6 arg7 harg7 arg8 harg8 arg9 harg9 arg10 harg10 arg11 harg11 arg12 harg12 arg13 harg13 arg14 harg14 (fun e => h ((cond_ge i).mp e)) ((cond_lt i).mpr (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14

/-! ## The pipeline's proof data -/

variable (m : (ℓ : Loc nD τ sig) → Buf (Elt F) ℓ) (ρ : Dev nD → PrngReg)

/-- The proof data: the arrays as the region finds them; each input's buffer at its block after the body. Of the output's buffer
    nothing is used (it is forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The body leaves argument window 0 as it found it. -/
theorem after0_0 (c : Dev nD) (t : Fin cfg0.N) : (dats m 0 c).after 0 t = iblk m c 0 t := by dsimp only [dats]
/-- The body leaves argument window 1 as it found it. -/
theorem after0_1 (c : Dev nD) (t : Fin cfg0.N) : (dats m 0 c).after 1 t = iblk m c 1 t := by dsimp only [dats]
/-- The body leaves argument window 2 as it found it. -/
theorem after0_2 (c : Dev nD) (t : Fin cfg0.N) : (dats m 0 c).after 2 t = iblk m c 2 t := by dsimp only [dats]
/-- The body leaves argument window 3 as it found it. -/
theorem after0_3 (c : Dev nD) (t : Fin cfg0.N) : (dats m 0 c).after 3 t = iblk m c 3 t := by dsimp only [dats]
/-- The body leaves argument window 4 as it found it. -/
theorem after0_4 (c : Dev nD) (t : Fin cfg0.N) : (dats m 0 c).after 4 t = iblk m c 4 t := by dsimp only [dats]
/-- The body leaves argument window 5 as it found it. -/
theorem after0_5 (c : Dev nD) (t : Fin cfg0.N) : (dats m 0 c).after 5 t = iblk m c 5 t := by dsimp only [dats]

/-- Before the body, argument window 0 holds its block of the array. -/
theorem before0_0 (c : Dev nD) (t : Fin cfg0.N) (d) : (dats m 0 c).before 0 t d = iblk m c 0 t :=
  before0_0_of m (dats m 0 c) (A_eq m c 0) (after0_0 m c) t d
/-- Before the body, argument window 1 holds its block of the array. -/
theorem before0_1 (c : Dev nD) (t : Fin cfg0.N) (d) : (dats m 0 c).before 1 t d = iblk m c 1 t :=
  before0_1_of m (dats m 0 c) (A_eq m c 1) (after0_1 m c) t d
/-- Before the body, argument window 2 holds its block of the array. -/
theorem before0_2 (c : Dev nD) (t : Fin cfg0.N) (d) : (dats m 0 c).before 2 t d = iblk m c 2 t :=
  before0_2_of m (dats m 0 c) (A_eq m c 2) (after0_2 m c) t d
/-- Before the body, argument window 3 holds its block of the array. -/
theorem before0_3 (c : Dev nD) (t : Fin cfg0.N) (d) : (dats m 0 c).before 3 t d = iblk m c 3 t :=
  before0_3_of m (dats m 0 c) (A_eq m c 3) (after0_3 m c) t d
/-- Before the body, argument window 4 holds its block of the array. -/
theorem before0_4 (c : Dev nD) (t : Fin cfg0.N) (d) : (dats m 0 c).before 4 t d = iblk m c 4 t :=
  before0_4_of m (dats m 0 c) (A_eq m c 4) (after0_4 m c) t d
/-- Before the body, argument window 5 holds its block of the array. -/
theorem before0_5 (c : Dev nD) (t : Fin cfg0.N) (d) : (dats m 0 c).before 5 t d = iblk m c 5 t :=
  before0_5_of m (dats m 0 c) (A_eq m c 5) (after0_5 m c) t d

/-- The output's window, of which nothing is said. -/
def fgt (w : Fin cfg0.W) : Bool := w.val == 6

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ d, owns (c : Thread nD τ) (st0_6 t) fullShare d))

/-- The body at any point: `sound_kernel`, the scratch buffers taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨⟨%g0, S0⟩, ⟨%g1, S1⟩, ⟨%g2, S2⟩, ⟨%g3, S3⟩, ⟨%g4, S4⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point, the output's window forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: @main terminates with every input array as the region found it and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun _ h => h)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans (V_main_arg3 m c),
      (h.1.arr_in c 4 rfl).trans (V_main_arg4 m c),
      (h.1.arr_in c 5 rfl).trans (V_main_arg5 m c)⟩, h.2⟩) (run_main m ρ)

end Cert.KernelIdeal.Body
end
-- ==== Proof.BodyBits.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

/-! The attention body run once at each grid point, and the frame of the program: every argument array ends unchanged, whatever the
    output holds. The value of the output is the subject of the other modules. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch taken from query block 32 on, where the whole window lies inside the sequence. -/
theorem cond_ge (i : grid0.Coords) : k0_cond2 i = 1#1 ↔ 32 ≤ (i 2).val := by
  unfold k0_cond2
  generalize i 2 = x
  revert x
  decide

/-- The branch taken before query block 32, where the window starts before the sequence. -/
theorem cond_lt (i : grid0.Coords) :
    (Scalar.cmpi .ne (Scalar.extui (Scalar.cmpi .slt (BitVec.ofNat 32 (i 2).val) 32#32)) 0#32 : BitVec 1) = 1#1 ↔ (i 2).val < 32 := by
  generalize i 2 = x
  revert x
  decide

set_option maxHeartbeats 4000000 in
/-- The body from query block 32 on: the inputs end as they were, the output and the scratch buffers at some contents. -/
theorem run_ge (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : k0_cond2 i = 1#1) (hc' : ¬ (Scalar.cmpi .ne (Scalar.extui (Scalar.cmpi .slt (BitVec.ofNat 32 (i 2).val) 32#32)) 0#32 : BitVec 1) = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g)) ∗ (∃ g : Buf (Elt F) (arg14.view.loc (c : Thread nD τ)), (arg14.view.loc (c : Thread nD τ) ↦[arg14.view.set]{fullShare} g))) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
/-- The body before query block 32: the same. -/
theorem run_lt (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : ¬ k0_cond2 i = 1#1) (hc' : (Scalar.cmpi .ne (Scalar.extui (Scalar.cmpi .slt (BitVec.ofNat 32 (i 2).val) 32#32)) 0#32 : BitVec 1) = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g)) ∗ (∃ g : Buf (Elt F) (arg14.view.loc (c : Thread nD τ)), (arg14.view.loc (c : Thread nD τ) ↦[arg14.view.set]{fullShare} g))) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The body at any grid point, on buffers owned at read contents: the inputs end at what they held, the rest at something. -/
theorem sound_kernel (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (x3 : Vec F S8192 .f32) (x4 : Vec F S2048 .f32) (x5 : Vec F S2048 .f32) (x6 : Vec F S1x128x512 .fp8e4m3) (x7 : Vec F S1x1x32768x128 .fp8e4m3) (x8 : Vec F S1x1x256x128x128 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_swa_attention i arg3 harg3 arg4 harg4 arg5 harg5 arg6 harg6 arg7 harg7 arg8 harg8 arg9 harg9 arg10 harg10 arg11 harg11 arg12 harg12 arg13 harg13 arg14 harg14) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  by_cases h : 32 ≤ (i 2).val
  · iapply (run_ge c E i arg3 harg3 arg4 harg4 arg5 harg5 arg6 harg6 arg7 harg7 arg8 harg8 arg9 harg9 arg10 harg10 arg11 harg11 arg12 harg12 arg13 harg13 arg14 harg14 ((cond_ge i).mpr h) (fun e => absurd ((cond_lt i).mp e) (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14
  · iapply (run_lt c E i arg3 harg3 arg4 harg4 arg5 harg5 arg6 harg6 arg7 harg7 arg8 harg8 arg9 harg9 arg10 harg10 arg11 harg11 arg12 harg12 arg13 harg13 arg14 harg14 (fun e => h ((cond_ge i).mp e)) ((cond_lt i).mpr (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14

/-! ## The pipeline's proof data -/

variable (m : (ℓ : Loc nD τ sig) → Buf (Elt F) ℓ) (ρ : Dev nD → PrngReg)

/-- The proof data: the arrays as the region finds them; each input's buffer at its block after the body. Of the output's buffer
    nothing is used (it is forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The body leaves argument window 0 as it found it. -/
theorem after0_0 (c : Dev nD) (t : Fin cfg0.N) : (dats m 0 c).after 0 t = iblk m c 0 t := by dsimp only [dats]
/-- The body leaves argument window 1 as it found it. -/
theorem after0_1 (c : Dev nD) (t : Fin cfg0.N) : (dats m 0 c).after 1 t = iblk m c 1 t := by dsimp only [dats]
/-- The body leaves argument window 2 as it found it. -/
theorem after0_2 (c : Dev nD) (t : Fin cfg0.N) : (dats m 0 c).after 2 t = iblk m c 2 t := by dsimp only [dats]
/-- The body leaves argument window 3 as it found it. -/
theorem after0_3 (c : Dev nD) (t : Fin cfg0.N) : (dats m 0 c).after 3 t = iblk m c 3 t := by dsimp only [dats]
/-- The body leaves argument window 4 as it found it. -/
theorem after0_4 (c : Dev nD) (t : Fin cfg0.N) : (dats m 0 c).after 4 t = iblk m c 4 t := by dsimp only [dats]
/-- The body leaves argument window 5 as it found it. -/
theorem after0_5 (c : Dev nD) (t : Fin cfg0.N) : (dats m 0 c).after 5 t = iblk m c 5 t := by dsimp only [dats]

/-- Before the body, argument window 0 holds its block of the array. -/
theorem before0_0 (c : Dev nD) (t : Fin cfg0.N) (d) : (dats m 0 c).before 0 t d = iblk m c 0 t :=
  before0_0_of m (dats m 0 c) (A_eq m c 0) (after0_0 m c) t d
/-- Before the body, argument window 1 holds its block of the array. -/
theorem before0_1 (c : Dev nD) (t : Fin cfg0.N) (d) : (dats m 0 c).before 1 t d = iblk m c 1 t :=
  before0_1_of m (dats m 0 c) (A_eq m c 1) (after0_1 m c) t d
/-- Before the body, argument window 2 holds its block of the array. -/
theorem before0_2 (c : Dev nD) (t : Fin cfg0.N) (d) : (dats m 0 c).before 2 t d = iblk m c 2 t :=
  before0_2_of m (dats m 0 c) (A_eq m c 2) (after0_2 m c) t d
/-- Before the body, argument window 3 holds its block of the array. -/
theorem before0_3 (c : Dev nD) (t : Fin cfg0.N) (d) : (dats m 0 c).before 3 t d = iblk m c 3 t :=
  before0_3_of m (dats m 0 c) (A_eq m c 3) (after0_3 m c) t d
/-- Before the body, argument window 4 holds its block of the array. -/
theorem before0_4 (c : Dev nD) (t : Fin cfg0.N) (d) : (dats m 0 c).before 4 t d = iblk m c 4 t :=
  before0_4_of m (dats m 0 c) (A_eq m c 4) (after0_4 m c) t d
/-- Before the body, argument window 5 holds its block of the array. -/
theorem before0_5 (c : Dev nD) (t : Fin cfg0.N) (d) : (dats m 0 c).before 5 t d = iblk m c 5 t :=
  before0_5_of m (dats m 0 c) (A_eq m c 5) (after0_5 m c) t d

/-- The output's window, of which nothing is said. -/
def fgt (w : Fin cfg0.W) : Bool := w.val == 6

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ d, owns (c : Thread nD τ) (st0_6 t) fullShare d))

/-- The body at any point: `sound_kernel`, the scratch buffers taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨⟨%g0, S0⟩, ⟨%g1, S1⟩, ⟨%g2, S2⟩, ⟨%g3, S3⟩, ⟨%g4, S4⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point, the output's window forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: @main terminates with every input array as the region found it and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun _ h => h)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans (V_main_arg3 m c),
      (h.1.arr_in c 4 rfl).trans (V_main_arg4 m c),
      (h.1.arr_in c 5 rfl).trans (V_main_arg5 m c)⟩, h.2⟩) (run_main m ρ)

end Cert.Kernel.Body
end
-- ==== Proof.Spec.lean ====
module

public import Idealize.ShloMosaic.PureOps.Ideal
public import Idealize.ShloMosaic.PureOps.Ideal.Laws
public import Idealize.ShloMosaic.Lib.IndicatorCount

/-!
One query block against one key head, over the extended reals: the weights, the power-of-two scales of the
blocks of weights, their codes, and the output. Both programs are shown to compute `out`.
-/

@[expose] public section

noncomputable section
open Idealize.ShloMosaic

namespace Cert.Spec

variable (s : Fin 128 → Fin 256 → Fin 128 → EReal)

/-- Two to an integer power. -/
def two (e : ℤ) : EReal := (((2 : ℝ) ^ e : ℝ) : EReal)
/-- The reciprocal of 448, in single precision. -/
def recip : EReal := Ideal.ofBits .f32 991054117#32
/-- 448. -/
def hi : EReal := Ideal.ofBits .f32 1138753536#32
/-- Minus 448. -/
def lo : EReal := Ideal.ofBits .f32 3286237184#32

/-- How many of the powers from `2 ^ -126` to `2 ^ 127` the number over 448 reaches. -/
def cnt (a : EReal) : ℕ := (Finset.univ.filter fun k : Fin 254 => two ((k.val : ℤ) - 126) ≤ a * recip).card
/-- The exponent of the scale of a block whose largest weight is `a`. -/
def ex (a : EReal) : ℤ := if cnt a = 0 then 0 else (cnt a : ℤ) - 126

/-- The largest score of a query. -/
def top (s : Fin 128 → Fin 256 → Fin 128 → EReal) (q : Fin 128) : EReal :=
  Finset.univ.sup fun p : Fin 256 × Fin 128 => s q p.1 p.2
/-- A weight. -/
def wt (s : Fin 128 → Fin 256 → Fin 128 → EReal) (q : Fin 128) (j : Fin 256) (r : Fin 128) : EReal :=
  Ideal.exp (s q j r - top s q)
/-- The largest weight of a key block. -/
def big (s : Fin 128 → Fin 256 → Fin 128 → EReal) (j : Fin 256) : EReal :=
  Finset.univ.sup fun p : Fin 128 × Fin 128 => wt s p.1 j p.2
/-- A code. -/
def code (s : Fin 128 → Fin 256 → Fin 128 → EReal) (q : Fin 128) (j : Fin 256) (r : Fin 128) : EReal :=
  min hi (max lo (wt s q j r * two (-ex (big s j))))
/-- What one key block adds to an output element. -/
def part (s : Fin 128 → Fin 256 → Fin 128 → EReal) (vt : Fin 256 → Fin 128 → Fin 128 → EReal) (vs : Fin 256 → EReal)
    (q d : Fin 128) (j : Fin 256) : EReal :=
  (∑ r : Fin 128, vt j d r * code s q j r) * (two (ex (big s j)) * vs j)
/-- An output element. -/
def out (s : Fin 128 → Fin 256 → Fin 128 → EReal) (vt : Fin 256 → Fin 128 → Fin 128 → EReal) (vs : Fin 256 → EReal)
    (q d : Fin 128) : EReal :=
  Ideal.div (∑ j : Fin 256, part s vt vs q d j) (∑ p : Fin 256 × Fin 128, wt s q p.1 p.2)

/-! ## The exponential -/

/-- The exponential is at least 0. -/
theorem exp_nonneg (x : EReal) : 0 ≤ Ideal.exp x := by
  induction x using EReal.rec with
  | bot => exact le_refl _
  | top => exact le_top
  | coe r => exact EReal.coe_nonneg.2 (Real.exp_pos r).le

/-- The exponential is monotone. -/
theorem exp_mono {x y : EReal} (h : x ≤ y) : Ideal.exp x ≤ Ideal.exp y := by
  induction y using EReal.rec with
  | top => exact le_top
  | bot => rw [le_bot_iff.1 h]
  | coe r =>
    induction x using EReal.rec with
    | top => exact absurd h (not_le.2 (EReal.coe_lt_top r))
    | bot => exact exp_nonneg _
    | coe u => exact EReal.coe_le_coe_iff.2 (Real.exp_le_exp.2 (EReal.coe_le_coe_iff.1 h))

/-- The exponential of 0 is 1. -/
theorem exp_zero : Ideal.exp 0 = 1 := by
  show ((Real.exp 0 : ℝ) : EReal) = 1
  rw [Real.exp_zero]; rfl

/-- The exponential of a number at most 0 is at most 1. -/
theorem exp_le_one {x : EReal} (h : x ≤ 0) : Ideal.exp x ≤ 1 := exp_zero ▸ exp_mono h

/-- The exponential of a difference is monotone in the first number. -/
theorem expm_mono (m : EReal) : Monotone fun x : EReal => Ideal.exp (x - m) :=
  fun _ _ h => exp_mono (EReal.sub_le_sub h le_rfl)

/-- The exponential of minus infinity less a number is 0. -/
theorem expm_bot (m : EReal) : Ideal.exp (⊥ - m) = 0 := by
  rw [sub_eq_add_neg, EReal.bot_add]; rfl

/-- A supremum goes through `x ↦ exp (x - m)`. -/
theorem sup_expm {ι : Type} (t : Finset ι) (ht : t.Nonempty) (f : ι → EReal) (m : EReal) :
    Ideal.exp (t.sup f - m) = t.sup fun i => Ideal.exp (f i - m) := by
  apply le_antisymm
  · obtain ⟨i, hi, e⟩ := Finset.exists_mem_eq_sup t ht f
    rw [e]
    exact Finset.le_sup (f := fun i => Ideal.exp (f i - m)) hi
  · exact Finset.sup_le fun i hi => expm_mono m (Finset.le_sup hi)

/-- A weight is at least 0. -/
theorem wt_nonneg (q j r) : 0 ≤ wt s q j r := exp_nonneg _

/-- A weight is at most 1. -/
theorem wt_le_one (q j r) : wt s q j r ≤ 1 := by
  refine exp_le_one (EReal.sub_nonpos.2 ?_)
  exact Finset.le_sup (f := fun p : Fin 256 × Fin 128 => s q p.1 p.2) (Finset.mem_univ (j, r))

/-- The largest weight of a block is at most 1. -/
theorem big_le_one (j) : big s j ≤ 1 := Finset.sup_le fun p _ => wt_le_one s _ _ _

/-- The reciprocal of 448 is under 1. -/
theorem recip_lt : recip < two 0 := by
  unfold recip two
  simp [Ideal.ofBits, Ideal.ieee]
  rw [← EReal.coe_mul, ← EReal.coe_one, EReal.coe_lt_coe_iff]; norm_num

/-- The reciprocal of 448 is at least 0. -/
theorem recip_nonneg : 0 ≤ recip := by
  unfold recip
  simp [Ideal.ofBits, Ideal.ieee]
  refine mul_nonneg ?_ ?_ <;> exact EReal.coe_nonneg.2 (by positivity)

/-- The largest code is at least 0. -/
theorem hi_nonneg : 0 ≤ hi := by
  unfold hi
  simp [Ideal.ofBits, Ideal.ieee]
  refine mul_nonneg ?_ ?_ <;> exact EReal.coe_nonneg.2 (by positivity)

/-- The least code is at most 0. -/
theorem lo_nonpos : lo ≤ 0 := by
  unfold lo
  simp [Ideal.ofBits, Ideal.ieee]
  refine mul_nonneg ?_ ?_ <;> exact EReal.coe_nonneg.2 (by positivity)

/-- The powers of two are monotone in the exponent. -/
theorem two_le {a b : ℤ} (h : a ≤ b) : two a ≤ two b :=
  EReal.coe_le_coe_iff.2 (zpow_le_zpow_right₀ (by norm_num) h)

/-- At most 126 powers are reached by a number at most one. -/
theorem cnt_le {a : EReal} (h : a ≤ 1) : cnt a ≤ 126 := by
  have hlt : a * recip < two 0 := lt_of_le_of_lt (by simpa using mul_le_mul_of_nonneg_right h recip_nonneg) recip_lt
  have hsub : (Finset.univ.filter fun k : Fin 254 => two ((k.val : ℤ) - 126) ≤ a * recip) ⊆ Finset.univ.filter fun k : Fin 254 => k.val < 126 := by
    intro k hk
    simp only [Finset.mem_filter, Finset.mem_univ, true_and] at hk ⊢
    by_contra hc
    exact absurd (lt_of_le_of_lt ((two_le (by omega)).trans hk) hlt) (lt_irrefl _)
  exact (Finset.card_le_card hsub).trans (by decide +kernel)

/-! ## Keys outside the window -/

/-- A masked score has weight zero. -/
theorem wt_bot {q j r} (h : s q j r = ⊥) : wt s q j r = 0 := by unfold wt; rw [h, expm_bot]

/-- A weight of 0 has the code 0. -/
theorem code_zero {q j r} (h : wt s q j r = 0) : code s q j r = 0 := by
  unfold code; rw [h, zero_mul, max_eq_right lo_nonpos, min_eq_right hi_nonneg]

/-- A key block outside the window adds nothing. -/
theorem part_zero (vt vs) {q j} (d) (h : ∀ r, s q j r = ⊥) : part s vt vs q d j = 0 := by
  unfold part
  rw [Finset.sum_eq_zero fun r _ => by rw [code_zero s (wt_bot s (h r)), mul_zero], zero_mul]

/-- The key block that position `n` of the window of query block `i` reads. -/
def kb (i : Fin 256) (n : ℕ) : Fin 256 := Fin.ofNat 256 (i.val + n - 32)
/-- The first position of the window. -/
def first (i : Fin 256) : ℕ := 32 - i.val

/-- The number of a key block of the window. -/
theorem kb_val (i : Fin 256) {n : ℕ} (h : n < 33) : (kb i n).val = i.val + n - 32 := by
  show (i.val + n - 32) % 256 = _
  exact Nat.mod_eq_of_lt (by omega)

/-- A sum over all key blocks is the sum over the window, if the others add nothing. -/
theorem sum_window (i : Fin 256) (f : Fin 256 → EReal) (h : ∀ j : Fin 256, i < j ∨ j.val + 32 < i.val → f j = 0) :
    ∑ j, f j = ∑ n ∈ Finset.Ico (first i) 33, f (kb i n) := by
  symm
  unfold first
  refine Finset.sum_bij_ne_zero (fun n _ _ => kb i n) (fun _ _ _ => Finset.mem_univ _) ?_ ?_ (fun _ _ _ => rfl)
  · intro n hn _ n' hn' _ e
    have hn := Finset.mem_Ico.1 hn; have hn' := Finset.mem_Ico.1 hn'
    have e := congrArg Fin.val e
    rw [kb_val i hn.2, kb_val i hn'.2] at e
    omega
  · intro j _ hj
    have hw : ¬ (i < j ∨ j.val + 32 < i.val) := fun hc => hj (h j hc)
    have hij : ¬ i.val < j.val := fun hc => hw (.inl hc)
    have hji : ¬ j.val + 32 < i.val := fun hc => hw (.inr hc)
    have hk : kb i (j.val + 32 - i.val) = j := by
      apply Fin.ext; rw [kb_val i (by omega)]; omega
    exact ⟨j.val + 32 - i.val, Finset.mem_Ico.2 ⟨by omega, by omega⟩, by rw [hk]; exact hj, hk⟩

/-- What the kernel keeps of the scores: at row `R = 8 n + a` the largest score of the keys `8 x + a` of position `n`, and minus infinity
    before the window. -/
def PMax (i : Fin 256) (q : Fin 128) (R : Fin 264) : EReal :=
  if first i ≤ R.val / 8 then Finset.univ.sup fun x : Fin 16 => s q (kb i (R.val / 8)) (Fin.ofNat 128 (x.val * 8 + R.val % 8)) else ⊥

/-- Its supremum is the largest score. -/
theorem sup_PMax (i : Fin 256) (h : ∀ q j r, i < j ∨ j.val + 32 < i.val → s q j r = ⊥) (q : Fin 128) :
    (Finset.univ.sup fun R => PMax s i q R) = top s q := by
  apply le_antisymm
  · refine Finset.sup_le fun R _ => ?_
    unfold PMax
    split_ifs
    · exact Finset.sup_le fun x _ => Finset.le_sup (f := fun p : Fin 256 × Fin 128 => s q p.1 p.2) (Finset.mem_univ (_, _))
    · exact bot_le
  · refine Finset.sup_le fun p _ => ?_
    obtain ⟨j, r⟩ := p
    by_cases hw : i < j ∨ j.val + 32 < i.val
    · rw [h q j r hw]; exact bot_le
    · have hij : ¬ i.val < j.val := fun hc => hw (.inl hc)
      have hji : ¬ j.val + 32 < i.val := fun hc => hw (.inr hc)
      have hR : (j.val + 32 - i.val) * 8 + r.val % 8 < 264 := by omega
      refine le_trans ?_ (Finset.le_sup (f := fun R => PMax s i q R) (Finset.mem_univ ⟨_, hR⟩))
      have h1 : ((j.val + 32 - i.val) * 8 + r.val % 8) / 8 = j.val + 32 - i.val := by omega
      have h2 : ((j.val + 32 - i.val) * 8 + r.val % 8) % 8 = r.val % 8 := by omega
      unfold PMax
      dsimp only
      rw [h1, h2, if_pos (by unfold first; omega)]
      have hk : kb i (j.val + 32 - i.val) = j := by
        apply Fin.ext; rw [kb_val i (by omega)]; omega
      rw [hk]
      refine le_trans (le_of_eq ?_) (Finset.le_sup (f := fun x : Fin 16 => s q j (Fin.ofNat 128 (x.val * 8 + r.val % 8))) (Finset.mem_univ ⟨r.val / 8, by omega⟩))
      congr 1
      apply Fin.ext
      show r.val = (r.val / 8 * 8 + r.val % 8) % 128
      omega

/-- The kernel's largest weight of position `n` is that of the key block it reads. -/
theorem big_window (i : Fin 256) (n : Fin 33) (hn : first i ≤ n.val) :
    (Finset.univ.sup fun q : Fin 128 => Finset.univ.sup fun a : Fin 8 =>
        Ideal.exp (PMax s i q ⟨n.val * 8 + a.val, by omega⟩ - top s q)) = big s (kb i n) := by
  have e : ∀ (q : Fin 128) (a : Fin 8), Ideal.exp (PMax s i q ⟨n.val * 8 + a.val, by omega⟩ - top s q)
      = Finset.univ.sup fun x : Fin 16 => wt s q (kb i n) (Fin.ofNat 128 (x.val * 8 + a.val)) := by
    intro q a
    have h1 : (n.val * 8 + a.val) / 8 = n.val := by omega
    have h2 : (n.val * 8 + a.val) % 8 = a.val := by omega
    unfold PMax
    dsimp only
    rw [h1, h2, if_pos hn, sup_expm _ ⟨0, Finset.mem_univ _⟩]; rfl
  simp only [e]
  unfold big
  apply le_antisymm
  · exact Finset.sup_le fun q _ => Finset.sup_le fun a _ => Finset.sup_le fun x _ =>
      Finset.le_sup (f := fun p : Fin 128 × Fin 128 => wt s p.1 (kb i n) p.2) (Finset.mem_univ (_, _))
  · refine Finset.sup_le fun p _ => ?_
    obtain ⟨q, r⟩ := p
    refine le_trans ?_ (Finset.le_sup (f := fun q : Fin 128 => Finset.univ.sup fun a : Fin 8 => Finset.univ.sup fun x : Fin 16 => wt s q (kb i n) (Fin.ofNat 128 (x.val * 8 + a.val))) (Finset.mem_univ q))
    refine le_trans ?_ (Finset.le_sup (f := fun a : Fin 8 => Finset.univ.sup fun x : Fin 16 => wt s q (kb i n) (Fin.ofNat 128 (x.val * 8 + a.val))) (Finset.mem_univ ⟨r.val % 8, by omega⟩))
    refine le_trans (le_of_eq ?_) (Finset.le_sup (f := fun x : Fin 16 => wt s q (kb i n) (Fin.ofNat 128 (x.val * 8 + r.val % 8))) (Finset.mem_univ ⟨r.val / 8, by omega⟩))
    congr 1
    apply Fin.ext
    show r.val = (r.val / 8 * 8 + r.val % 8) % 128
    omega

/-- The output over the window alone: the form in which the kernel adds it up. -/
theorem out_window (vt vs) (i : Fin 256) (h : ∀ q j r, i < j ∨ j.val + 32 < i.val → s q j r = ⊥) (q d : Fin 128) :
    out s vt vs q d = Ideal.div (∑ n ∈ Finset.Ico (first i) 33, part s vt vs q d (kb i n))
      (∑ a : Fin 8, ∑ n ∈ Finset.Ico (first i) 33, ∑ x : Fin 16, wt s q (kb i n) (Fin.ofNat 128 (x.val * 8 + a.val))) := by
  unfold out
  rw [sum_window i _ fun j hj => part_zero s vt vs d fun r => h q j r hj]
  congr 1
  rw [show (∑ p : Fin 256 × Fin 128, wt s q p.1 p.2) = ∑ j : Fin 256, ∑ r : Fin 128, wt s q j r by rw [Fintype.sum_prod_type],
    sum_window i (fun j => ∑ r : Fin 128, wt s q j r) fun j hj => Finset.sum_eq_zero fun r _ => wt_bot s (h q j r hj),
    Finset.sum_comm (s := (Finset.univ : Finset (Fin 8)))]
  refine Finset.sum_congr rfl fun n _ => ?_
  rw [show (∑ a : Fin 8, ∑ x : Fin 16, wt s q (kb i n) (Fin.ofNat 128 (x.val * 8 + a.val)))
      = ∑ p : Fin 8 × Fin 16, wt s q (kb i n) (Fin.ofNat 128 (p.2.val * 8 + p.1.val)) by rw [Fintype.sum_prod_type]]
  refine Finset.sum_bij' (fun (r : Fin 128) _ => ((⟨r.val % 8, by omega⟩, ⟨r.val / 8, by omega⟩) : Fin 8 × Fin 16)) (fun p _ => ⟨p.2.val * 8 + p.1.val, by omega⟩)
    (fun _ _ => Finset.mem_univ _) (fun _ _ => Finset.mem_univ _) ?_ ?_ ?_
  · intro r _; apply Fin.ext; show r.val / 8 * 8 + r.val % 8 = r.val; omega
  · rintro ⟨a, x⟩ _
    refine Prod.ext (Fin.ext ?_) (Fin.ext ?_)
    · show (x.val * 8 + a.val) % 8 = a.val; omega
    · show (x.val * 8 + a.val) / 8 = x.val; omega
  · intro r _
    congr 1
    apply Fin.ext
    show r.val = (r.val / 8 * 8 + r.val % 8) % 128
    omega

/-! ## Powers of two as words and as powers -/

/-- The word of a power of two. -/
theorem ofBits_two (k : ℕ) (h0 : 0 < k) (h : k < 255) : Ideal.ofBits .f32 (BitVec.ofNat 32 (k * 2 ^ 23)) = two ((k : ℤ) - 127) := by
  have hv : (BitVec.ofNat 32 (k * 2 ^ 23)).toNat = k * 2 ^ 23 := by
    rw [BitVec.toNat_ofNat]; exact Nat.mod_eq_of_lt (by omega)
  revert hv
  generalize BitVec.ofNat 32 (k * 2 ^ 23) = w
  intro hv
  have e1 : (w.extractLsb' 31 1 == 1#1) = false := by
    rw [beq_eq_false_iff_ne]; intro hc
    have := congrArg BitVec.toNat hc
    rw [BitVec.extractLsb'_toNat, hv, Nat.shiftRight_eq_div_pow] at this
    have h1 : k * 2 ^ 23 / 2 ^ 31 = 0 := by omega
    rw [h1] at this
    exact absurd this (by decide)
  have e2 : (w.extractLsb' 23 8).toNat = k := by
    rw [BitVec.extractLsb'_toNat, hv, Nat.shiftRight_eq_div_pow]; omega
  have e3 : (w.extractLsb' 0 23).toNat = 0 := by
    rw [BitVec.extractLsb'_toNat, hv, Nat.shiftRight_eq_div_pow]; omega
  show Ideal.ieee 8 23 w = _
  unfold Ideal.ieee
  have e1' : (w.extractLsb' (8 + 23) 1 == 1#1) = false := e1
  rw [e1', e2, e3]
  have hk1 : k ≠ 2 ^ 8 - 1 := by omega
  have hk0 : k ≠ 0 := by omega
  simp only [hk1, hk0, if_false]
  unfold two
  have h2 : (2 : ℝ) ≠ 0 := by norm_num
  rw [show ((k : ℤ) - 127) = ((23 : ℕ) : ℤ) + ((k : ℤ) - (2 ^ (8 - 1) - 1) - (23 : ℕ)) by push_cast; ring, zpow_add₀ h2, zpow_natCast]
  refine congrArg (fun x : ℝ => (x : EReal)) ?_
  norm_num

/-- A power as the host computes it. -/
theorem pow_two (e : ℤ) : Ideal.pow (Ideal.ofBits .f32 1073741824#32) ((e : ℝ) : EReal) = two e := by
  have : Ideal.ofBits .f32 1073741824#32 = ((2 : ℝ) : EReal) := by
    have := ofBits_two 128 (by omega) (by omega)
    rw [show (1073741824#32) = BitVec.ofNat 32 (128 * 2 ^ 23) by decide, this]
    unfold two; norm_num
  rw [this]
  show ((Real.rpow 2 (e : ℝ) : ℝ) : EReal) = _
  unfold two
  congr 1
  exact Real.rpow_intCast 2 e

end Cert.Spec
-- ==== Proof.KerPoint.lean ====
module

public import proofs.«01_k».proof.Proof.Gen.KernelIdeal
public import proofs.«01_k».proof.Proof.Gen.KernelIdeal.Skeleton
public import proofs.«01_k».proof.Proof.Spec
public import Idealize.ShloMosaic.Lib.Pipeline.ValueKit
public import Idealize.ShloMosaic.Lib.Pointwise
public import Idealize.ShloMosaic.Lib.IndicatorCount

/-!
The values the attention body computes, read at one index.
-/

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-- The word of minus infinity. -/
theorem negInf : Ideal.ofBits .f32 4286578688#32 = ⊥ := by
  simp [Ideal.ofBits, Ideal.ieee]

/-- A column of the wide blocks: head group `g`, query `q`. -/
abbrev col (g : Fin 4) (q : Fin 128) : Fin 512 := ⟨g.val * 128 + q.val, by omega⟩

variable (g : Fin 4) (q d r l : Fin 128) (a : Fin 8) (c : Fin 512) (n : Fin 33)

/-- The four query groups stacked. -/
theorem pay7_at (v2 v4 v6 v8 : Vec Ideal S1x128x128 .fp8e4m3) :
    k0_pay7 (F := Ideal) v2 v4 v6 v8 (ix2 (col g q) l) = (![v2, v4, v6, v8] g) (ix3 0 q l) := by
  fin_cases g <;> pointwise [k0_pay7]
  all_goals first
    | rfl
    | (rw [dif_neg (by omega), dif_neg (by omega), dif_pos (by omega)]
       have e (h) : (⟨256 + q.val - 128 - 128, h⟩ : Fin 128) = q := Fin.ext (by show 256 + q.val - 128 - 128 = q.val; omega)
       simp only [e]; try rfl)
    | (rw [dif_neg (by omega), dif_neg (by omega), dif_neg (by omega)]
       have e (h) : (⟨384 + q.val - 128 - 128 - 128, h⟩ : Fin 128) = q := Fin.ext (by show 384 + q.val - 128 - 128 - 128 = q.val; omega)
       simp only [e]; try rfl)

/-- The four query scales side by side. -/
theorem pay8_at (v2 v4 v6 v8 : EReal) :
    k0_pay8 (F := Ideal) v2 v4 v6 v8 (ix2 0 (col g q)) = ![v2, v4, v6, v8] g := by
  fin_cases g <;> pointwise [k0_pay8]
  all_goals first
    | rfl
    | (split_ifs <;> first | rfl | omega)

/-- An unmasked scaled score. -/
theorem pay13_at (v10 v32 v317) (v325 : EReal) :
    k0_pay13 (F := Ideal) v10 v32 v317 v325 (ix2 r c)
      = (∑ l : Fin 128, v317 (ix4 0 0 r l) * v10 (ix2 c l)) * (v32 (ix2 0 c) * v325 * Ideal.ofBits .f32 1035273459#32) := by
  pointwise [k0_pay13]

/-- The stored block is the scores. -/
theorem pay14_at (v10 v32 v317) (v325 : EReal) :
    k0_pay14 (F := Ideal) v10 v32 v317 v325 (ix2 r c) = k0_pay13 (F := Ideal) v10 v32 v317 v325 (ix2 r c) := by
  pointwise [k0_pay14]

/-- The same scores of the diagonal block. -/
theorem pay19_at (v10 v32 v317) (v325 : EReal) :
    k0_pay19 (F := Ideal) v10 v32 v317 v325 (ix2 r c)
      = (∑ l : Fin 128, v317 (ix4 0 0 r l) * v10 (ix2 c l)) * (v32 (ix2 0 c) * v325 * Ideal.ofBits .f32 1035273459#32) := by
  pointwise [k0_pay19]

/-- A mask repeated for the four groups. -/
theorem mask4_at (M : IVec S128x128 1) :
    concatenate (α := BitVec 1) S128x512 1 [⟨S128x128, M⟩, ⟨S128x128, M⟩, ⟨S128x128, M⟩, ⟨S128x128, M⟩] concatenates_S128x128_S128x128_S128x128_S128x128_S128x512_d1 (ix2 r (col g q)) = M (ix2 r q) := by
  fin_cases g <;> pointwise []
  all_goals first
    | rfl
    | (rw [dif_neg (by omega), dif_neg (by omega), dif_pos (by omega)]
       have e (h) : (⟨256 + q.val - 128 - 128, h⟩ : Fin 128) = q := Fin.ext (by show 256 + q.val - 128 - 128 = q.val; omega)
       simp only [e]; try rfl)
    | (rw [dif_neg (by omega), dif_neg (by omega), dif_neg (by omega)]
       have e (h) : (⟨384 + q.val - 128 - 128 - 128, h⟩ : Fin 128) = q := Fin.ext (by show 384 + q.val - 128 - 128 - 128 = q.val; omega)
       simp only [e]; try rfl)

/-- The first block keeps the keys after the query within the block. -/
theorem pay11_at (v10 v32 v33 v34 v317) (v325 : EReal) :
    k0_pay11 (F := Ideal) v10 v32 v33 v34 v317 v325 (ix2 r (col g q))
      = Scalar.select (IntOp.cmpi .sgt (v33 (ix2 r q)) (v34 (ix2 r q)))
          ((∑ l : Fin 128, v317 (ix4 0 0 r l) * v10 (ix2 (col g q) l)) * (v32 (ix2 0 (col g q)) * v325 * Ideal.ofBits .f32 1035273459#32))
          (Ideal.ofBits FTy.f32 4286578688#32) := by
  show _ = Scalar.select (cmpi .sgt v33 v34 (ix2 r q)) _ _
  rw [← mask4_at g q r (cmpi .sgt v33 v34)]
  generalize col g q = c
  unfold k0_pay11 k0_pay10
  dsimp only
  generalize concatenate (α := BitVec 1) S128x512 1 _ _ = M
  pointwise []

/-- The diagonal block keeps the keys up to the query. -/
theorem pay20_at (v33 v34) :
    k0_pay20 v33 v34 (ix2 r (col g q)) = IntOp.cmpi .sle (v33 (ix2 r q)) (v34 (ix2 r q)) := by
  exact mask4_at g q r (cmpi .sle v33 v34)

/-- The stored diagonal block. -/
theorem pay23_at (v67 v68) :
    k0_pay23 (F := Ideal) v67 v68 (k0_pay21 (F := Ideal)) (ix2 r c) = Scalar.select (v68 (ix2 r c)) (v67 (ix2 r c)) (Ideal.ofBits FTy.f32 4286578688#32) := by
  pointwise [k0_pay23, k0_pay22, k0_pay21]

/-- The partial maxima of a middle block: over the sixteen rows of one residue. -/
theorem pay15_at (v10 v32 v317) (v325 : EReal) :
    k0_pay15 (F := Ideal) v10 v32 v317 v325 (ix2 a c)
      = Finset.univ.sup fun x : Fin 16 => k0_pay14 (F := Ideal) v10 v32 v317 v325 (ix2 ⟨x.val * 8 + a.val, by omega⟩ c) := by
  pointwise [k0_pay15, k0_pay14]
  rw [negInf]; rfl

/-- The partial maxima of the first block. -/
theorem pay12_at (v10 v32 v33 v34 v317) (v325 : EReal) :
    k0_pay12 (F := Ideal) v10 v32 v33 v34 v317 v325 (ix2 a c)
      = Finset.univ.sup fun x : Fin 16 => k0_pay11 (F := Ideal) v10 v32 v33 v34 v317 v325 (ix2 ⟨x.val * 8 + a.val, by omega⟩ c) := by
  generalize hX : k0_pay10 (F := Ideal) v10 v32 v33 v34 v317 v325 = X
  pointwise [k0_pay12, k0_pay11]
  rw [negInf, hX]; rfl

/-- The partial maxima of the diagonal block. -/
theorem pay24_at (v67 v68 v69) :
    k0_pay24 (F := Ideal) v67 v68 v69 (ix2 a c)
      = Finset.univ.sup fun x : Fin 16 => k0_pay23 (F := Ideal) v67 v68 v69 (ix2 ⟨x.val * 8 + a.val, by omega⟩ c) := by
  generalize hX : k0_pay22 (F := Ideal) v67 v68 v69 = X
  pointwise [k0_pay24, k0_pay23]
  rw [negInf, hX]; rfl

/-- The fill of the partial maxima. -/
theorem pay9_at (R : Fin 264) : k0_pay9 (F := Ideal) (ix2 R c) = Ideal.ofBits FTy.f32 4286578688#32 := by
  pointwise [k0_pay9]

/-- The maximum of a column. -/
theorem pay25_at (v79) : k0_pay25 (F := Ideal) v79 (ix2 0 c) = Finset.univ.sup fun R : Fin 264 => v79 (ix2 R c) := by
  pointwise [k0_pay25]
  rw [negInf]; rfl

/-- The largest weight of a window position in a column. -/
theorem pay26_at (v79) : k0_pay26 (F := Ideal) v79 (ix2 n c)
    = Finset.univ.sup fun a : Fin 8 => Ideal.exp (v79 (ix2 ⟨n.val * 8 + a.val, by omega⟩ c) - k0_pay25 (F := Ideal) v79 (ix2 0 c)) := by
  pointwise [k0_pay26]
  rw [negInf]; rfl

/-- The weights of a block. -/
theorem pay1_at (v81 v317) : k0_pay1 (F := Ideal) v81 v317 (ix2 r c) = Ideal.exp (v317 (ix2 r c) - v81 (ix2 0 c)) := by
  pointwise [k0_pay1]

/-- A step of the running denominators. -/
theorem pay2_at (v81 arg16 v317) : k0_pay2 (F := Ideal) v81 arg16 v317 (ix2 a c)
    = arg16 (ix2 a c) + ∑ x : Fin 16, Ideal.exp (v317 (ix2 ⟨x.val * 8 + a.val, by omega⟩ c) - v81 (ix2 0 c)) := by
  pointwise [k0_pay2, k0_pay1]

/-- A step of the accumulator. -/
theorem pay3_at (v81 v317 v325 v334 v338) (v344 : EReal) (v347) :
    k0_pay3 (F := Ideal) v81 v317 v325 v334 v338 v344 v347 (ix2 d c)
      = v347 (ix2 d c) + (∑ r : Fin 128, v334 (ix5 0 0 0 d r) * min hi (max lo (Ideal.exp (v317 (ix2 r c) - v81 (ix2 0 c)) * v325 (ix2 0 c))))
          * (v338 (ix2 0 c) * v344) := by
  pointwise [k0_pay3, k0_pay1, hi, lo]

/-- The accumulator starts at zero. -/
theorem pay48_at : k0_pay48 (F := Ideal) (ix2 d c) = Ideal.ofBits .f32 0#32 := by
  pointwise [k0_pay48]

/-- The denominators start at zero. -/
theorem pay49_at : k0_pay49 (F := Ideal) (ix2 a c) = Ideal.ofBits .f32 0#32 := by
  pointwise [k0_pay49]

/-- The accumulator is stored as it is. -/
theorem pay50_at (v) : k0_pay50 (F := Ideal) v (ix2 d c) = v (ix2 d c) := by
  pointwise [k0_pay50]

/-- The output of group 0. -/
theorem pay53_at (v282 v283) : k0_pay53 (F := Ideal) v282 v283 (ix3 0 q d)
    = Ideal.div (v283 (ix2 d (col 0 q))) (∑ a : Fin 8, v282 (ix2 a (col 0 q))) := by
  pointwise [k0_pay53, k0_pay52]
  have e (h) : (⟨q.val, h⟩ : Fin 512) = col 0 q := Fin.ext (by show q.val = 0 * 128 + q.val; omega)
  simp only [e]

/-- The output of group 1. -/
theorem pay54_at (v282 v283) : k0_pay54 (F := Ideal) v282 v283 (ix3 0 q d)
    = Ideal.div (v283 (ix2 d (col 1 q))) (∑ a : Fin 8, v282 (ix2 a (col 1 q))) := by
  pointwise [k0_pay54, k0_pay52]
  have e (h) : (⟨128 + q.val, h⟩ : Fin 512) = col 1 q := Fin.ext (by show 128 + q.val = 1 * 128 + q.val; omega)
  simp only [e]

/-- The output of group 2. -/
theorem pay55_at (v282 v283) : k0_pay55 (F := Ideal) v282 v283 (ix3 0 q d)
    = Ideal.div (v283 (ix2 d (col 2 q))) (∑ a : Fin 8, v282 (ix2 a (col 2 q))) := by
  pointwise [k0_pay55, k0_pay52]
  have e (h) : (⟨256 + q.val, h⟩ : Fin 512) = col 2 q := Fin.ext (by show 256 + q.val = 2 * 128 + q.val; omega)
  simp only [e]

/-- The output of group 3. -/
theorem pay56_at (v282 v283) : k0_pay56 (F := Ideal) v282 v283 (ix3 0 q d)
    = Ideal.div (v283 (ix2 d (col 3 q))) (∑ a : Fin 8, v282 (ix2 a (col 3 q))) := by
  pointwise [k0_pay56, k0_pay52]
  have e (h) : (⟨384 + q.val, h⟩ : Fin 512) = col 3 q := Fin.ext (by show 384 + q.val = 3 * 128 + q.val; omega)
  simp only [e]

/-- The word of the power of two at a position of the table. -/
theorem word_table : ∀ k : Fin 254, IntOp.shli ArithUnit.vector (IntOp.addi (IntOp.subi (BitVec.ofNat 32 k.val) 126#32) 127#32) 23#32 = BitVec.ofNat 32 ((k.val + 1) * 2 ^ 23) := by
  decide

/-- The exponent word of a count. -/
def sel (w : BitVec 32) : BitVec 32 := Scalar.select (IntOp.cmpi .eq w 0#32) 0#32 (IntOp.subi w 126#32)

/-- The word of the inverse scale of a count. -/
theorem word_inv : ∀ k : Fin 127, IntOp.shli ArithUnit.vector (IntOp.addi (IntOp.subi 0#32 (sel (BitVec.ofNat 32 k.val))) 127#32) 23#32 = BitVec.ofNat 32 ((if k.val = 0 then 127 else 253 - k.val) * 2 ^ 23) := by
  decide

/-- The word of the scale of a count. -/
theorem word_scale : ∀ k : Fin 127, IntOp.shli ArithUnit.vector (IntOp.addi (sel (BitVec.ofNat 32 k.val)) 127#32) 23#32 = BitVec.ofNat 32 ((if k.val = 0 then 127 else k.val + 1) * 2 ^ 23) := by
  decide

/-- Counting the powers of two of the table that a value reaches. -/
theorem count_at (A : EReal) : Finset.fold IntOp.addi (0#32)
      (fun x : Fin 254 =>
        BitVec.setWidth 32
          (BitVec.ofBool
            (decide
              (Ideal.ofBits FTy.f32
                  (IntOp.shli ArithUnit.vector (IntOp.addi (IntOp.subi (BitVec.ofNat 32 x.val) 126#32) 127#32) 23#32) ≤
                A * Ideal.ofBits FTy.f32 991054117#32))))
      Finset.univ = BitVec.ofNat 32 (cnt A) := by
  rw [IndicatorCount.fold_addi_setWidth_eq_card]
  unfold cnt
  congr 2
  apply Finset.filter_congr
  intro k _
  rw [word_table, ofBits_two _ (by omega) (by omega)]
  have e : (((k.val + 1 : ℕ) : ℤ) - 127) = (k.val : ℤ) - 126 := by push_cast; ring
  rw [e]
  by_cases hk : two ((k.val : ℤ) - 126) ≤ A * Ideal.ofBits FTy.f32 991054117#32
  · simp only [hk, recip]; decide
  · simp only [hk, recip]; decide

/-- The inverse scale of a value at most one. -/
theorem inv_word (A : EReal) (h : A ≤ 1) : Ideal.ofBits .f32 (IntOp.shli ArithUnit.vector (IntOp.addi (IntOp.subi 0#32 (sel (BitVec.ofNat 32 (cnt A)))) 127#32) 23#32) = two (-ex A) := by
  have hc := cnt_le h
  rw [word_inv ⟨cnt A, by omega⟩, ofBits_two _ (by split_ifs <;> omega) (by split_ifs <;> omega)]
  unfold ex
  congr 1
  dsimp only
  split_ifs <;> omega

/-- The scale of a value at most one. -/
theorem scale_word (A : EReal) (h : A ≤ 1) : Ideal.ofBits .f32 (IntOp.shli ArithUnit.vector (IntOp.addi (sel (BitVec.ofNat 32 (cnt A))) 127#32) 23#32) = two (ex A) := by
  have hc := cnt_le h
  rw [word_scale ⟨cnt A, by omega⟩, ofBits_two _ (by split_ifs <;> omega) (by split_ifs <;> omega)]
  unfold ex
  congr 1
  dsimp only
  split_ifs <;> omega

/-- The count of group 0. -/
theorem pay27_at (v79) : k0_pay27 (F := Ideal) v79 (ix2 n 0)
    = BitVec.ofNat 32 (cnt (Finset.univ.sup fun q : Fin 128 => k0_pay26 (F := Ideal) v79 (ix2 n (col 0 q)))) := by
  rw [← count_at]
  generalize hX : k0_pay26 (F := Ideal) v79 = X
  pointwise [k0_pay27]
  rw [hX, negInf]
  have e (x : Fin 128) (h) : (⟨x.val, h⟩ : Fin 512) = col 0 x := Fin.ext (by show x.val = 0 * 128 + x.val; omega)
  simp only [e]
  rfl

/-- The inverse scale of group 0. -/
theorem pay32_at (v79) (h : (Finset.univ.sup fun q : Fin 128 => k0_pay26 (F := Ideal) v79 (ix2 n (col 0 q))) ≤ 1) :
    k0_pay32 (F := Ideal) (k0_pay28 (F := Ideal) v79) (k0_pay29 (F := Ideal) v79) k0_pay30 (ix2 n q) = two (-ex (Finset.univ.sup fun q : Fin 128 => k0_pay26 (F := Ideal) v79 (ix2 n (col 0 q)))) := by
  rw [← inv_word _ h, ← pay27_at]
  generalize hX : k0_pay27 (F := Ideal) v79 = X
  unfold sel
  pointwise [k0_pay32, k0_pay31, k0_pay28, k0_pay29, k0_pay30]
  try rw [hX]

/-- The scale of group 0. -/
theorem pay33_at (v79) (h : (Finset.univ.sup fun q : Fin 128 => k0_pay26 (F := Ideal) v79 (ix2 n (col 0 q))) ≤ 1) :
    k0_pay33 (F := Ideal) (k0_pay28 (F := Ideal) v79) (k0_pay29 (F := Ideal) v79) k0_pay30 (ix2 n q) = two (ex (Finset.univ.sup fun q : Fin 128 => k0_pay26 (F := Ideal) v79 (ix2 n (col 0 q)))) := by
  rw [← scale_word _ h, ← pay27_at]
  generalize hX : k0_pay27 (F := Ideal) v79 = X
  unfold sel
  pointwise [k0_pay33, k0_pay31, k0_pay28, k0_pay29, k0_pay30]
  try rw [hX]

/-- The count of group 1. -/
theorem pay34_at (v86) : k0_pay34 (F := Ideal) v86 (ix2 n 0) = BitVec.ofNat 32 (cnt (Finset.univ.sup fun q : Fin 128 => v86 (ix2 n (col 1 q)))) := by
  rw [← count_at]
  pointwise [k0_pay34]
  rw [negInf]
  have e (x : Fin 128) (h) : (⟨128 + x.val, h⟩ : Fin 512) = col 1 x := Fin.ext (by show 128 + x.val = 1 * 128 + x.val; omega)
  simp only [e]
  rfl

/-- The inverse scale of group 1. -/
theorem pay37_at (v86) (h : (Finset.univ.sup fun q : Fin 128 => v86 (ix2 n (col 1 q))) ≤ 1) :
    k0_pay37 (F := Ideal) (k0_pay34 (F := Ideal) v86) k0_pay35 (ix2 n q) = two (-ex (Finset.univ.sup fun q : Fin 128 => v86 (ix2 n (col 1 q)))) := by
  rw [← inv_word _ h, ← pay34_at]
  generalize k0_pay34 (F := Ideal) v86 = X
  unfold sel
  pointwise [k0_pay37, k0_pay36, k0_pay35]

/-- The scale of group 1. -/
theorem pay38_at (v86) (h : (Finset.univ.sup fun q : Fin 128 => v86 (ix2 n (col 1 q))) ≤ 1) :
    k0_pay38 (F := Ideal) (k0_pay34 (F := Ideal) v86) k0_pay35 (ix2 n q) = two (ex (Finset.univ.sup fun q : Fin 128 => v86 (ix2 n (col 1 q)))) := by
  rw [← scale_word _ h, ← pay34_at]
  generalize k0_pay34 (F := Ideal) v86 = X
  unfold sel
  pointwise [k0_pay38, k0_pay36, k0_pay35]

/-- The exponent word of group 2. -/
theorem pay40_at (v86) : k0_pay40 (k0_pay39 (F := Ideal) v86) (ix2 n 0) = sel (BitVec.ofNat 32 (cnt (Finset.univ.sup fun q : Fin 128 => v86 (ix2 n (col 2 q))))) := by
  rw [← count_at]
  unfold sel
  pointwise [k0_pay40, k0_pay39]
  rw [negInf]
  have e (x : Fin 128) (h) : (⟨256 + x.val, h⟩ : Fin 512) = col 2 x := Fin.ext (by show 256 + x.val = 2 * 128 + x.val; omega)
  simp only [e]
  rfl

/-- The inverse scale of group 2. -/
theorem pay41_at (v86) (h : (Finset.univ.sup fun q : Fin 128 => v86 (ix2 n (col 2 q))) ≤ 1) :
    k0_pay41 (F := Ideal) (k0_pay39 (F := Ideal) v86) (ix2 n q) = two (-ex (Finset.univ.sup fun q : Fin 128 => v86 (ix2 n (col 2 q)))) := by
  rw [← inv_word _ h, ← pay40_at]
  unfold k0_pay41
  generalize k0_pay40 (k0_pay39 (F := Ideal) v86) = X
  pointwise []

/-- The scale of group 2. -/
theorem pay42_at (v86) (h : (Finset.univ.sup fun q : Fin 128 => v86 (ix2 n (col 2 q))) ≤ 1) :
    k0_pay42 (F := Ideal) (k0_pay39 (F := Ideal) v86) (ix2 n q) = two (ex (Finset.univ.sup fun q : Fin 128 => v86 (ix2 n (col 2 q)))) := by
  rw [← scale_word _ h, ← pay40_at]
  unfold k0_pay42
  generalize k0_pay40 (k0_pay39 (F := Ideal) v86) = X
  pointwise []

/-- The exponent word of group 3. -/
theorem pay45_at (v86) : k0_pay45 (F := Ideal) (k0_pay43 (F := Ideal) v86) k0_pay44 (ix2 n 0) = sel (BitVec.ofNat 32 (cnt (Finset.univ.sup fun q : Fin 128 => v86 (ix2 n (col 3 q))))) := by
  rw [← count_at]
  unfold sel
  pointwise [k0_pay45, k0_pay44, k0_pay43]
  rw [negInf]
  have e (x : Fin 128) (h) : (⟨384 + x.val, h⟩ : Fin 512) = col 3 x := Fin.ext (by show 384 + x.val = 3 * 128 + x.val; omega)
  simp only [e]
  rfl

/-- The inverse scale of group 3. -/
theorem pay46_at (v86) (h : (Finset.univ.sup fun q : Fin 128 => v86 (ix2 n (col 3 q))) ≤ 1) :
    k0_pay46 (F := Ideal) (k0_pay43 (F := Ideal) v86) k0_pay44 (ix2 n q) = two (-ex (Finset.univ.sup fun q : Fin 128 => v86 (ix2 n (col 3 q)))) := by
  rw [← inv_word _ h, ← pay45_at]
  unfold k0_pay46
  generalize k0_pay45 (F := Ideal) (k0_pay43 (F := Ideal) v86) k0_pay44 = X
  pointwise []

/-- The scale of group 3. -/
theorem pay47_at (v86) (h : (Finset.univ.sup fun q : Fin 128 => v86 (ix2 n (col 3 q))) ≤ 1) :
    k0_pay47 (F := Ideal) (k0_pay43 (F := Ideal) v86) k0_pay44 (ix2 n q) = two (ex (Finset.univ.sup fun q : Fin 128 => v86 (ix2 n (col 3 q)))) := by
  rw [← scale_word _ h, ← pay45_at]
  unfold k0_pay47
  generalize k0_pay45 (F := Ideal) (k0_pay43 (F := Ideal) v86) k0_pay44 = X
  pointwise []

end Cert.KernelIdeal.Value
-- ==== Proof.KerIndex.lean ====
module

public import proofs.«01_k».proof.Proof.Gen.KernelIdeal.Skeleton
public import proofs.«01_k».proof.Proof.Spec

/-!
Where the attention body reads and writes: the words it computes from the grid point and the trip, as numbers.
-/

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-- The batch of a grid point. -/
abbrev B (i : grid0.Coords) : Fin 2 := i 0

/-- The key head of a grid point. -/
abbrev H (i : grid0.Coords) : Fin 4 := i 1

/-- The query block of a grid point. -/
abbrev Q (i : grid0.Coords) : Fin 256 := i 2

/-- The first window position of the middle loop. -/
abbrev f1 (x : Fin 256) : ℕ := max (first x) 1

/-- The words of the middle loop's window position. -/
abbrev iv1 (x : Fin 256) (n : ℕ) : BitVec 32 :=
  Scf.iv (Scalar.maxsi (Scalar.maxsi (Scalar.subi 32#32 (BitVec.ofNat 32 x.val)) 0#32) 1#32) 1#32 n

/-- The words of the last loop's window position. -/
abbrev iv3 (x : Fin 256) (n : ℕ) : BitVec 32 :=
  Scf.iv (Scalar.maxsi (Scalar.subi 32#32 (BitVec.ofNat 32 x.val)) 0#32) 1#32 n

/-- The middle loop's window position as a number. -/
theorem iv1_eq : ∀ (x : Fin 256) (n : Fin 33), iv1 x n.val = BitVec.ofNat 32 (max (32 - x.val) 1 + n.val) := by
  decide +kernel

/-- The last loop's window position as a number. -/
theorem iv3_eq : ∀ (x : Fin 256) (n : Fin 33), iv3 x n.val = BitVec.ofNat 32 (32 - x.val + n.val) := by
  decide +kernel

/-- The key block of a window position as a number. -/
theorem blk_eq : ∀ (x : Fin 256) (n : Fin 33),
    Scalar.maxsi (Scalar.addi (Scalar.subi (BitVec.ofNat 32 x.val) 32#32) (BitVec.ofNat 32 n.val)) 0#32 = BitVec.ofNat 32 (x.val + n.val - 32) := by
  decide +kernel

/-- A block's first row. -/
theorem row_eq : ∀ m : Fin 256, (Scalar.indexCast (Scalar.muli (BitVec.ofNat 32 m.val) 128#32) : BitVec 32).toNat = m.val * 128 := by
  decide +kernel

/-- A window position's first row of partial maxima. -/
theorem row8_eq : ∀ m : Fin 256, (Scalar.indexCast (Scalar.muli (BitVec.ofNat 32 m.val) 8#32) : BitVec 32).toNat = m.val * 8 := by
  decide +kernel

/-- A block as an index. -/
theorem idx_eq : ∀ m : Fin 256, (Scalar.indexCast (BitVec.ofNat 32 m.val) : BitVec 32).toNat = m.val := by
  decide +kernel

/-- The place of a block's scale. -/
theorem cell_eq : ∀ (y : Fin 2) (m : Fin 256) (h : Fin 4),
    (Scalar.indexCast (Scalar.addi (Scalar.muli (Scalar.addi (Scalar.muli (BitVec.ofNat 32 y.val) 256#32) (BitVec.ofNat 32 m.val)) 4#32) (BitVec.ofNat 32 h.val)) : BitVec 32).toNat
      = (y.val * 256 + m.val) * 4 + h.val := by
  decide +kernel

/-- The place of a query group's scale. -/
theorem qcell_eq : ∀ (y : Fin 2) (m : Fin 256) (h g : Fin 4),
    (Scalar.indexCast (Scalar.addi (Scalar.addi (Scalar.muli (Scalar.addi (Scalar.muli (BitVec.ofNat 32 y.val) 256#32) (BitVec.ofNat 32 m.val)) 16#32) (Scalar.muli (BitVec.ofNat 32 h.val) 4#32)) (BitVec.ofNat 32 g.val)) : BitVec 32).toNat
      = (y.val * 256 + m.val) * 16 + h.val * 4 + g.val := by
  decide +kernel

/-- The trips of the middle loop. -/
theorem trips1 (i : grid0.Coords) : (k0_t1_loop i).trips = 32 - f1 (Q i) := by
  have : ∀ x : Fin 256, Scf.trips (Scalar.maxsi (Scalar.maxsi (Scalar.subi 32#32 (BitVec.ofNat 32 x.val)) 0#32) 1#32)
      (Scalar.addi (Scalar.maxsi (Scalar.maxsi (Scalar.subi 32#32 (BitVec.ofNat 32 x.val)) 0#32) 1#32) (Scalar.muli (Scalar.divsi (Scalar.subi 32#32 (Scalar.maxsi (Scalar.maxsi (Scalar.subi 32#32 (BitVec.ofNat 32 x.val)) 0#32) 1#32)) 1#32) 1#32)) 1#32
      = 32 - max (32 - x.val) 1 := by decide +kernel
  exact this (Q i)

/-- The trips of the last loop. -/
theorem trips3 (i : grid0.Coords) : (k0_t3_loop i).trips = 33 - first (Q i) := by
  have : ∀ x : Fin 256, Scf.trips (Scalar.maxsi (Scalar.subi 32#32 (BitVec.ofNat 32 x.val)) 0#32)
      (Scalar.addi (Scalar.maxsi (Scalar.subi 32#32 (BitVec.ofNat 32 x.val)) 0#32) (Scalar.muli (Scalar.divsi (Scalar.subi 33#32 (Scalar.maxsi (Scalar.subi 32#32 (BitVec.ofNat 32 x.val)) 0#32)) 1#32) 1#32)) 1#32
      = 33 - (32 - x.val) := by decide +kernel
  exact this (Q i)

/-- The remainder loop of the scores has no trip. -/
theorem trips2 (i : grid0.Coords) : (k0_t2_loop i).trips = 0 := by
  show Scf.trips _ _ _ = 0
  simp only [k0_t2_loop]
  generalize i 2 = x
  revert x
  decide +kernel

/-- The remainder loop of the products has no trip. -/
theorem trips4 (i : grid0.Coords) : (k0_t4_loop i).trips = 0 := by
  show Scf.trips _ _ _ = 0
  simp only [k0_t4_loop]
  generalize i 2 = x
  revert x
  decide +kernel

/-- A trip of the middle loop is at a window position before the diagonal. -/
theorem pos1 (i : grid0.Coords) (k : Fin (k0_t1_loop i).trips) : f1 (Q i) + k.val < 32 := by
  have := k.isLt
  have h := trips1 i
  omega

/-- A trip of the last loop is at a window position. -/
theorem pos3 (i : grid0.Coords) (k : Fin (k0_t3_loop i).trips) : first (Q i) + k.val < 33 := by
  have := k.isLt
  have h := trips3 i
  have : first (Q i) ≤ 32 := Nat.sub_le _ _
  omega

/-- The window position of a trip of the middle loop. -/
theorem iv1_at (i : grid0.Coords) (k : Fin (k0_t1_loop i).trips) : iv1 (Q i) k.val = BitVec.ofNat 32 (f1 (Q i) + k.val) := by
  have h := iv1_eq (Q i) ⟨k.val, by have := pos1 i k; omega⟩
  unfold f1 first
  exact h

/-- The window position of a trip of the last loop. -/
theorem iv3_at (i : grid0.Coords) (k : Fin (k0_t3_loop i).trips) : iv3 (Q i) k.val = BitVec.ofNat 32 (first (Q i) + k.val) := by
  have h := iv3_eq (Q i) ⟨k.val, by have := pos3 i k; omega⟩
  unfold first
  exact h

/-- The key block of a window position. -/
theorem blk_at (x : Fin 256) {n : ℕ} (h : n < 33) :
    Scalar.maxsi (Scalar.addi (Scalar.subi (BitVec.ofNat 32 x.val) 32#32) (BitVec.ofNat 32 n)) 0#32 = BitVec.ofNat 32 (kb x n).val := by
  rw [kb_val x h]; exact blk_eq x ⟨n, h⟩

/-- The key rows a middle trip reads. -/
theorem off4_eq (i : grid0.Coords) (k : Fin (k0_t1_loop i).trips) : k0_off4 i k = ![0, 0, (kb (Q i) (f1 (Q i) + k.val)).val * 128, 0] := by
  show ![0, 0, (Scalar.indexCast (Scalar.muli (Scalar.maxsi (Scalar.addi (Scalar.subi (BitVec.ofNat 32 (Q i).val) 32#32) (iv1 (Q i) k.val)) 0#32) 128#32) : BitVec 32).toNat, 0] = _
  rw [iv1_at, blk_at _ (by have := pos1 i k; omega), row_eq]

/-- The key scale a middle trip reads. -/
theorem off5_eq (i : grid0.Coords) (k : Fin (k0_t1_loop i).trips) : k0_off5 i k = ![((B i).val * 256 + (kb (Q i) (f1 (Q i) + k.val)).val) * 4 + (H i).val] := by
  show ![(Scalar.indexCast (Scalar.addi (Scalar.muli (Scalar.addi (Scalar.muli (BitVec.ofNat 32 (B i).val) 256#32) (Scalar.maxsi (Scalar.addi (Scalar.subi (BitVec.ofNat 32 (Q i).val) 32#32) (iv1 (Q i) k.val)) 0#32)) 4#32) (BitVec.ofNat 32 (H i).val)) : BitVec 32).toNat] = _
  rw [iv1_at, blk_at _ (by have := pos1 i k; omega), cell_eq]

/-- The score rows a middle trip writes. -/
theorem off6_eq (i : grid0.Coords) (k : Fin (k0_t1_loop i).trips) : k0_off6 i k = ![(f1 (Q i) + k.val) * 128, 0] := by
  show ![(Scalar.indexCast (Scalar.muli (iv1 (Q i) k.val) 128#32) : BitVec 32).toNat, 0] = _
  rw [iv1_at, row_eq ⟨f1 (Q i) + k.val, by have := pos1 i k; omega⟩]

/-- The rows of partial maxima a middle trip writes. -/
theorem off7_eq (i : grid0.Coords) (k : Fin (k0_t1_loop i).trips) : k0_off7 i k = ![(f1 (Q i) + k.val) * 8, 0] := by
  show ![(Scalar.indexCast (Scalar.muli (iv1 (Q i) k.val) 8#32) : BitVec 32).toNat, 0] = _
  rw [iv1_at, row8_eq ⟨f1 (Q i) + k.val, by have := pos1 i k; omega⟩]

/-- The score rows a trip of the last loop reads. -/
theorem off14_eq (i : grid0.Coords) (k : Fin (k0_t3_loop i).trips) : k0_off14 i k = ![(first (Q i) + k.val) * 128, 0] := by
  show ![(Scalar.indexCast (Scalar.muli (iv3 (Q i) k.val) 128#32) : BitVec 32).toNat, 0] = _
  rw [iv3_at, row_eq ⟨first (Q i) + k.val, by have := pos3 i k; omega⟩]

/-- The row of scales a trip of the last loop reads. -/
theorem off15_eq (i : grid0.Coords) (k : Fin (k0_t3_loop i).trips) : k0_off15 i k = ![first (Q i) + k.val, 0] := by
  show ![(Scalar.indexCast (iv3 (Q i) k.val) : BitVec 32).toNat, 0] = _
  rw [iv3_at, idx_eq ⟨first (Q i) + k.val, by have := pos3 i k; omega⟩]

/-- The value block a trip of the last loop reads. -/
theorem off16_eq (i : grid0.Coords) (k : Fin (k0_t3_loop i).trips) : k0_off16 i k = ![0, 0, (kb (Q i) (first (Q i) + k.val)).val, 0, 0] := by
  show ![0, 0, (Scalar.indexCast (Scalar.maxsi (Scalar.addi (Scalar.subi (BitVec.ofNat 32 (Q i).val) 32#32) (iv3 (Q i) k.val)) 0#32) : BitVec 32).toNat, 0, 0] = _
  rw [iv3_at, blk_at _ (pos3 i k), idx_eq]

/-- The value scale a trip of the last loop reads. -/
theorem off17_eq (i : grid0.Coords) (k : Fin (k0_t3_loop i).trips) : k0_off17 i k = ![((B i).val * 256 + (kb (Q i) (first (Q i) + k.val)).val) * 4 + (H i).val] := by
  show ![(Scalar.indexCast (Scalar.addi (Scalar.muli (Scalar.addi (Scalar.muli (BitVec.ofNat 32 (B i).val) 256#32) (Scalar.maxsi (Scalar.addi (Scalar.subi (BitVec.ofNat 32 (Q i).val) 32#32) (iv3 (Q i) k.val)) 0#32)) 4#32) (BitVec.ofNat 32 (H i).val)) : BitVec 32).toNat] = _
  rw [iv3_at, blk_at _ (pos3 i k), cell_eq]

/-- The key rows the first block reads. -/
theorem off2_eq (i : grid0.Coords) : k0_off2 i = ![0, 0, (kb (Q i) 0).val * 128, 0] := by
  show ![0, 0, (Scalar.indexCast (Scalar.muli (Scalar.maxsi (Scalar.addi (Scalar.subi (BitVec.ofNat 32 (Q i).val) 32#32) (BitVec.ofNat 32 0)) 0#32) 128#32) : BitVec 32).toNat, 0] = _
  rw [blk_at _ (by omega), row_eq]

/-- The key scale the first block reads. -/
theorem off3_eq (i : grid0.Coords) : k0_off3 i = ![((B i).val * 256 + (kb (Q i) 0).val) * 4 + (H i).val] := by
  show ![(Scalar.indexCast (Scalar.addi (Scalar.muli (Scalar.addi (Scalar.muli (BitVec.ofNat 32 (B i).val) 256#32) (Scalar.maxsi (Scalar.addi (Scalar.subi (BitVec.ofNat 32 (Q i).val) 32#32) (BitVec.ofNat 32 0)) 0#32)) 4#32) (BitVec.ofNat 32 (H i).val)) : BitVec 32).toNat] = _
  rw [blk_at _ (by omega), cell_eq]

/-- The key rows the diagonal block reads. -/
theorem off12_eq (i : grid0.Coords) : k0_off12 i = ![0, 0, (kb (Q i) 32).val * 128, 0] := by
  show ![0, 0, (Scalar.indexCast (Scalar.muli (Scalar.maxsi (Scalar.addi (Scalar.subi (BitVec.ofNat 32 (Q i).val) 32#32) (BitVec.ofNat 32 32)) 0#32) 128#32) : BitVec 32).toNat, 0] = _
  rw [blk_at _ (by omega), row_eq]

/-- The key scale the diagonal block reads. -/
theorem off13_eq (i : grid0.Coords) : k0_off13 i = ![((B i).val * 256 + (kb (Q i) 32).val) * 4 + (H i).val] := by
  show ![(Scalar.indexCast (Scalar.addi (Scalar.muli (Scalar.addi (Scalar.muli (BitVec.ofNat 32 (B i).val) 256#32) (Scalar.maxsi (Scalar.addi (Scalar.subi (BitVec.ofNat 32 (Q i).val) 32#32) (BitVec.ofNat 32 32)) 0#32)) 4#32) (BitVec.ofNat 32 (H i).val)) : BitVec 32).toNat] = _
  rw [blk_at _ (by omega), cell_eq]

/-- The scale of a query group. -/
theorem off1_eq (i : grid0.Coords) (g : Fin 4) : k0_off1 i (BitVec.ofNat 32 g.val) = ![((B i).val * 256 + (Q i).val) * 16 + (H i).val * 4 + g.val] := by
  show ![(Scalar.indexCast (Scalar.addi (Scalar.addi (Scalar.muli (Scalar.addi (Scalar.muli (BitVec.ofNat 32 (B i).val) 256#32) (BitVec.ofNat 32 (Q i).val)) 16#32) (Scalar.muli (BitVec.ofNat 32 (H i).val) 4#32)) (BitVec.ofNat 32 g.val)) : BitVec 32).toNat] = _
  rw [qcell_eq]

end Cert.KernelIdeal.Value
-- ==== Proof.KerScores.lean ====
module

public import proofs.«01_k».proof.Proof.Gen.KernelIdeal.Loops
public import proofs.«01_k».proof.Proof.KerPoint
public import proofs.«01_k».proof.Proof.KerIndex
public import Idealize.ShloMosaic.Lib.WritesUnit

/-!
The middle loop of the attention body: what the scores and the partial maxima hold after any number of trips.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

/-- A score row: row `r` of window position `n`. -/
def row (n : ℕ) (r : Fin 128) : Fin 4224 := Fin.ofNat 4224 (n * 128 + r.val)

/-- A row of partial maxima: residue `a` of window position `n`. -/
def prow (n : ℕ) (a : Fin 8) : Fin 264 := Fin.ofNat 264 (n * 8 + a.val)

/-- The row of scales of window position `n`. -/
def srow (n : ℕ) : Fin 40 := Fin.ofNat 40 n

/-- Row `x * 8 + a` of a block. -/
abbrev sub (x : Fin 16) (a : Fin 8) : Fin 128 := ⟨x.val * 8 + a.val, by omega⟩

/-- The place of the scale of the key block at window position `n`. -/
def cell (i : grid0.Coords) (n : ℕ) : Fin 2048 :=
  ⟨((B i).val * 256 + (kb (Q i) n).val) * 4 + (H i).val, by have := (kb (Q i) n).isLt; have := (B i).isLt; have := (H i).isLt; omega⟩

/-- The key row `r` of the key block at window position `n`. -/
def krow (i : grid0.Coords) (n : ℕ) (r : Fin 128) : Fin 32768 :=
  ⟨(kb (Q i) n).val * 128 + r.val, by have := (kb (Q i) n).isLt; omega⟩

/-- The unmasked scaled score of a row of a window position at a column. -/
def SC (i : grid0.Coords) (kb7 : S1x1x32768x128.Idx → EReal) (ks4 : S2048.Idx → EReal) (v10 : FVec Ideal S512x128 .fp8e4m3) (v32 : FVec Ideal S1x512 .f32)
    (n : ℕ) (r : Fin 128) (c : Fin 512) : EReal :=
  (∑ l : Fin 128, kb7 (ix4 0 0 (krow i n r) l) * v10 (ix2 c l))
    * (v32 (ix2 0 c) * ks4 (ix1 (cell i n)) * Ideal.ofBits .f32 1035273459#32)

/-- What a window position adds to the accumulator. -/
def PT (i : grid0.Coords) (vs5 : S2048.Idx → EReal) (vt8 : S1x1x256x128x128.Idx → EReal) (s10 : S4224x512.Idx → EReal) (i12 p13 : S40x512.Idx → EReal) (v81 : FVec Ideal S1x512 .f32)
    (n : ℕ) (d : Fin 128) (c : Fin 512) : EReal :=
  (∑ r : Fin 128, vt8 (ix5 0 0 (kb (Q i) n) d r) * min hi (max lo (Ideal.exp (s10 (ix2 (row n r) c) - v81 (ix2 0 c)) * i12 (ix2 (srow n) c))))
    * (p13 (ix2 (srow n) c) * vs5 (ix1 (cell i n)))

/-- A score row as a number. -/
theorem row_val {n : ℕ} (h : n < 33) (r : Fin 128) : (row n r).val = n * 128 + r.val :=
  Nat.mod_eq_of_lt (by omega)

/-- A row of partial maxima as a number. -/
theorem prow_val {n : ℕ} (h : n < 33) (a : Fin 8) : (prow n a).val = n * 8 + a.val :=
  Nat.mod_eq_of_lt (by omega)

/-- A row of scales as a number. -/
theorem srow_val {n : ℕ} (h : n < 33) : (srow n).val = n :=
  Nat.mod_eq_of_lt (by omega)

/-- A load through a rectangle reads the buffer at the offsets plus the index. -/
theorem readAt_unit {sig : RefSig} {κ : Kind} {sp : Space} {s : Shape} {e : EltTy} {Val : EltTy → Type} (v : View sig κ sp s e) (X : v.ty.Contents Val)
    {off off' size : Fin s.rank → ℕ} (inb : ∀ a, off a + size a ≤ s.size a) (heq : off = off') (x : (Rect.unit off size inb).shape.Idx) (y : s.Idx)
    (h : ∀ a, off' a + (x a).val = (y a).val) :
    v.readAt Val (Rect.unit off size inb).toLoadRect X x = v.read Val X y := by
  subst heq
  rw [View.readAt_apply]
  congr 1
  funext a
  apply Fin.ext
  show off a + 1 * (x a).val = _
  rw [Nat.one_mul]
  exact h a

variable (𝒱 : Variants) (c : Dev nD) (bd : Option 𝒱.V) (i : grid0.Coords) (arg3 : Memref sig .tc .smem S8192 .f32) (harg3 : arg3.IsWhole) (arg4 : Memref sig .tc .smem S2048 .f32) (harg4 : arg4.IsWhole) (arg5 : Memref sig .tc .smem S2048 .f32) (harg5 : arg5.IsWhole) (arg6 : Memref sig .tc .vmem S1x128x512 .fp8e4m3) (harg6 : arg6.IsWhole) (arg7 : Memref sig .tc .vmem S1x1x32768x128 .fp8e4m3) (harg7 : arg7.IsWhole) (arg8 : Memref sig .tc .vmem S1x1x256x128x128 .fp8e4m3) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S264x512 .f32) (harg11 : arg11.IsWhole) (arg12 : Memref sig .tc .vmem S40x512 .f32) (harg12 : arg12.IsWhole) (arg13 : Memref sig .tc .vmem S40x512 .f32) (harg13 : arg13.IsWhole) (arg14 : Memref sig .tc .vmem S128x512 .f32) (harg14 : arg14.IsWhole) (arg0 : BitVec 32) (arg1 : BitVec 32) (arg2 : BitVec 32) (v1 : BitVec 32) (v10 : FVec Ideal S512x128 .fp8e4m3) (v32 : FVec Ideal S1x512 .f32) (v33 : IVec S128x128 32) (v34 : IVec S128x128 32) (c32_i32_9 : BitVec 32) (X_arg4 : BufTy.Contents (Elt Ideal) arg4.view.ty) (X_arg7 : BufTy.Contents (Elt Ideal) arg7.view.ty) (a : Fin 8) (r : Fin 128) (c' : Fin 512)

/-- The scores a middle trip writes. -/
theorem t1_score (k : Fin (k0_t1_loop i).trips) :
    k0_pay14 (F := Ideal) v10 v32 (View.readAt (Elt Ideal) arg7.view (Rect.unit (s := S1x1x32768x128) (k0_off4 i k) S1x1x128x128.size (k0_off4_inb i k)).toLoadRect X_arg7)
        (trip_k0_t1.sl.r i arg4 X_arg4 k) (ix2 r c')
      = SC i (arg7.view.read (Elt Ideal) X_arg7) (arg4.view.read (Elt Ideal) X_arg4) v10 v32 (f1 (Q i) + k.val) r c' := by
  rw [pay14_at, pay13_at]
  unfold SC
  congr 1
  · apply Finset.sum_congr rfl
    intro l _
    congr 1
    apply readAt_unit (heq := off4_eq i k)
    intro x
    fin_cases x <;> first | rfl | exact Nat.zero_add _
  · congr 2
    unfold trip_k0_t1.sl.r
    apply readAt_unit (heq := off5_eq i k)
    intro x
    fin_cases x
    exact Nat.add_zero _

/-- The pieces a middle trip writes. -/
theorem t1_trip (k : Fin (k0_t1_loop i).trips) : tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 k
    = ([⟨Rect.unit (s := S4224x512) (k0_off6 i k) S128x512.size (k0_off6_inb i k), k0_pay14 (F := Ideal) v10 v32 (View.readAt (Elt Ideal) arg7.view (Rect.unit (s := S1x1x32768x128) (k0_off4 i k) S1x1x128x128.size (k0_off4_inb i k)).toLoadRect X_arg7) (trip_k0_t1.sl.r i arg4 X_arg4 k)⟩],
      [⟨Rect.unit (s := S264x512) (k0_off7 i k) S8x512.size (k0_off7_inb i k), k0_pay15 (F := Ideal) v10 v32 (View.readAt (Elt Ideal) arg7.view (Rect.unit (s := S1x1x32768x128) (k0_off4 i k) S1x1x128x128.size (k0_off4_inb i k)).toLoadRect X_arg7) (trip_k0_t1.sl.r i arg4 X_arg4 k)⟩]) := by
  unfold tripL_k0_t1 trip_k0_t1
  rfl

/-- The scores after some middle trips: the blocks met hold their scores, the other rows what they held. -/
theorem t1_scores (f : BufTy.Contents (Elt Ideal) arg10.view.ty) (k : ℕ) (hk : k ≤ (k0_t1_loop i).trips) (R : Fin 4224) :
    ((R.val < f1 (Q i) * 128 ∨ (f1 (Q i) + k) * 128 ≤ R.val) →
      arg10.view.read (Elt Ideal) (arg10.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 k).1) (ix2 R c') = arg10.view.read (Elt Ideal) f (ix2 R c')) ∧
    (∀ (n : ℕ) (r : Fin 128), f1 (Q i) ≤ n → n < f1 (Q i) + k → R.val = n * 128 + r.val →
      arg10.view.read (Elt Ideal) (arg10.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 k).1) (ix2 R c')
        = SC i (arg7.view.read (Elt Ideal) X_arg7) (arg4.view.read (Elt Ideal) X_arg4) v10 v32 n r c') := by
  induction k with
  | zero => exact ⟨fun _ => rfl, fun n r h1 h2 _ => absurd h2 (by omega)⟩
  | succ k ih =>
    have ih := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 ⟨k, hk⟩
    rw [t1_trip] at e
    have e1 := congrArg Prod.fst e
    dsimp only [List.cons_append, List.nil_append] at e1
    rw [e1]
    constructor
    · intro h
      rw [View.read_writes_cons_rows_of_not_mem (o := (f1 (Q i) + k) * 128) (W := 128) (hoff := off6_eq i ⟨k, hk⟩) (hW := rfl)]
      · exact ih.1 (by omega)
      · show R.val < _ ∨ _ ≤ R.val
        omega
    · intro n r h1 h2 hR
      by_cases hn : n = f1 (Q i) + k
      · subst hn
        refine (View.read_writes_cons_rows_of_mem (o := (f1 (Q i) + k) * 128) (hoff := off6_eq i ⟨k, hk⟩) (y := ix2 R c') (x := ix2 r c') (hx0 := hR) (hx1 := rfl) ..).trans ?_
        exact t1_score (k := ⟨k, hk⟩) ..
      · rw [View.read_writes_cons_rows_of_not_mem (o := (f1 (Q i) + k) * 128) (W := 128) (hoff := off6_eq i ⟨k, hk⟩) (hW := rfl)]
        · exact ih.2 n r h1 (by omega) hR
        · show R.val < _ ∨ _ ≤ R.val
          omega

/-- The partial maxima after some middle trips. -/
theorem t1_maxima (f : BufTy.Contents (Elt Ideal) arg11.view.ty) (k : ℕ) (hk : k ≤ (k0_t1_loop i).trips) (R : Fin 264) :
    ((R.val < f1 (Q i) * 8 ∨ (f1 (Q i) + k) * 8 ≤ R.val) →
      arg11.view.read (Elt Ideal) (arg11.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 k).2) (ix2 R c') = arg11.view.read (Elt Ideal) f (ix2 R c')) ∧
    (∀ (n : ℕ) (a : Fin 8), f1 (Q i) ≤ n → n < f1 (Q i) + k → R.val = n * 8 + a.val →
      arg11.view.read (Elt Ideal) (arg11.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 k).2) (ix2 R c')
        = Finset.univ.sup fun x : Fin 16 => SC i (arg7.view.read (Elt Ideal) X_arg7) (arg4.view.read (Elt Ideal) X_arg4) v10 v32 n (sub x a) c') := by
  induction k with
  | zero => exact ⟨fun _ => rfl, fun n r h1 h2 _ => absurd h2 (by omega)⟩
  | succ k ih =>
    have ih := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v10 v32 v33 v34 c32_i32_9 X_arg4 X_arg7 ⟨k, hk⟩
    rw [t1_trip] at e
    have e1 := congrArg Prod.snd e
    dsimp only [List.cons_append, List.nil_append] at e1
    rw [e1]
    constructor
    · intro h
      rw [View.read_writes_cons_rows_of_not_mem (o := (f1 (Q i) + k) * 8) (W := 8) (hoff := off7_eq i ⟨k, hk⟩) (hW := rfl)]
      · exact ih.1 (by omega)
      · show R.val < _ ∨ _ ≤ R.val
        omega
    · intro n a h1 h2 hR
      by_cases hn : n = f1 (Q i) + k
      · subst hn
        refine (View.read_writes_cons_rows_of_mem (o := (f1 (Q i) + k) * 8) (hoff := off7_eq i ⟨k, hk⟩) (y := ix2 R c') (x := ix2 a c') (hx0 := hR) (hx1 := rfl) ..).trans ?_
        rw [pay15_at]
        congr 1
        funext x
        exact t1_score (k := ⟨k, hk⟩) ..
      · rw [View.read_writes_cons_rows_of_not_mem (o := (f1 (Q i) + k) * 8) (W := 8) (hoff := off7_eq i ⟨k, hk⟩) (hW := rfl)]
        · exact ih.2 n a h1 (by omega) hR
        · show R.val < _ ∨ _ ≤ R.val
          omega

end Cert.KernelIdeal.Value
-- ==== Proof.KerProducts.lean ====
module

public import proofs.«01_k».proof.Proof.Gen.KernelIdeal.Loops
public import proofs.«01_k».proof.Proof.KerScores
public import Idealize.ShloMosaic.Lib.WritesUnit

/-!
The last loop of the attention body: what the accumulator and the denominators hold after any number of trips.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

variable (𝒱 : Variants) (c : Dev nD) (bd : Option 𝒱.V) (i : grid0.Coords) (arg3 : Memref sig .tc .smem S8192 .f32) (harg3 : arg3.IsWhole) (arg4 : Memref sig .tc .smem S2048 .f32) (harg4 : arg4.IsWhole) (arg5 : Memref sig .tc .smem S2048 .f32) (harg5 : arg5.IsWhole) (arg6 : Memref sig .tc .vmem S1x128x512 .fp8e4m3) (harg6 : arg6.IsWhole) (arg7 : Memref sig .tc .vmem S1x1x32768x128 .fp8e4m3) (harg7 : arg7.IsWhole) (arg8 : Memref sig .tc .vmem S1x1x256x128x128 .fp8e4m3) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S264x512 .f32) (harg11 : arg11.IsWhole) (arg12 : Memref sig .tc .vmem S40x512 .f32) (harg12 : arg12.IsWhole) (arg13 : Memref sig .tc .vmem S40x512 .f32) (harg13 : arg13.IsWhole) (arg14 : Memref sig .tc .vmem S128x512 .f32) (harg14 : arg14.IsWhole) (arg0 : BitVec 32) (arg1 : BitVec 32) (arg2 : BitVec 32) (v1 : BitVec 32) (v81 : FVec Ideal S1x512 .f32) (X_arg5 : BufTy.Contents (Elt Ideal) arg5.view.ty) (X_arg8 : BufTy.Contents (Elt Ideal) arg8.view.ty) (X_arg10 : BufTy.Contents (Elt Ideal) arg10.view.ty) (X_arg12 : BufTy.Contents (Elt Ideal) arg12.view.ty) (X_arg13 : BufTy.Contents (Elt Ideal) arg13.view.ty) (G_arg14 : BufTy.Contents (Elt Ideal) arg14.view.ty) (init : FVec Ideal S8x512 .f32) (a : Fin 8) (d : Fin 128) (c' : Fin 512)

/-- What a trip of the last loop yields. -/
theorem t3_yield (k : Fin (k0_t3_loop i).trips) (acc : FVec Ideal S8x512 .f32) (f : BufTy.Contents (Elt Ideal) arg14.view.ty) :
    tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 k acc f (ix2 a c')
      = acc (ix2 a c') + ∑ x : Fin 16, Ideal.exp (arg10.view.read (Elt Ideal) X_arg10 (ix2 (row (first (Q i) + k.val) (sub x a)) c') - v81 (ix2 0 c')) := by
  have e : tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 k acc f = trip_k0_t3.sl.r_1 i arg10 v81 X_arg10 k acc := by
    unfold tripR_k0_t3 trip_k0_t3
    rfl
  rw [e]
  unfold trip_k0_t3.sl.r_1
  rw [pay2_at]
  congr 1
  apply Finset.sum_congr rfl
  intro x _
  congr 2
  apply readAt_unit (heq := off14_eq i k)
  intro y
  fin_cases y <;> first | exact (row_val (pos3 i k) _).symm | exact Nat.zero_add _

/-- The piece a trip of the last loop writes, read at one index. -/
theorem t3_piece (k : Fin (k0_t3_loop i).trips) (acc : FVec Ideal S8x512 .f32) (f : BufTy.Contents (Elt Ideal) arg14.view.ty) (L) :
    arg14.view.read (Elt Ideal) (arg14.view.writes (Elt Ideal) G_arg14 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 k acc f ++ L)) (ix2 d c')
      = arg14.view.read (Elt Ideal) f (ix2 d c') + PT i (arg5.view.read (Elt Ideal) X_arg5) (arg8.view.read (Elt Ideal) X_arg8) (arg10.view.read (Elt Ideal) X_arg10) (arg12.view.read (Elt Ideal) X_arg12) (arg13.view.read (Elt Ideal) X_arg13) v81 (first (Q i) + k.val) d c' := by
  have e : tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 k acc f = [⟨Rect.unit (s := S128x512) ![0, 0] S128x512.size inb_S128x512_S128x512_0_0,
      k0_pay50 (F := Ideal) (trip_k0_t3.sl.r_2 i arg5 arg8 arg10 arg12 arg13 arg14 v81 X_arg5 X_arg8 X_arg10 X_arg12 X_arg13 k f)⟩] := by
    unfold tripL_k0_t3 trip_k0_t3
    rfl
  rw [e, List.cons_append]
  refine (View.read_writes_cons_rows_of_mem (o := 0) (hoff := rfl) (y := ix2 d c') (x := ix2 d c') (hx0 := (Nat.zero_add _).symm) (hx1 := rfl) ..).trans ?_
  rw [pay50_at]
  unfold trip_k0_t3.sl.r_2
  try unfold trip_k0_t3.sl.r
  rw [pay3_at]
  unfold PT
  have h13 : (View.readAt (Elt Ideal) arg13.view (Rect.unit (s := S40x512) (k0_off15 i k) S1x512.size (k0_off15_inb i k)).toLoadRect X_arg13 (ix2 0 c') : EReal) = arg13.view.read (Elt Ideal) X_arg13 (ix2 (srow (first (Q i) + k.val)) c') := by
    apply readAt_unit (heq := off15_eq i k)
    intro y
    fin_cases y <;> first | exact (srow_val (pos3 i k)).symm | exact Nat.zero_add _
  have h12 : (View.readAt (Elt Ideal) arg12.view (Rect.unit (s := S40x512) (k0_off15 i k) S1x512.size (k0_off15_inb i k)).toLoadRect X_arg12 (ix2 0 c') : EReal) = arg12.view.read (Elt Ideal) X_arg12 (ix2 (srow (first (Q i) + k.val)) c') := by
    apply readAt_unit (heq := off15_eq i k)
    intro y
    fin_cases y <;> first | exact (srow_val (pos3 i k)).symm | exact Nat.zero_add _
  rw [h12, h13]
  refine congrArg₂ (fun x y : EReal => x + y) ?_ (congrArg₂ (fun x y : EReal => x * y) (Finset.sum_congr rfl fun r _ => congrArg₂ (fun x y : EReal => x * y) ?_ (congrArg (fun x : EReal => min hi (max lo (Ideal.exp (x - v81 (ix2 0 c')) * arg12.view.read (Elt Ideal) X_arg12 (ix2 (srow (first (Q i) + k.val)) c')))) ?_)) (congrArg (fun x : EReal => arg13.view.read (Elt Ideal) X_arg13 (ix2 (srow (first (Q i) + k.val)) c') * x) ?_))
  · apply readAt_unit (heq := rfl)
    intro y
    fin_cases y <;> exact Nat.zero_add _
  · apply readAt_unit (heq := off16_eq i k)
    intro y
    fin_cases y <;> first | exact Nat.zero_add _ | exact Nat.add_zero _
  · apply readAt_unit (heq := off14_eq i k)
    intro y
    fin_cases y <;> first | exact (row_val (pos3 i k) _).symm | exact Nat.zero_add _
  · apply readAt_unit (heq := off17_eq i k)
    intro y
    fin_cases y
    exact Nat.add_zero _

/-- The denominators after some trips of the last loop. -/
theorem t3_sums (k : ℕ) (hk : k ≤ (k0_t3_loop i).trips) :
    (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 G_arg14 init k).1 (ix2 a c')
      = init (ix2 a c') + ∑ n ∈ Finset.Ico (first (Q i)) (first (Q i) + k), ∑ x : Fin 16, Ideal.exp (arg10.view.read (Elt Ideal) X_arg10 (ix2 (row n (sub x a)) c') - v81 (ix2 0 c')) := by
  induction k with
  | zero => rw [Nat.add_zero, Finset.Ico_self, Finset.sum_empty, add_zero]; rfl
  | succ k ih =>
    have e := congrArg Prod.fst (st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 G_arg14 init ⟨k, hk⟩)
    dsimp only at e
    rw [e, t3_yield, ih (by omega), ← Nat.add_assoc, Finset.sum_Ico_succ_top (by omega), add_assoc]

/-- The accumulator after some trips of the last loop. -/
theorem t3_acc (k : ℕ) (hk : k ≤ (k0_t3_loop i).trips) :
    arg14.view.read (Elt Ideal) (arg14.view.writes (Elt Ideal) G_arg14 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 G_arg14 init k).2) (ix2 d c')
      = arg14.view.read (Elt Ideal) G_arg14 (ix2 d c') + ∑ n ∈ Finset.Ico (first (Q i)) (first (Q i) + k),
          PT i (arg5.view.read (Elt Ideal) X_arg5) (arg8.view.read (Elt Ideal) X_arg8) (arg10.view.read (Elt Ideal) X_arg10) (arg12.view.read (Elt Ideal) X_arg12) (arg13.view.read (Elt Ideal) X_arg13) v81 n d c' := by
  induction k with
  | zero => rw [Nat.add_zero, Finset.Ico_self, Finset.sum_empty, add_zero]; rfl
  | succ k ih =>
    have e := congrArg Prod.snd (st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg0 arg1 arg2 v1 v81 X_arg5 X_arg8 X_arg10 X_arg12 X_arg13 G_arg14 init ⟨k, hk⟩)
    dsimp only at e
    rw [e, t3_piece, ih (by omega), ← Nat.add_assoc, Finset.sum_Ico_succ_top (by omega), add_assoc]

end Cert.KernelIdeal.Value
-- ==== Proof.KerCore.lean ====
module

public import proofs.«01_k».proof.Proof.KerProducts

/-!
One grid point of the attention body as mathematics: from what its buffers hold, the result it stores.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

/-- The place of the scale of key block `j`. -/
def kcell (i : grid0.Coords) (j : Fin 256) : Fin 2048 :=
  ⟨((B i).val * 256 + j.val) * 4 + (H i).val, by have := (B i).isLt; have := (H i).isLt; omega⟩

/-- The place of the scale of query group `g`. -/
def qcell (i : grid0.Coords) (g : Fin 4) : Fin 8192 :=
  ⟨((B i).val * 256 + (Q i).val) * 16 + (H i).val * 4 + g.val, by have := (B i).isLt; have := (H i).isLt; have := (Q i).isLt; omega⟩

/-- A key row is within the window of a query row. -/
def inWin (x : Fin 256) (q : Fin 128) (j : Fin 256) (r : Fin 128) : Prop :=
  j.val * 128 + r.val ≤ x.val * 128 + q.val ∧ x.val * 128 + q.val < j.val * 128 + r.val + 4096

instance (x : Fin 256) (q : Fin 128) (j : Fin 256) (r : Fin 128) : Decidable (inWin x q j r) := by unfold inWin; infer_instance

/-- The masked scaled scores of a head group, from the arrays. -/
def SS (i : grid0.Coords) (k7 : S1x1x32768x128.Idx → EReal) (q6 : S1x128x512.Idx → EReal) (qs3 : S8192.Idx → EReal) (ks4 : S2048.Idx → EReal)
    (g : Fin 4) (q : Fin 128) (j : Fin 256) (r : Fin 128) : EReal :=
  if inWin (Q i) q j r then
    (∑ l : Fin 128, k7 (ix4 0 0 ⟨j.val * 128 + r.val, by omega⟩ l) * q6 (ix3 0 q (col g l)))
      * (qs3 (ix1 (qcell i g)) * ks4 (ix1 (kcell i j)) * Ideal.ofBits .f32 1035273459#32)
  else ⊥

/-- Outside the window of 33 blocks there is no score. -/
theorem SS_bot (i : grid0.Coords) (k7 q6 qs3 ks4 g) (q : Fin 128) (j : Fin 256) (r : Fin 128) (h : Q i < j ∨ j.val + 32 < (Q i).val) :
    SS i k7 q6 qs3 ks4 g q j r = ⊥ := by
  refine if_neg ?_
  unfold inWin
  have := q.isLt; have := r.isLt
  rcases h with h | h
  · have h : (Q i).val < j.val := h
    omega
  · omega

/-- A score of a window position. -/
theorem SS_eq (i : grid0.Coords) (k7 : S1x1x32768x128.Idx → EReal) (q6 : S1x128x512.Idx → EReal) (qs3 : S8192.Idx → EReal) (ks4 : S2048.Idx → EReal)
    (g : Fin 4) (q : Fin 128) (n : ℕ) (r : Fin 128) (hn : first (Q i) ≤ n) (hn' : n < 33)
    (v10 : FVec Ideal S512x128 .fp8e4m3) (v32 : FVec Ideal S1x512 .f32)
    (h10 : ∀ l, v10 (ix2 (col g q) l) = q6 (ix3 0 q (col g l))) (h32 : v32 (ix2 0 (col g q)) = qs3 (ix1 (qcell i g))) :
    SS i k7 q6 qs3 ks4 g q (kb (Q i) n) r
      = if (n = 32 → r ≤ q) ∧ (n = 0 → q < r) then SC i k7 ks4 v10 v32 n r (col g q) else ⊥ := by
  have hv := kb_val (Q i) (n := n) hn'
  have hf : first (Q i) = 32 - (Q i).val := rfl
  have hq := q.isLt
  have hr := r.isLt
  have hw : inWin (Q i) q (kb (Q i) n) r ↔ ((n = 32 → r ≤ q) ∧ (n = 0 → q < r)) := by
    unfold inWin
    rw [hv]
    rw [Fin.le_def, Fin.lt_def]
    omega
  unfold SS
  by_cases h : inWin (Q i) q (kb (Q i) n) r
  · rw [if_pos h, if_pos (hw.mp h)]
    unfold SC
    rw [h32]
    simp only [h10]
    rfl
  · rw [if_neg h, if_neg (fun h' => h (hw.mpr h'))]

section
variable (i : grid0.Coords) (s : Fin 4 → Fin 128 → Fin 256 → Fin 128 → EReal)
  (hs : ∀ g q j r, Q i < j ∨ j.val + 32 < (Q i).val → s g q j r = ⊥)
  (pm : Vec Ideal S264x512 .f32) (hpm : ∀ g q R, pm (ix2 R (col g q)) = PMax (s g) (Q i) q R)
include hs hpm

/-- The maximum of a column is the largest score of its query row. -/
theorem core_top (g : Fin 4) (q : Fin 128) : k0_pay25 (F := Ideal) pm (ix2 0 (col g q)) = top (s g) q := by
  rw [pay25_at]
  simp only [hpm]
  exact sup_PMax (s g) (Q i) (hs g) q

/-- The largest weight of a window position is that of its key block. -/
theorem core_big (g : Fin 4) (n : Fin 33) (hn : first (Q i) ≤ n.val) :
    (Finset.univ.sup fun q : Fin 128 => k0_pay26 (F := Ideal) pm (ix2 n (col g q))) = big (s g) (kb (Q i) n.val) := by
  rw [← big_window (s g) (Q i) n hn]
  refine Finset.sup_congr rfl fun q _ => ?_
  rw [pay26_at]
  refine Finset.sup_congr rfl fun a _ => ?_
  rw [core_top i s hs pm hpm, hpm]

/-- The stored result of a grid point. -/
theorem core_out (x10 : S4224x512.Idx → EReal) (i12 p13 : S40x512.Idx → EReal) (vs5 : S2048.Idx → EReal) (vt8 : S1x1x256x128x128.Idx → EReal)
    (h10 : ∀ g q n r, first (Q i) ≤ n → n < 33 → x10 (ix2 (row n r) (col g q)) = s g q (kb (Q i) n) r)
    (h12 : ∀ g q n, first (Q i) ≤ n → n < 33 → i12 (ix2 (srow n) (col g q)) = two (-ex (big (s g) (kb (Q i) n))))
    (h13 : ∀ g q n, first (Q i) ≤ n → n < 33 → p13 (ix2 (srow n) (col g q)) = two (ex (big (s g) (kb (Q i) n))))
    (acc : S128x512.Idx → EReal) (l : S8x512.Idx → EReal)
    (hacc : ∀ d c, acc (ix2 d c) = ∑ n ∈ Finset.Ico (first (Q i)) 33, PT i vs5 vt8 x10 i12 p13 (k0_pay25 (F := Ideal) pm) n d c)
    (hl : ∀ a c, l (ix2 a c) = ∑ n ∈ Finset.Ico (first (Q i)) 33, ∑ x : Fin 16,
      Ideal.exp (x10 (ix2 (row n (sub x a)) c) - k0_pay25 (F := Ideal) pm (ix2 0 c)))
    (g : Fin 4) (q d : Fin 128) :
    Ideal.div (acc (ix2 d (col g q))) (∑ a : Fin 8, l (ix2 a (col g q)))
      = out (s g) (fun j d r => vt8 (ix5 0 0 j d r)) (fun j => vs5 (ix1 (kcell i j))) q d := by
  rw [out_window (s g) _ _ (Q i) (hs g) q d]
  refine congrArg₂ Ideal.div ?_ ?_
  · rw [hacc]
    refine Finset.sum_congr rfl fun n hn => ?_
    obtain ⟨h1, h2⟩ := Finset.mem_Ico.mp hn
    unfold PT part
    rw [h13 g q n h1 h2]
    refine congrArg₂ (fun x y : EReal => x * y) (Finset.sum_congr rfl fun r _ => ?_) rfl
    rw [h10 g q n r h1 h2, h12 g q n h1 h2, core_top i s hs pm hpm]
    rfl
  · refine Finset.sum_congr rfl fun a _ => ?_
    rw [hl]
    refine Finset.sum_congr rfl fun n hn => ?_
    obtain ⟨h1, h2⟩ := Finset.mem_Ico.mp hn
    refine Finset.sum_congr rfl fun x _ => ?_
    rw [h10 g q n _ h1 h2, core_top i s hs pm hpm]
    unfold wt
    rw [show (Fin.ofNat 128 (x.val * 8 + a.val)) = sub x a from Fin.ext (Nat.mod_eq_of_lt (by omega))]

end

end Cert.KernelIdeal.Value
end
-- ==== Proof.KerState.lean ====
module

public import proofs.«01_k».proof.Proof.KerCore

/-!
What the buffers of the attention body hold as it runs once, written out piece by piece.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

/-- The four query groups one below the other. -/
def V10 (arg6 : Memref sig .tc .vmem S1x128x512 .fp8e4m3) (f6 : BufTy.Contents (Elt Ideal) arg6.view.ty) : FVec Ideal S512x128 .fp8e4m3 :=
  k0_pay7 (F := Ideal) (arg6.view.readAt (Elt Ideal) (Rect.unit (s := S1x128x512) ![0, 0, 0] S1x128x128.size inb_S1x128x512_S1x128x128_0_0_0).toLoadRect f6) (arg6.view.readAt (Elt Ideal) (Rect.unit (s := S1x128x512) ![0, 0, 128] S1x128x128.size inb_S1x128x512_S1x128x128_0_0_128).toLoadRect f6)
    (arg6.view.readAt (Elt Ideal) (Rect.unit (s := S1x128x512) ![0, 0, 256] S1x128x128.size inb_S1x128x512_S1x128x128_0_0_256).toLoadRect f6) (arg6.view.readAt (Elt Ideal) (Rect.unit (s := S1x128x512) ![0, 0, 384] S1x128x128.size inb_S1x128x512_S1x128x128_0_0_384).toLoadRect f6)

/-- The four query scales, each over its group's columns. -/
def V32 (i : grid0.Coords) (arg3 : Memref sig .tc .smem S8192 .f32) (f3 : BufTy.Contents (Elt Ideal) arg3.view.ty) : FVec Ideal S1x512 .f32 :=
  k0_pay8 (F := Ideal) (arg3.view.readAt (Elt Ideal) (Rect.unit (s := S8192) (k0_off1 i 0#32) S1.size (k0_off1_inb i 0)).toLoadRect f3 (Shape.Idx.first (s := S1) (by decide)))
    (arg3.view.readAt (Elt Ideal) (Rect.unit (s := S8192) (k0_off1 i 1#32) S1.size (k0_off1_inb i 1)).toLoadRect f3 (Shape.Idx.first (s := S1) (by decide)))
    (arg3.view.readAt (Elt Ideal) (Rect.unit (s := S8192) (k0_off1 i 2#32) S1.size (k0_off1_inb i 2)).toLoadRect f3 (Shape.Idx.first (s := S1) (by decide)))
    (arg3.view.readAt (Elt Ideal) (Rect.unit (s := S8192) (k0_off1 i 3#32) S1.size (k0_off1_inb i 3)).toLoadRect f3 (Shape.Idx.first (s := S1) (by decide)))

/-- The row numbers of a block. -/
def V33 : IVec S128x128 32 := iota .tc S128x128 32 [0] iota_S128x128_d0_w32

/-- The column numbers of a block. -/
def V34 : IVec S128x128 32 := iota .tc S128x128 32 [1] iota_S128x128_d1_w32

/-- The unmasked scores of the last window position. -/
def R6 (i : grid0.Coords) (arg3 : Memref sig .tc .smem S8192 .f32) (arg4 : Memref sig .tc .smem S2048 .f32) (arg6 : Memref sig .tc .vmem S1x128x512 .fp8e4m3) (arg7 : Memref sig .tc .vmem S1x1x32768x128 .fp8e4m3)
    (f3 : BufTy.Contents (Elt Ideal) arg3.view.ty) (f4 : BufTy.Contents (Elt Ideal) arg4.view.ty) (f6 : BufTy.Contents (Elt Ideal) arg6.view.ty) (f7 : BufTy.Contents (Elt Ideal) arg7.view.ty) : FVec Ideal S128x512 .f32 :=
  k0_pay19 (F := Ideal) (V10 arg6 f6) (V32 i arg3 f3) (arg7.view.readAt (Elt Ideal) (Rect.unit (s := S1x1x32768x128) (k0_off12 i) S1x1x128x128.size (k0_off12_inb i)).toLoadRect f7)
    (arg4.view.readAt (Elt Ideal) (Rect.unit (s := S2048) (k0_off13 i) S1.size (k0_off13_inb i)).toLoadRect f4 (Shape.Idx.first (s := S1) (by decide)))

variable (c : Dev nD) (i : grid0.Coords)
  (arg3 : Memref sig .tc .smem S8192 .f32) (harg3 : arg3.IsWhole)
  (arg4 : Memref sig .tc .smem S2048 .f32) (harg4 : arg4.IsWhole)
  (arg5 : Memref sig .tc .smem S2048 .f32) (harg5 : arg5.IsWhole)
  (arg6 : Memref sig .tc .vmem S1x128x512 .fp8e4m3) (harg6 : arg6.IsWhole)
  (arg7 : Memref sig .tc .vmem S1x1x32768x128 .fp8e4m3) (harg7 : arg7.IsWhole)
  (arg8 : Memref sig .tc .vmem S1x1x256x128x128 .fp8e4m3) (harg8 : arg8.IsWhole)
  (arg9 : Memref sig .tc .vmem S1x128x512 .bf16) (harg9 : arg9.IsWhole)
  (arg10 : Memref sig .tc .vmem S4224x512 .f32) (harg10 : arg10.IsWhole)
  (arg11 : Memref sig .tc .vmem S264x512 .f32) (harg11 : arg11.IsWhole)
  (arg12 : Memref sig .tc .vmem S40x512 .f32) (harg12 : arg12.IsWhole)
  (arg13 : Memref sig .tc .vmem S40x512 .f32) (harg13 : arg13.IsWhole)
  (arg14 : Memref sig .tc .vmem S128x512 .f32) (harg14 : arg14.IsWhole)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)

/-- The stored scores: the last window position, the middle ones, and what came before. -/
def L10 (L : List (View.Piece (Elt Ideal) S4224x512 .f32)) : List (View.Piece (Elt Ideal) S4224x512 .f32) :=
  ⟨Rect.unit (s := S4224x512) ![4096, 0] S128x512.size inb_S4224x512_S128x512_4096_0,
      k0_pay23 (F := Ideal) (R6 i arg3 arg4 arg6 arg7 f3 f4 f6 f7) (k0_pay20 V33 V34) (k0_pay21 (F := Ideal))⟩ ::
    ((pb_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (V10 arg6 f6) (V32 i arg3 f3) V33 V34 32#32 f4 f7 (k0_t2_loop i).trips).1 ++ L)

/-- The stored partial maxima: the last window position, the middle ones, and what came before. -/
def L11 (L : List (View.Piece (Elt Ideal) S264x512 .f32)) : List (View.Piece (Elt Ideal) S264x512 .f32) :=
  ⟨Rect.unit (s := S264x512) ![256, 0] S8x512.size inb_S264x512_S8x512_256_0,
      k0_pay24 (F := Ideal) (R6 i arg3 arg4 arg6 arg7 f3 f4 f6 f7) (k0_pay20 V33 V34) (k0_pay21 (F := Ideal))⟩ ::
    ((pb_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (V10 arg6 f6) (V32 i arg3 f3) V33 V34 32#32 f4 f7 (k0_t2_loop i).trips).2 ++ L)

/-- The middle window positions' scores. -/
def P10 : List (View.Piece (Elt Ideal) S4224x512 .f32) := (pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (V10 arg6 f6) (V32 i arg3 f3) V33 V34 32#32 f4 f7 (k0_t1_loop i).trips).1

/-- The middle window positions' partial maxima. -/
def P11 : List (View.Piece (Elt Ideal) S264x512 .f32) := (pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (V10 arg6 f6) (V32 i arg3 f3) V33 V34 32#32 f4 f7 (k0_t1_loop i).trips).2

/-- The first window position's scores. -/
def D10 (hc : k0_cond2 i = 1#1) : View.Piece (Elt Ideal) S4224x512 .f32 :=
  ⟨Rect.unit (s := S4224x512) ![0, 0] S128x512.size inb_S4224x512_S128x512_0_0,
    k0_pay11 (F := Ideal) (V10 arg6 f6) (V32 i arg3 f3) V33 V34 (arg7.view.readAt (Elt Ideal) (Rect.unit (s := S1x1x32768x128) (k0_off2 i) S1x1x128x128.size (k0_off2_inb i hc)).toLoadRect f7)
      (arg4.view.readAt (Elt Ideal) (Rect.unit (s := S2048) (k0_off3 i) S1.size (k0_off3_inb i hc)).toLoadRect f4 (Shape.Idx.first (s := S1) (by decide)))⟩

/-- The first window position's partial maxima. -/
def D11 (hc : k0_cond2 i = 1#1) : View.Piece (Elt Ideal) S264x512 .f32 :=
  ⟨Rect.unit (s := S264x512) ![0, 0] S8x512.size inb_S264x512_S8x512_0_0,
    k0_pay12 (F := Ideal) (V10 arg6 f6) (V32 i arg3 f3) V33 V34 (arg7.view.readAt (Elt Ideal) (Rect.unit (s := S1x1x32768x128) (k0_off2 i) S1x1x128x128.size (k0_off2_inb i hc)).toLoadRect f7)
      (arg4.view.readAt (Elt Ideal) (Rect.unit (s := S2048) (k0_off3 i) S1.size (k0_off3_inb i hc)).toLoadRect f4 (Shape.Idx.first (s := S1) (by decide)))⟩

/-- The partial maxima before any window position, where the window starts before the sequence. -/
def E11 : View.Piece (Elt Ideal) S264x512 .f32 := ⟨Rect.unit (s := S264x512) ![0, 0] S264x512.size inb_S264x512_S264x512_0_0, k0_pay9 (F := Ideal)⟩

/-- The partial maxima as read back. -/
def M79 (X11 : BufTy.Contents (Elt Ideal) arg11.view.ty) : Vec Ideal S264x512 .f32 :=
  arg11.view.readAt (Elt Ideal) (Rect.unit (s := S264x512) ![0, 0] S264x512.size inb_S264x512_S264x512_0_0).toLoadRect X11

/-- The factors the weights are scaled by. -/
def X12 (m : Vec Ideal S264x512 .f32) : BufTy.Contents (Elt Ideal) arg12.view.ty :=
  arg12.view.writes (Elt Ideal) f12 [⟨Rect.unit (s := S40x512) ![0, 384] S33x128.size inb_S40x512_S33x128_0_384, k0_pay46 (F := Ideal) (k0_pay43 (F := Ideal) (k0_pay26 (F := Ideal) m)) (k0_pay44)⟩,
    ⟨Rect.unit (s := S40x512) ![0, 256] S33x128.size inb_S40x512_S33x128_0_256, k0_pay41 (F := Ideal) (k0_pay39 (F := Ideal) (k0_pay26 (F := Ideal) m))⟩,
    ⟨Rect.unit (s := S40x512) ![0, 128] S33x128.size inb_S40x512_S33x128_0_128, k0_pay37 (F := Ideal) (k0_pay34 (F := Ideal) (k0_pay26 (F := Ideal) m)) (k0_pay35)⟩,
    ⟨Rect.unit (s := S40x512) ![0, 0] S33x128.size inb_S40x512_S33x128_0_0, k0_pay32 (F := Ideal) (k0_pay28 (F := Ideal) m) (k0_pay29 (F := Ideal) m) (k0_pay30)⟩]

/-- The factors that undo the scaling. -/
def X13 (m : Vec Ideal S264x512 .f32) : BufTy.Contents (Elt Ideal) arg13.view.ty :=
  arg13.view.writes (Elt Ideal) f13 [⟨Rect.unit (s := S40x512) ![0, 384] S33x128.size inb_S40x512_S33x128_0_384, k0_pay47 (F := Ideal) (k0_pay43 (F := Ideal) (k0_pay26 (F := Ideal) m)) (k0_pay44)⟩,
    ⟨Rect.unit (s := S40x512) ![0, 256] S33x128.size inb_S40x512_S33x128_0_256, k0_pay42 (F := Ideal) (k0_pay39 (F := Ideal) (k0_pay26 (F := Ideal) m))⟩,
    ⟨Rect.unit (s := S40x512) ![0, 128] S33x128.size inb_S40x512_S33x128_0_128, k0_pay38 (F := Ideal) (k0_pay34 (F := Ideal) (k0_pay26 (F := Ideal) m)) (k0_pay35)⟩,
    ⟨Rect.unit (s := S40x512) ![0, 0] S33x128.size inb_S40x512_S33x128_0_0, k0_pay33 (F := Ideal) (k0_pay28 (F := Ideal) m) (k0_pay29 (F := Ideal) m) (k0_pay30)⟩]

/-- The accumulator at zero. -/
def Z14 : List (View.Piece (Elt Ideal) S128x512 .f32) := [⟨Rect.unit (s := S128x512) ![0, 0] S128x512.size inb_S128x512_S128x512_0_0, k0_pay48 (F := Ideal)⟩]

/-- The last loop: the denominators and the accumulator's pieces. -/
def S3 (m : Vec Ideal S264x512 .f32) (X10 : BufTy.Contents (Elt Ideal) arg10.view.ty) : FVec Ideal S8x512 .f32 × List (View.Piece (Elt Ideal) S128x512 .f32) :=
  st_k0_t3 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (k0_pay25 (F := Ideal) m) f5 f8 X10 (X12 arg12 f12 m) (X13 arg13 f13 m)
    (arg14.view.writes (Elt Ideal) arg14.view.junk Z14) (k0_pay49 (F := Ideal)) (k0_t3_loop i).trips

/-- The remainder of the last loop, of no trips. -/
def S4 (m : Vec Ideal S264x512 .f32) (X10 : BufTy.Contents (Elt Ideal) arg10.view.ty) : FVec Ideal S8x512 .f32 × List (View.Piece (Elt Ideal) S128x512 .f32) :=
  st_k0_t4 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) (BitVec.ofNat 32 (i 2).val) (Scalar.maxsi (Scalar.subi 32#32 (BitVec.ofNat 32 (i 2).val)) 0#32) (k0_pay25 (F := Ideal) m)
    (Scalar.addi (Scalar.maxsi (Scalar.subi 32#32 (BitVec.ofNat 32 (i 2).val)) 0#32) (Scalar.muli (Scalar.divsi (Scalar.subi 33#32 (Scalar.maxsi (Scalar.subi 32#32 (BitVec.ofNat 32 (i 2).val)) 0#32)) 1#32) 1#32))
    f5 f8 X10 (X12 arg12 f12 m) (X13 arg13 f13 m)
    (arg14.view.writes (Elt Ideal) arg14.view.junk ((S3 c i arg3 harg3 arg4 harg4 arg5 harg5 arg6 harg6 arg7 harg7 arg8 harg8 arg9 harg9 arg10 harg10 arg11 harg11 arg12 harg12 arg13 harg13 arg14 harg14 f5 f8 f12 f13 m X10).2 ++ Z14)) (S3 c i arg3 harg3 arg4 harg4 arg5 harg5 arg6 harg6 arg7 harg7 arg8 harg8 arg9 harg9 arg10 harg10 arg11 harg11 arg12 harg12 arg13 harg13 arg14 harg14 f5 f8 f12 f13 m X10).1 (k0_t4_loop i).trips

/-- The accumulator as read back. -/
def A14 (m : Vec Ideal S264x512 .f32) (X10 : BufTy.Contents (Elt Ideal) arg10.view.ty) : Vec Ideal S128x512 .f32 :=
  arg14.view.readCov ((S4 c i arg3 harg3 arg4 harg4 arg5 harg5 arg6 harg6 arg7 harg7 arg8 harg8 arg9 harg9 arg10 harg10 arg11 harg11 arg12 harg12 arg13 harg13 arg14 harg14 f5 f8 f12 f13 m X10).2 ++ ((S3 c i arg3 harg3 arg4 harg4 arg5 harg5 arg6 harg6 arg7 harg7 arg8 harg8 arg9 harg9 arg10 harg10 arg11 harg11 arg12 harg12 arg13 harg13 arg14 harg14 f5 f8 f12 f13 m X10).2 ++ Z14))
    (Rect.unit (s := S128x512) ![0, 0] S128x512.size inb_S128x512_S128x512_0_0).toLoadRect

/-- The four stored groups. -/
def L9 (l : FVec Ideal S8x512 .f32) (v : Vec Ideal S128x512 .f32) : List (View.Piece (Elt Ideal) S1x128x512 .bf16) :=
  [⟨Rect.unit (s := S1x128x512) ![0, 0, 384] S1x128x128.size inb_S1x128x512_S1x128x128_0_0_384, k0_pay56 (F := Ideal) l v⟩,
    ⟨Rect.unit (s := S1x128x512) ![0, 0, 256] S1x128x128.size inb_S1x128x512_S1x128x128_0_0_256, k0_pay55 (F := Ideal) l v⟩,
    ⟨Rect.unit (s := S1x128x512) ![0, 0, 128] S1x128x128.size inb_S1x128x512_S1x128x128_0_0_128, k0_pay54 (F := Ideal) l v⟩,
    ⟨Rect.unit (s := S1x128x512) ![0, 0, 0] S1x128x128.size inb_S1x128x512_S1x128x128_0_0_0, k0_pay53 (F := Ideal) l v⟩]

/-- What the body leaves in its output block. -/
def O9 (m : Vec Ideal S264x512 .f32) (X10 : BufTy.Contents (Elt Ideal) arg10.view.ty) : BufTy.Contents (Elt Ideal) arg9.view.ty :=
  arg9.view.writes (Elt Ideal) f9 (L9 (S4 c i arg3 harg3 arg4 harg4 arg5 harg5 arg6 harg6 arg7 harg7 arg8 harg8 arg9 harg9 arg10 harg10 arg11 harg11 arg12 harg12 arg13 harg13 arg14 harg14 f5 f8 f12 f13 m X10).1 (A14 c i arg3 harg3 arg4 harg4 arg5 harg5 arg6 harg6 arg7 harg7 arg8 harg8 arg9 harg9 arg10 harg10 arg11 harg11 arg12 harg12 arg13 harg13 arg14 harg14 f5 f8 f12 f13 m X10))

end Cert.KernelIdeal.Value
end
-- ==== Proof.KerRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import proofs.«01_k».proof.Proof.KerState

/-! The attention body run once at each grid point, with what it leaves in its output block. -/

@[expose] public section

set_option maxRecDepth 16384

noncomputable section

namespace Cert.KernelIdeal.ValueRun

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body from query block 32 on: the inputs end as they were, the output block at what `O9` says. -/
theorem run_ge (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : k0_cond2 i = 1#1) (hc' : ¬ (Scalar.cmpi .ne (Scalar.extui (Scalar.cmpi .slt (BitVec.ofNat 32 (i 2).val) 32#32)) 0#32 : BitVec 1) = 1#1)
    (f3 : Buf (Elt Ideal) (arg3.view.loc (c : Thread nD τ)))
    (f4 : Buf (Elt Ideal) (arg4.view.loc (c : Thread nD τ)))
    (f5 : Buf (Elt Ideal) (arg5.view.loc (c : Thread nD τ)))
    (f6 : Buf (Elt Ideal) (arg6.view.loc (c : Thread nD τ)))
    (f7 : Buf (Elt Ideal) (arg7.view.loc (c : Thread nD τ)))
    (f8 : Buf (Elt Ideal) (arg8.view.loc (c : Thread nD τ)))
    (f9 : Buf (Elt Ideal) (arg9.view.loc (c : Thread nD τ)))
    (f10 : Buf (Elt Ideal) (arg10.view.loc (c : Thread nD τ)))
    (f11 : Buf (Elt Ideal) (arg11.view.loc (c : Thread nD τ)))
    (f12 : Buf (Elt Ideal) (arg12.view.loc (c : Thread nD τ)))
    (f13 : Buf (Elt Ideal) (arg13.view.loc (c : Thread nD τ)))
    (f14 : Buf (Elt Ideal) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt Ideal) (arg9.view.loc (c : Thread nD τ)), (arg9.view.loc (c : Thread nD τ) ↦[arg9.view.set]{fullShare} g) ∗ ⌜g = O9 c i arg3 harg3 arg4 harg4 arg5 harg5 arg6 harg6 arg7 harg7 arg8 harg8 arg9 harg9 arg10 harg10 arg11 harg11 arg12 harg12 arg13 harg13 arg14 harg14 f5 f8 f9 f12 f13 (M79 arg11 (arg11.view.writes (Elt Ideal) f11 (L11 c i arg3 harg3 arg4 harg4 arg5 harg5 arg6 harg6 arg7 harg7 arg8 harg8 arg9 harg9 arg10 harg10 arg11 harg11 arg12 harg12 arg13 harg13 arg14 harg14 f3 f4 f6 f7 ((P11 c i arg3 harg3 arg4 harg4 arg5 harg5 arg6 harg6 arg7 harg7 arg8 harg8 arg9 harg9 arg10 harg10 arg11 harg11 arg12 harg12 arg13 harg13 arg14 harg14 f3 f4 f6 f7) ++ [D11 i arg3 arg4 arg6 arg7 f3 f4 f6 f7 hc])))) (arg10.view.writes (Elt Ideal) f10 (L10 c i arg3 harg3 arg4 harg4 arg5 harg5 arg6 harg6 arg7 harg7 arg8 harg8 arg9 harg9 arg10 harg10 arg11 harg11 arg12 harg12 arg13 harg13 arg14 harg14 f3 f4 f6 f7 ((P10 c i arg3 harg3 arg4 harg4 arg5 harg5 arg6 harg6 arg7 harg7 arg8 harg8 arg9 harg9 arg10 harg10 arg11 harg11 arg12 harg12 arg13 harg13 arg14 harg14 f3 f4 f6 f7) ++ [D10 i arg3 arg4 arg6 arg7 f3 f4 f6 f7 hc])))⌝) ∗ (∃ g : Buf (Elt Ideal) (arg10.view.loc (c : Thread nD τ)), (arg10.view.loc (c : Thread nD τ) ↦[arg10.view.set]{fullShare} g)) ∗ (∃ g : Buf (Elt Ideal) (arg11.view.loc (c : Thread nD τ)), (arg11.view.loc (c : Thread nD τ) ↦[arg11.view.set]{fullShare} g)) ∗ (∃ g : Buf (Elt Ideal) (arg12.view.loc (c : Thread nD τ)), (arg12.view.loc (c : Thread nD τ) ↦[arg12.view.set]{fullShare} g)) ∗ (∃ g : Buf (Elt Ideal) (arg13.view.loc (c : Thread nD τ)), (arg13.view.loc (c : Thread nD τ) ↦[arg13.view.set]{fullShare} g)) ∗ (∃ g : Buf (Elt Ideal) (arg14.view.loc (c : Thread nD τ)), (arg14.view.loc (c : Thread nD τ) ↦[arg14.view.set]{fullShare} g))) -∗ K ⟨⟩))
      ⊢ wp frame (wpE (defs₀ (F := Ideal)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro; exact rfl
  isplitl [H10]; · iexists _; iexact H10
  isplitl [H11]; · iexists _; iexact H11
  isplitl [H12]; · iexists _; iexact H12
  isplitl [H13]; · iexists _; iexact H13
  iexists _; iexact H14

set_option maxHeartbeats 4000000 in
/-- The body before query block 32: the same. -/
theorem run_lt (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (hc : ¬ k0_cond2 i = 1#1) (hc' : (Scalar.cmpi .ne (Scalar.extui (Scalar.cmpi .slt (BitVec.ofNat 32 (i 2).val) 32#32)) 0#32 : BitVec 1) = 1#1)
    (f3 : Buf (Elt Ideal) (arg3.view.loc (c : Thread nD τ)))
    (f4 : Buf (Elt Ideal) (arg4.view.loc (c : Thread nD τ)))
    (f5 : Buf (Elt Ideal) (arg5.view.loc (c : Thread nD τ)))
    (f6 : Buf (Elt Ideal) (arg6.view.loc (c : Thread nD τ)))
    (f7 : Buf (Elt Ideal) (arg7.view.loc (c : Thread nD τ)))
    (f8 : Buf (Elt Ideal) (arg8.view.loc (c : Thread nD τ)))
    (f9 : Buf (Elt Ideal) (arg9.view.loc (c : Thread nD τ)))
    (f10 : Buf (Elt Ideal) (arg10.view.loc (c : Thread nD τ)))
    (f11 : Buf (Elt Ideal) (arg11.view.loc (c : Thread nD τ)))
    (f12 : Buf (Elt Ideal) (arg12.view.loc (c : Thread nD τ)))
    (f13 : Buf (Elt Ideal) (arg13.view.loc (c : Thread nD τ)))
    (f14 : Buf (Elt Ideal) (arg14.view.loc (c : Thread nD τ)))
    (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g : Buf (Elt Ideal) (arg9.view.loc (c : Thread nD τ)), (arg9.view.loc (c : Thread nD τ) ↦[arg9.view.set]{fullShare} g) ∗ ⌜g = O9 c i arg3 harg3 arg4 harg4 arg5 harg5 arg6 harg6 arg7 harg7 arg8 harg8 arg9 harg9 arg10 harg10 arg11 harg11 arg12 harg12 arg13 harg13 arg14 harg14 f5 f8 f9 f12 f13 (M79 arg11 (arg11.view.writes (Elt Ideal) arg11.view.junk (L11 c i arg3 harg3 arg4 harg4 arg5 harg5 arg6 harg6 arg7 harg7 arg8 harg8 arg9 harg9 arg10 harg10 arg11 harg11 arg12 harg12 arg13 harg13 arg14 harg14 f3 f4 f6 f7 ((P11 c i arg3 harg3 arg4 harg4 arg5 harg5 arg6 harg6 arg7 harg7 arg8 harg8 arg9 harg9 arg10 harg10 arg11 harg11 arg12 harg12 arg13 harg13 arg14 harg14 f3 f4 f6 f7) ++ [E11])))) (arg10.view.writes (Elt Ideal) f10 (L10 c i arg3 harg3 arg4 harg4 arg5 harg5 arg6 harg6 arg7 harg7 arg8 harg8 arg9 harg9 arg10 harg10 arg11 harg11 arg12 harg12 arg13 harg13 arg14 harg14 f3 f4 f6 f7 (P10 c i arg3 harg3 arg4 harg4 arg5 harg5 arg6 harg6 arg7 harg7 arg8 harg8 arg9 harg9 arg10 harg10 arg11 harg11 arg12 harg12 arg13 harg13 arg14 harg14 f3 f4 f6 f7)))⌝) ∗ (∃ g : Buf (Elt Ideal) (arg10.view.loc (c : Thread nD τ)), (arg10.view.loc (c : Thread nD τ) ↦[arg10.view.set]{fullShare} g)) ∗ (∃ g : Buf (Elt Ideal) (arg11.view.loc (c : Thread nD τ)), (arg11.view.loc (c : Thread nD τ) ↦[arg11.view.set]{fullShare} g)) ∗ (∃ g : Buf (Elt Ideal) (arg12.view.loc (c : Thread nD τ)), (arg12.view.loc (c : Thread nD τ) ↦[arg12.view.set]{fullShare} g)) ∗ (∃ g : Buf (Elt Ideal) (arg13.view.loc (c : Thread nD τ)), (arg13.view.loc (c : Thread nD τ) ↦[arg13.view.set]{fullShare} g)) ∗ (∃ g : Buf (Elt Ideal) (arg14.view.loc (c : Thread nD τ)), (arg14.view.loc (c : Thread nD τ) ↦[arg14.view.set]{fullShare} g))) -∗ K ⟨⟩))
      ⊢ wp frame (wpE (defs₀ (F := Ideal)) Variants.none c none) E (cc0_swa_attention i arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro; exact rfl
  isplitl [H10]; · iexists _; iexact H10
  isplitl [H11]; · iexists _; iexact H11
  isplitl [H12]; · iexists _; iexact H12
  isplitl [H13]; · iexists _; iexact H13
  iexists _; iexact H14

end Cert.KernelIdeal.ValueRun
end
-- ==== Proof.KerRead.lean ====
module

public import proofs.«01_k».proof.Proof.KerState

/-!
What the buffers of the attention body read back.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

/-- Rows numbered by words: not below. -/
theorem word_sle (r q : Fin 128) : IntOp.cmpi .sle (BitVec.ofNat 32 r.val) (BitVec.ofNat 32 q.val) = if r ≤ q then 1#1 else 0#1 := by
  have h1 : (BitVec.ofNat 32 r.val).toInt = r.val := by rw [BitVec.toInt_eq_toNat_of_lt (by simp; omega)]; simp; omega
  have h2 : (BitVec.ofNat 32 q.val).toInt = q.val := by rw [BitVec.toInt_eq_toNat_of_lt (by simp; omega)]; simp; omega
  have e : (BitVec.ofNat 32 r.val).sle (BitVec.ofNat 32 q.val) = decide (r ≤ q) := by
    rw [BitVec.sle, h1, h2]
    exact decide_eq_decide.mpr (by rw [Fin.le_def]; omega)
  show BitVec.ofBool ((BitVec.ofNat 32 r.val).sle (BitVec.ofNat 32 q.val)) = _
  rw [e]
  by_cases h : r ≤ q
  · rw [decide_eq_true h, if_pos h]; rfl
  · rw [decide_eq_false h, if_neg h]; rfl

/-- Rows numbered by words: above. -/
theorem word_sgt (r q : Fin 128) : IntOp.cmpi .sgt (BitVec.ofNat 32 r.val) (BitVec.ofNat 32 q.val) = if q < r then 1#1 else 0#1 := by
  have h1 : (BitVec.ofNat 32 r.val).toInt = r.val := by rw [BitVec.toInt_eq_toNat_of_lt (by simp; omega)]; simp; omega
  have h2 : (BitVec.ofNat 32 q.val).toInt = q.val := by rw [BitVec.toInt_eq_toNat_of_lt (by simp; omega)]; simp; omega
  have e : (BitVec.ofNat 32 q.val).slt (BitVec.ofNat 32 r.val) = decide (q < r) := by
    rw [BitVec.slt, h1, h2]
    exact decide_eq_decide.mpr (by rw [Fin.lt_def]; omega)
  show BitVec.ofBool ((BitVec.ofNat 32 q.val).slt (BitVec.ofNat 32 r.val)) = _
  rw [e]
  by_cases h : q < r
  · rw [decide_eq_true h, if_pos h]; rfl
  · rw [decide_eq_false h, if_neg h]; rfl

/-- The row numbers. -/
theorem V33_at (r q : Fin 128) : V33 (ix2 r q) = BitVec.ofNat 32 r.val := by
  pointwise [V33]

/-- The column numbers. -/
theorem V34_at (r q : Fin 128) : V34 (ix2 r q) = BitVec.ofNat 32 q.val := by
  pointwise [V34]

/-- A choice by a condition. -/
theorem select_if (p : Prop) [Decidable p] (x y : EReal) : Scalar.select (if p then 1#1 else 0#1 : BitVec 1) x y = if p then x else y := by
  by_cases h : p
  · rw [if_pos h, if_pos h]; rfl
  · rw [if_neg h, if_neg h]; rfl

variable (c : Dev nD) (i : grid0.Coords)
  (arg3 : Memref sig .tc .smem S8192 .f32) (harg3 : arg3.IsWhole)
  (arg4 : Memref sig .tc .smem S2048 .f32) (harg4 : arg4.IsWhole)
  (arg5 : Memref sig .tc .smem S2048 .f32) (harg5 : arg5.IsWhole)
  (arg6 : Memref sig .tc .vmem S1x128x512 .fp8e4m3) (harg6 : arg6.IsWhole)
  (arg7 : Memref sig .tc .vmem S1x1x32768x128 .fp8e4m3) (harg7 : arg7.IsWhole)
  (arg8 : Memref sig .tc .vmem S1x1x256x128x128 .fp8e4m3) (harg8 : arg8.IsWhole)
  (arg9 : Memref sig .tc .vmem S1x128x512 .bf16) (harg9 : arg9.IsWhole)
  (arg10 : Memref sig .tc .vmem S4224x512 .f32) (harg10 : arg10.IsWhole)
  (arg11 : Memref sig .tc .vmem S264x512 .f32) (harg11 : arg11.IsWhole)
  (arg12 : Memref sig .tc .vmem S40x512 .f32) (harg12 : arg12.IsWhole)
  (arg13 : Memref sig .tc .vmem S40x512 .f32) (harg13 : arg13.IsWhole)
  (arg14 : Memref sig .tc .vmem S128x512 .f32) (harg14 : arg14.IsWhole)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (r q d : Fin 128) (g : Fin 4) (a : Fin 8) (c' : Fin 512)

/-- The query codes of a group. -/
theorem V10_at (l : Fin 128) : V10 arg6 f6 (ix2 (col g q) l) = arg6.view.read (Elt Ideal) f6 (ix3 0 q (col g l)) := by
  unfold V10
  rw [pay7_at]
  fin_cases g
  · exact readAt_unit arg6.view f6 _ rfl (ix3 0 q l) (ix3 0 q (col 0 l)) (fun y => by fin_cases y <;> first | rfl | exact Nat.zero_add _)
  · exact readAt_unit arg6.view f6 _ rfl (ix3 0 q l) (ix3 0 q (col 1 l)) (fun y => by fin_cases y <;> first | rfl | exact Nat.zero_add _)
  · exact readAt_unit arg6.view f6 _ rfl (ix3 0 q l) (ix3 0 q (col 2 l)) (fun y => by fin_cases y <;> first | rfl | exact Nat.zero_add _)
  · exact readAt_unit arg6.view f6 _ rfl (ix3 0 q l) (ix3 0 q (col 3 l)) (fun y => by fin_cases y <;> first | rfl | exact Nat.zero_add _)

/-- The query scale of a group. -/
theorem V32_at : V32 i arg3 f3 (ix2 0 (col g q)) = arg3.view.read (Elt Ideal) f3 (ix1 (qcell i g)) := by
  unfold V32
  rw [pay8_at]
  fin_cases g
  · exact readAt_unit arg3.view f3 _ (off1_eq i 0) (Shape.Idx.first (s := S1) (by decide)) (ix1 (qcell i 0)) (fun y => by fin_cases y; rfl)
  · exact readAt_unit arg3.view f3 _ (off1_eq i 1) (Shape.Idx.first (s := S1) (by decide)) (ix1 (qcell i 1)) (fun y => by fin_cases y; rfl)
  · exact readAt_unit arg3.view f3 _ (off1_eq i 2) (Shape.Idx.first (s := S1) (by decide)) (ix1 (qcell i 2)) (fun y => by fin_cases y; rfl)
  · exact readAt_unit arg3.view f3 _ (off1_eq i 3) (Shape.Idx.first (s := S1) (by decide)) (ix1 (qcell i 3)) (fun y => by fin_cases y; rfl)

/-- The unmasked scores of the last window position. -/
theorem R6_at : R6 i arg3 arg4 arg6 arg7 f3 f4 f6 f7 (ix2 r c') = SC i (arg7.view.read (Elt Ideal) f7) (arg4.view.read (Elt Ideal) f4) (V10 arg6 f6) (V32 i arg3 f3) 32 r c' := by
  unfold R6
  rw [pay19_at]
  unfold SC
  refine congrArg₂ (fun x y : EReal => x * y) (Finset.sum_congr rfl fun l _ => congrArg (fun x : EReal => x * V10 arg6 f6 (ix2 c' l)) ?_)
    (congrArg (fun x : EReal => x * Ideal.ofBits .f32 1035273459#32) (congrArg (fun x : EReal => V32 i arg3 f3 (ix2 0 c') * x) ?_))
  · exact readAt_unit arg7.view f7 _ (off12_eq i) (ix4 0 0 r l) (ix4 0 0 (krow i 32 r) l) (fun y => by fin_cases y <;> first | rfl | exact Nat.zero_add _)
  · exact readAt_unit arg4.view f4 _ (off13_eq i) (Shape.Idx.first (s := S1) (by decide)) (ix1 (cell i 32)) (fun y => by fin_cases y; rfl)

/-- The masked scores of the last window position. -/
theorem diag_at : k0_pay23 (F := Ideal) (R6 i arg3 arg4 arg6 arg7 f3 f4 f6 f7) (k0_pay20 V33 V34) (k0_pay21 (F := Ideal)) (ix2 r (col g q))
    = if r ≤ q then SC i (arg7.view.read (Elt Ideal) f7) (arg4.view.read (Elt Ideal) f4) (V10 arg6 f6) (V32 i arg3 f3) 32 r (col g q) else ⊥ := by
  rw [pay23_at, pay20_at, V33_at, V34_at, word_sle, select_if, negInf, R6_at]

/-- The masked scores of the first window position. -/
theorem first_at (hc : k0_cond2 i = 1#1) : (D10 i arg3 arg4 arg6 arg7 f3 f4 f6 f7 hc).2 (ix2 r (col g q))
    = if q < r then SC i (arg7.view.read (Elt Ideal) f7) (arg4.view.read (Elt Ideal) f4) (V10 arg6 f6) (V32 i arg3 f3) 0 r (col g q) else ⊥ := by
  unfold D10
  refine (pay11_at ..).trans ?_
  rw [V33_at, V34_at, word_sgt, select_if, negInf]
  refine congrArg (fun x : EReal => if q < r then x else ⊥) ?_
  unfold SC
  refine congrArg₂ (fun x y : EReal => x * y) (Finset.sum_congr rfl fun l _ => congrArg (fun x : EReal => x * V10 arg6 f6 (ix2 (col g q) l)) ?_)
    (congrArg (fun x : EReal => x * Ideal.ofBits .f32 1035273459#32) (congrArg (fun x : EReal => V32 i arg3 f3 (ix2 0 (col g q)) * x) ?_))
  · exact readAt_unit arg7.view f7 _ (off2_eq i) (ix4 0 0 r l) (ix4 0 0 (krow i 0 r) l) (fun y => by fin_cases y <;> first | rfl | exact Nat.zero_add _)
  · exact readAt_unit arg4.view f4 _ (off3_eq i) (Shape.Idx.first (s := S1) (by decide)) (ix1 (cell i 0)) (fun y => by fin_cases y; rfl)

/-- The remainder of the middle loop writes no scores. -/
theorem t2_none (L) : L10 c i arg3 harg3 arg4 harg4 arg5 harg5 arg6 harg6 arg7 harg7 arg8 harg8 arg9 harg9 arg10 harg10 arg11 harg11 arg12 harg12 arg13 harg13 arg14 harg14 f3 f4 f6 f7 L =
    ⟨Rect.unit (s := S4224x512) ![4096, 0] S128x512.size inb_S4224x512_S128x512_4096_0,
      k0_pay23 (F := Ideal) (R6 i arg3 arg4 arg6 arg7 f3 f4 f6 f7) (k0_pay20 V33 V34) (k0_pay21 (F := Ideal))⟩ :: L := by
  unfold L10
  rw [trips2 i]
  rfl

/-- The remainder of the middle loop writes no maxima. -/
theorem t2_none' (L) : L11 c i arg3 harg3 arg4 harg4 arg5 harg5 arg6 harg6 arg7 harg7 arg8 harg8 arg9 harg9 arg10 harg10 arg11 harg11 arg12 harg12 arg13 harg13 arg14 harg14 f3 f4 f6 f7 L =
    ⟨Rect.unit (s := S264x512) ![256, 0] S8x512.size inb_S264x512_S8x512_256_0,
      k0_pay24 (F := Ideal) (R6 i arg3 arg4 arg6 arg7 f3 f4 f6 f7) (k0_pay20 V33 V34) (k0_pay21 (F := Ideal))⟩ :: L := by
  unfold L11
  rw [trips2 i]
  rfl

/-- The stored scores are the masked scores of the window. -/
theorem score_at (L : List (View.Piece (Elt Ideal) S4224x512 .f32)) (n : ℕ) (hn : first (Q i) ≤ n) (hn' : n < 33)
    (h0 : n = 0 → arg10.view.read (Elt Ideal) (arg10.view.writes (Elt Ideal) f10 L) (ix2 (row 0 r) (col g q)) = if q < r then SC i (arg7.view.read (Elt Ideal) f7) (arg4.view.read (Elt Ideal) f4) (V10 arg6 f6) (V32 i arg3 f3) 0 r (col g q) else ⊥) :
    arg10.view.read (Elt Ideal) (arg10.view.writes (Elt Ideal) f10 (L10 c i arg3 harg3 arg4 harg4 arg5 harg5 arg6 harg6 arg7 harg7 arg8 harg8 arg9 harg9 arg10 harg10 arg11 harg11 arg12 harg12 arg13 harg13 arg14 harg14 f3 f4 f6 f7 (P10 c i arg3 harg3 arg4 harg4 arg5 harg5 arg6 harg6 arg7 harg7 arg8 harg8 arg9 harg9 arg10 harg10 arg11 harg11 arg12 harg12 arg13 harg13 arg14 harg14 f3 f4 f6 f7 ++ L))) (ix2 (row n r) (col g q))
      = SS i (arg7.view.read (Elt Ideal) f7) (arg6.view.read (Elt Ideal) f6) (arg3.view.read (Elt Ideal) f3) (arg4.view.read (Elt Ideal) f4) g q (kb (Q i) n) r := by
  rw [SS_eq i _ _ _ _ g q n r hn hn' (V10 arg6 f6) (V32 i arg3 f3) (fun l => V10_at (g := g) (q := q) (l := l) ..) (V32_at (g := g) (q := q) ..)]
  rw [t2_none]
  by_cases h32 : n = 32
  · subst h32
    refine (View.read_writes_cons_rows_of_mem (o := 4096) (hoff := rfl) (y := ix2 (row 32 r) (col g q)) (x := ix2 r (col g q)) (hx0 := row_val (by omega) r) (hx1 := rfl) ..).trans ?_
    rw [diag_at]
    exact if_congr ⟨fun h => ⟨fun _ => h, fun h' => absurd h' (by omega)⟩, fun h => h.1 rfl⟩ rfl rfl
  · rw [View.read_writes_cons_rows_of_not_mem (o := 4096) (W := 128) (hoff := rfl) (hW := rfl)]
    · rw [View.writes_append]
      by_cases hz : n = 0
      · subst hz
        refine ((t1_scores Variants.none c none i arg3 harg3 arg4 harg4 arg5 harg5 arg6 harg6 arg7 harg7 arg8 harg8 arg9 harg9 arg10 harg10 arg11 harg11 arg12 harg12 arg13 harg13 arg14 harg14 _ _ _ _ (V10 arg6 f6) (V32 i arg3 f3) V33 V34 32#32 f4 f7 (col g q) (arg10.view.writes (Elt Ideal) f10 L) _ le_rfl (row 0 r)).1 (.inl ?_)).trans ?_
        · have := r.isLt
          rw [row_val (n := 0) (by omega) r]
          unfold f1
          omega
        · rw [h0 rfl]
          exact if_congr ⟨fun h => ⟨fun h' => absurd h' (by omega), fun _ => h⟩, fun h => h.2 rfl⟩ rfl rfl
      · refine ((t1_scores Variants.none c none i arg3 harg3 arg4 harg4 arg5 harg5 arg6 harg6 arg7 harg7 arg8 harg8 arg9 harg9 arg10 harg10 arg11 harg11 arg12 harg12 arg13 harg13 arg14 harg14 _ _ _ _ (V10 arg6 f6) (V32 i arg3 f3) V33 V34 32#32 f4 f7 (col g q) (arg10.view.writes (Elt Ideal) f10 L) _ le_rfl (row n r)).2 n r ?_ ?_ (row_val (by omega) r)).trans ?_
        · unfold f1; omega
        · rw [trips1]; unfold f1 first; omega
        · rw [if_pos ⟨fun h => absurd h h32, fun h => absurd h hz⟩]
    · left
      show (row n r).val < 4096
      rw [row_val (by omega) r]
      have := r.isLt
      omega

/-- A supremum over sixteen rows, as partial maxima state it. -/
theorem PMax_at (s : Fin 128 → Fin 256 → Fin 128 → EReal) (x : Fin 256) (n : ℕ) (a : Fin 8) (R : Fin 264) (hR : R.val = n * 8 + a.val) (hn : first x ≤ n) :
    PMax s x q R = Finset.univ.sup fun y : Fin 16 => s q (kb x n) (sub y a) := by
  unfold PMax
  have h1 : R.val / 8 = n := by have := a.isLt; omega
  have h2 : R.val % 8 = a.val := by have := a.isLt; omega
  rw [h1, h2, if_pos hn]
  refine Finset.sup_congr rfl fun y _ => ?_
  rw [show (Fin.ofNat 128 (y.val * 8 + a.val)) = sub y a from Fin.ext (Nat.mod_eq_of_lt (by omega))]

/-- The partial maxima read back are those of the masked scores. -/
theorem maxima_at (F : BufTy.Contents (Elt Ideal) arg11.view.ty) (L : List (View.Piece (Elt Ideal) S264x512 .f32)) (R : Fin 264)
    (h0 : R.val < f1 (Q i) * 8 → arg11.view.read (Elt Ideal) (arg11.view.writes (Elt Ideal) F L) (ix2 R (col g q)) = PMax (SS i (arg7.view.read (Elt Ideal) f7) (arg6.view.read (Elt Ideal) f6) (arg3.view.read (Elt Ideal) f3) (arg4.view.read (Elt Ideal) f4) g) (Q i) q R) :
    M79 arg11 (arg11.view.writes (Elt Ideal) F (L11 c i arg3 harg3 arg4 harg4 arg5 harg5 arg6 harg6 arg7 harg7 arg8 harg8 arg9 harg9 arg10 harg10 arg11 harg11 arg12 harg12 arg13 harg13 arg14 harg14 f3 f4 f6 f7 (P11 c i arg3 harg3 arg4 harg4 arg5 harg5 arg6 harg6 arg7 harg7 arg8 harg8 arg9 harg9 arg10 harg10 arg11 harg11 arg12 harg12 arg13 harg13 arg14 harg14 f3 f4 f6 f7 ++ L))) (ix2 R (col g q))
      = PMax (SS i (arg7.view.read (Elt Ideal) f7) (arg6.view.read (Elt Ideal) f6) (arg3.view.read (Elt Ideal) f3) (arg4.view.read (Elt Ideal) f4) g) (Q i) q R := by
  unfold M79
  refine (readAt_unit arg11.view _ _ rfl (ix2 R (col g q)) (ix2 R (col g q)) (fun y => by fin_cases y <;> exact Nat.zero_add _)).trans ?_
  rw [t2_none']
  have hf : first (Q i) ≤ 32 := by unfold first; omega
  have hR := R.isLt
  by_cases h32 : 256 ≤ R.val
  · obtain ⟨a8, ha⟩ : ∃ a8 : Fin 8, R.val = 32 * 8 + a8.val := ⟨⟨R.val - 256, by omega⟩, by show R.val = 32 * 8 + (R.val - 256); omega⟩
    rw [PMax_at q _ (Q i) 32 _ R ha hf]
    refine (View.read_writes_cons_rows_of_mem (o := 256) (hoff := rfl) (y := ix2 R (col g q)) (x := ix2 a8 (col g q)) (hx0 := ha) (hx1 := rfl) ..).trans ?_
    rw [pay24_at]
    refine Finset.sup_congr rfl fun y _ => ?_
    rw [diag_at]
    rw [SS_eq i _ _ _ _ g q 32 _ hf (by omega) (V10 arg6 f6) (V32 i arg3 f3) (fun l => V10_at (g := g) (q := q) (l := l) ..) (V32_at (g := g) (q := q) ..)]
    exact if_congr ⟨fun h => ⟨fun _ => h, fun h' => absurd h' (by omega)⟩, fun h => h.1 rfl⟩ rfl rfl
  · rw [View.read_writes_cons_rows_of_not_mem (o := 256) (W := 8) (hoff := rfl) (hW := rfl)]
    · rw [View.writes_append]
      by_cases hz : R.val < f1 (Q i) * 8
      · exact ((t1_maxima Variants.none c none i arg3 harg3 arg4 harg4 arg5 harg5 arg6 harg6 arg7 harg7 arg8 harg8 arg9 harg9 arg10 harg10 arg11 harg11 arg12 harg12 arg13 harg13 arg14 harg14 _ _ _ _ (V10 arg6 f6) (V32 i arg3 f3) V33 V34 32#32 f4 f7 (col g q) (arg11.view.writes (Elt Ideal) F L) _ le_rfl R).1 (.inl hz)).trans (h0 hz)
      · have ha : R.val = R.val / 8 * 8 + (⟨R.val % 8, by omega⟩ : Fin 8).val := by show R.val = R.val / 8 * 8 + R.val % 8; omega
        have hz' : max (first (Q i)) 1 * 8 ≤ R.val := not_lt.mp hz
        have hn1 : max (first (Q i)) 1 ≤ R.val / 8 := by omega
        refine ((t1_maxima Variants.none c none i arg3 harg3 arg4 harg4 arg5 harg5 arg6 harg6 arg7 harg7 arg8 harg8 arg9 harg9 arg10 harg10 arg11 harg11 arg12 harg12 arg13 harg13 arg14 harg14 _ _ _ _ (V10 arg6 f6) (V32 i arg3 f3) V33 V34 32#32 f4 f7 (col g q) (arg11.view.writes (Elt Ideal) F L) _ le_rfl R).2 (R.val / 8) _ hn1 ?_ ha).trans ?_
        · rw [trips1]; unfold f1; omega
        · rw [PMax_at q _ (Q i) (R.val / 8) _ R ha (by omega)]
          refine Finset.sup_congr rfl fun y _ => ?_
          rw [SS_eq i _ _ _ _ g q (R.val / 8) _ (by omega) (by omega) (V10 arg6 f6) (V32 i arg3 f3) (fun l => V10_at (g := g) (q := q) (l := l) ..) (V32_at (g := g) (q := q) ..)]
          rw [if_pos ⟨fun h => absurd h (by omega), fun h => absurd h (by omega)⟩]
    · left
      show R.val < 256
      omega

end Cert.KernelIdeal.Value
end
-- ==== Proof.KerValue.lean ====
module

public import proofs.«01_k».proof.Proof.KerRead

/-!
The value one grid point of the attention body leaves in its output block.
-/

@[expose] public section

set_option maxRecDepth 16384

noncomputable section

open Idealize.ShloMosaic Idealize.ShloMosaic.TcCoe Idealize.SL.Sem
open Idealize.ShloMosaic.Rounds

namespace Cert.KernelIdeal.Value

open Cert.KernelIdeal Cert.KernelIdeal.Gen Cert.Spec

/-- The zero word is zero. -/
theorem zeroWord : Ideal.ofBits FTy.f32 0#32 = 0 := by
  simp [Ideal.ofBits, Ideal.ieee]

/-- Four lane blocks of 33 rows, read back. -/
theorem lanes_at (v : View sig .tc .vmem S40x512 .f32) (f : BufTy.Contents (Elt Ideal) v.ty) (w0 w1 w2 w3 : Vec Ideal S33x128 .f32) (n : Fin 33) (g : Fin 4) (q : Fin 128) :
    v.read (Elt Ideal) (v.writes (Elt Ideal) f [⟨Rect.unit (s := S40x512) ![0, 384] S33x128.size inb_S40x512_S33x128_0_384, w3⟩,
      ⟨Rect.unit (s := S40x512) ![0, 256] S33x128.size inb_S40x512_S33x128_0_256, w2⟩,
      ⟨Rect.unit (s := S40x512) ![0, 128] S33x128.size inb_S40x512_S33x128_0_128, w1⟩,
      ⟨Rect.unit (s := S40x512) ![0, 0] S33x128.size inb_S40x512_S33x128_0_0, w0⟩]) (ix2 (srow n.val) (col g q))
      = (![w0, w1, w2, w3] g) (ix2 n q) := by
  have hs : (srow n.val).val = 0 + n.val := by rw [srow_val (by omega)]; omega
  have hq := q.isLt
  fin_cases g
  · refine (View.read_writes_cons_unit_of_not_mem v f _ _ _ (ix2 (srow n.val) (col 0 q)) (off' := ![0, 384]) rfl 1 (.inl (by show 0 * 128 + q.val < 384; omega))).trans ?_
    refine (View.read_writes_cons_unit_of_not_mem v f _ _ _ (ix2 (srow n.val) (col 0 q)) (off' := ![0, 256]) rfl 1 (.inl (by show 0 * 128 + q.val < 256; omega))).trans ?_
    refine (View.read_writes_cons_unit_of_not_mem v f _ _ _ (ix2 (srow n.val) (col 0 q)) (off' := ![0, 128]) rfl 1 (.inl (by show 0 * 128 + q.val < 128; omega))).trans ?_
    exact View.read_writes_cons_unit_of_mem v f _ w0 _ (ix2 (srow n.val) (col 0 q)) (ix2 n q) rfl (fun y => by fin_cases y <;> first | exact hs | (show 0 * 128 + q.val = 0 + q.val; omega))
  · refine (View.read_writes_cons_unit_of_not_mem v f _ _ _ (ix2 (srow n.val) (col 1 q)) (off' := ![0, 384]) rfl 1 (.inl (by show 1 * 128 + q.val < 384; omega))).trans ?_
    refine (View.read_writes_cons_unit_of_not_mem v f _ _ _ (ix2 (srow n.val) (col 1 q)) (off' := ![0, 256]) rfl 1 (.inl (by show 1 * 128 + q.val < 256; omega))).trans ?_
    exact View.read_writes_cons_unit_of_mem v f _ w1 _ (ix2 (srow n.val) (col 1 q)) (ix2 n q) rfl (fun y => by fin_cases y <;> first | exact hs | (show 1 * 128 + q.val = 128 + q.val; omega))
  · refine (View.read_writes_cons_unit_of_not_mem v f _ _ _ (ix2 (srow n.val) (col 2 q)) (off' := ![0, 384]) rfl 1 (.inl (by show 2 * 128 + q.val < 384; omega))).trans ?_
    exact View.read_writes_cons_unit_of_mem v f _ w2 _ (ix2 (srow n.val) (col 2 q)) (ix2 n q) rfl (fun y => by fin_cases y <;> first | exact hs | (show 2 * 128 + q.val = 256 + q.val; omega))
  · exact View.read_writes_cons_unit_of_mem v f _ w3 _ (ix2 (srow n.val) (col 3 q)) (ix2 n q) rfl (fun y => by fin_cases y <;> first | exact hs | (show 3 * 128 + q.val = 384 + q.val; omega))

/-- Four lane blocks of the output, read back. -/
theorem olanes_at (v : View sig .tc .vmem S1x128x512 .bf16) (f : BufTy.Contents (Elt Ideal) v.ty) (l : FVec Ideal S8x512 .f32) (w : Vec Ideal S128x512 .f32) (g : Fin 4) (q d : Fin 128) :
    v.read (Elt Ideal) (v.writes (Elt Ideal) f (L9 l w)) (ix3 0 q (col g d)) = Ideal.div (w (ix2 d (col g q))) (∑ a : Fin 8, l (ix2 a (col g q))) := by
  have hd := d.isLt
  unfold L9
  fin_cases g
  · refine (View.read_writes_cons_unit_of_not_mem v f _ _ _ (ix3 0 q (col 0 d)) (off' := ![0, 0, 384]) rfl 2 (.inl (by show 0 * 128 + d.val < 384; omega))).trans ?_
    refine (View.read_writes_cons_unit_of_not_mem v f _ _ _ (ix3 0 q (col 0 d)) (off' := ![0, 0, 256]) rfl 2 (.inl (by show 0 * 128 + d.val < 256; omega))).trans ?_
    refine (View.read_writes_cons_unit_of_not_mem v f _ _ _ (ix3 0 q (col 0 d)) (off' := ![0, 0, 128]) rfl 2 (.inl (by show 0 * 128 + d.val < 128; omega))).trans ?_
    refine (View.read_writes_cons_unit_of_mem v f _ _ _ (ix3 0 q (col 0 d)) (ix3 0 q d) rfl (fun y => by fin_cases y <;> first | rfl | (show q.val = 0 + q.val; omega) | (show 0 * 128 + d.val = 0 + d.val; omega))).trans ?_
    exact pay53_at ..
  · refine (View.read_writes_cons_unit_of_not_mem v f _ _ _ (ix3 0 q (col 1 d)) (off' := ![0, 0, 384]) rfl 2 (.inl (by show 1 * 128 + d.val < 384; omega))).trans ?_
    refine (View.read_writes_cons_unit_of_not_mem v f _ _ _ (ix3 0 q (col 1 d)) (off' := ![0, 0, 256]) rfl 2 (.inl (by show 1 * 128 + d.val < 256; omega))).trans ?_
    refine (View.read_writes_cons_unit_of_mem v f _ _ _ (ix3 0 q (col 1 d)) (ix3 0 q d) rfl (fun y => by fin_cases y <;> first | rfl | (show q.val = 0 + q.val; omega) | (show 1 * 128 + d.val = 128 + d.val; omega))).trans ?_
    exact pay54_at ..
  · refine (View.read_writes_cons_unit_of_not_mem v f _ _ _ (ix3 0 q (col 2 d)) (off' := ![0, 0, 384]) rfl 2 (.inl (by show 2 * 128 + d.val < 384; omega))).trans ?_
    refine (View.read_writes_cons_unit_of_mem v f _ _ _ (ix3 0 q (col 2 d)) (ix3 0 q d) rfl (fun y => by fin_cases y <;> first | rfl | (show q.val = 0 + q.val; omega) | (show 2 * 128 + d.val = 256 + d.val; omega))).trans ?_
    exact pay55_at ..
  · refine (View.read_writes_cons_unit_of_mem v f _ _ _ (ix3 0 q (col 3 d)) (ix3 0 q d) rfl (fun y => by fin_cases y <;> first | rfl | (show q.val = 0 + q.val; omega) | (show 3 * 128 + d.val = 384 + d.val; omega))).trans ?_
    exact pay56_at ..

variable (c : Dev nD) (i : grid0.Coords)
  (arg3 : Memref sig .tc .smem S8192 .f32) (harg3 : arg3.IsWhole)
  (arg4 : Memref sig .tc .smem S2048 .f32) (harg4 : arg4.IsWhole)
  (arg5 : Memref sig .tc .smem S2048 .f32) (harg5 : arg5.IsWhole)
  (arg6 : Memref sig .tc .vmem S1x128x512 .fp8e4m3) (harg6 : arg6.IsWhole)
  (arg7 : Memref sig .tc .vmem S1x1x32768x128 .fp8e4m3) (harg7 : arg7.IsWhole)
  (arg8 : Memref sig .tc .vmem S1x1x256x128x128 .fp8e4m3) (harg8 : arg8.IsWhole)
  (arg9 : Memref sig .tc .vmem S1x128x512 .bf16) (harg9 : arg9.IsWhole)
  (arg10 : Memref sig .tc .vmem S4224x512 .f32) (harg10 : arg10.IsWhole)
  (arg11 : Memref sig .tc .vmem S264x512 .f32) (harg11 : arg11.IsWhole)
  (arg12 : Memref sig .tc .vmem S40x512 .f32) (harg12 : arg12.IsWhole)
  (arg13 : Memref sig .tc .vmem S40x512 .f32) (harg13 : arg13.IsWhole)
  (arg14 : Memref sig .tc .vmem S128x512 .f32) (harg14 : arg14.IsWhole)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (r q d : Fin 128) (g : Fin 4) (a : Fin 8) (c' : Fin 512)

/-- The factors the weights are scaled by, read back. -/
theorem X12_at (m : Vec Ideal S264x512 .f32) (n : Fin 33) (h : (Finset.univ.sup fun q : Fin 128 => k0_pay26 (F := Ideal) m (ix2 n (col g q))) ≤ 1) :
    arg12.view.read (Elt Ideal) (X12 arg12 f12 m) (ix2 (srow n.val) (col g q)) = two (-ex (Finset.univ.sup fun q : Fin 128 => k0_pay26 (F := Ideal) m (ix2 n (col g q)))) := by
  unfold X12
  rw [lanes_at]
  fin_cases g
  · exact pay32_at q n m h
  · exact pay37_at q n _ h
  · exact pay41_at q n _ h
  · exact pay46_at q n _ h

/-- The factors that undo the scaling, read back. -/
theorem X13_at (m : Vec Ideal S264x512 .f32) (n : Fin 33) (h : (Finset.univ.sup fun q : Fin 128 => k0_pay26 (F := Ideal) m (ix2 n (col g q))) ≤ 1) :
    arg13.view.read (Elt Ideal) (X13 arg13 f13 m) (ix2 (srow n.val) (col g q)) = two (ex (Finset.univ.sup fun q : Fin 128 => k0_pay26 (F := Ideal) m (ix2 n (col g q)))) := by
  unfold X13
  rw [lanes_at]
  fin_cases g
  · exact pay33_at q n m h
  · exact pay38_at q n _ h
  · exact pay42_at q n _ h
  · exact pay47_at q n _ h

/-- The accumulator starts at zero. -/
theorem Z14_at : arg14.view.read (Elt Ideal) (arg14.view.writes (Elt Ideal) arg14.view.junk Z14) (ix2 d c') = 0 := by
  unfold Z14
  refine (View.read_writes_cons_rows_of_mem (o := 0) (hoff := rfl) (y := ix2 d c') (x := ix2 d c') (hx0 := (Nat.zero_add _).symm) (hx1 := rfl) ..).trans ?_
  rw [pay48_at, zeroWord]

variable (m : Vec Ideal S264x512 .f32) (X10 : BufTy.Contents (Elt Ideal) arg10.view.ty)

/-- The remainder of the last loop changes no denominator. -/
theorem S4_fst : (S4 c i arg3 harg3 arg4 harg4 arg5 harg5 arg6 harg6 arg7 harg7 arg8 harg8 arg9 harg9 arg10 harg10 arg11 harg11 arg12 harg12 arg13 harg13 arg14 harg14 f5 f8 f12 f13 m X10).1 = (S3 c i arg3 harg3 arg4 harg4 arg5 harg5 arg6 harg6 arg7 harg7 arg8 harg8 arg9 harg9 arg10 harg10 arg11 harg11 arg12 harg12 arg13 harg13 arg14 harg14 f5 f8 f12 f13 m X10).1 := by
  unfold S4
  rw [trips4 i, st_k0_t4.eq_1]

/-- The remainder of the last loop adds nothing. -/
theorem S4_snd : (S4 c i arg3 harg3 arg4 harg4 arg5 harg5 arg6 harg6 arg7 harg7 arg8 harg8 arg9 harg9 arg10 harg10 arg11 harg11 arg12 harg12 arg13 harg13 arg14 harg14 f5 f8 f12 f13 m X10).2 = [] := by
  unfold S4
  rw [trips4 i, st_k0_t4.eq_1]

/-- The denominators. -/
theorem S3_at : (S3 c i arg3 harg3 arg4 harg4 arg5 harg5 arg6 harg6 arg7 harg7 arg8 harg8 arg9 harg9 arg10 harg10 arg11 harg11 arg12 harg12 arg13 harg13 arg14 harg14 f5 f8 f12 f13 m X10).1 (ix2 a c') = ∑ n ∈ Finset.Ico (first (Q i)) 33, ∑ x : Fin 16,
      Ideal.exp (arg10.view.read (Elt Ideal) X10 (ix2 (row n (sub x a)) c') - k0_pay25 (F := Ideal) m (ix2 0 c')) := by
  unfold S3
  rw [t3_sums (hk := le_rfl), pay49_at, zeroWord, zero_add, trips3, show first (Q i) + (33 - first (Q i)) = 33 by unfold first; omega]

/-- The accumulator. -/
theorem A14_at : (A14 c i arg3 harg3 arg4 harg4 arg5 harg5 arg6 harg6 arg7 harg7 arg8 harg8 arg9 harg9 arg10 harg10 arg11 harg11 arg12 harg12 arg13 harg13 arg14 harg14 f5 f8 f12 f13 m X10) (ix2 d c') = ∑ n ∈ Finset.Ico (first (Q i)) 33,
      PT i (arg5.view.read (Elt Ideal) f5) (arg8.view.read (Elt Ideal) f8) (arg10.view.read (Elt Ideal) X10) (arg12.view.read (Elt Ideal) (X12 arg12 f12 m))
        (arg13.view.read (Elt Ideal) (X13 arg13 f13 m)) (k0_pay25 (F := Ideal) m) n d c' := by
  unfold A14
  rw [S4_snd, List.nil_append]
  refine (readAt_unit arg14.view _ _ rfl (ix2 d c') (ix2 d c') (fun y => by fin_cases y <;> exact Nat.zero_add _)).trans ?_
  rw [View.writes_append]
  unfold S3
  rw [t3_acc (hk := le_rfl), Z14_at, zero_add, trips3, show first (Q i) + (33 - first (Q i)) = 33 by unfold first; omega]

/-- What the body leaves in its output block, from the scores and the partial maxima it stored. -/
theorem O9_at (s : Fin 4 → Fin 128 → Fin 256 → Fin 128 → EReal)
    (hs : ∀ g q j r, Q i < j ∨ j.val + 32 < (Q i).val → s g q j r = ⊥)
    (hpm : ∀ g q R, m (ix2 R (col g q)) = PMax (s g) (Q i) q R)
    (h10 : ∀ g q n r, first (Q i) ≤ n → n < 33 → arg10.view.read (Elt Ideal) X10 (ix2 (row n r) (col g q)) = s g q (kb (Q i) n) r) :
    arg9.view.read (Elt Ideal) (O9 c i arg3 harg3 arg4 harg4 arg5 harg5 arg6 harg6 arg7 harg7 arg8 harg8 arg9 harg9 arg10 harg10 arg11 harg11 arg12 harg12 arg13 harg13 arg14 harg14 f5 f8 f9 f12 f13 m X10) (ix3 0 q (col g d))
      = out (s g) (fun j d r => arg8.view.read (Elt Ideal) f8 (ix5 0 0 j d r)) (fun j => arg5.view.read (Elt Ideal) f5 (ix1 (kcell i j))) q d := by
  unfold O9
  rw [olanes_at, S4_fst]
  have hb : ∀ (g : Fin 4) (n : Fin 33), first (Q i) ≤ n.val → (Finset.univ.sup fun q : Fin 128 => k0_pay26 (F := Ideal) m (ix2 n (col g q))) = big (s g) (kb (Q i) n.val) :=
    fun g n hn => core_big i s hs m hpm g n hn
  refine core_out i s hs m hpm (arg10.view.read (Elt Ideal) X10) (arg12.view.read (Elt Ideal) (X12 arg12 f12 m)) (arg13.view.read (Elt Ideal) (X13 arg13 f13 m))
    (arg5.view.read (Elt Ideal) f5) (arg8.view.read (Elt Ideal) f8) h10 ?_ ?_ _ _ (fun d c' => A14_at ..) (fun a c' => S3_at ..) g q d
  · intro g q n h1 h2
    have h := hb g ⟨n, h2⟩ h1
    rw [X12_at (n := ⟨n, h2⟩) (h := by rw [h]; exact big_le_one _ _), h]
  · intro g q n h1 h2
    have h := hb g ⟨n, h2⟩ h1
    rw [X13_at (n := ⟨n, h2⟩) (h := by rw [h]; exact big_le_one _ _), h]

/-- From query block 32 on, the body leaves the attention output of its block. -/
theorem value_ge (hc : k0_cond2 i = 1#1) (hq : 32 ≤ (Q i).val) :
    arg9.view.read (Elt Ideal) (O9 c i arg3 harg3 arg4 harg4 arg5 harg5 arg6 harg6 arg7 harg7 arg8 harg8 arg9 harg9 arg10 harg10 arg11 harg11 arg12 harg12 arg13 harg13 arg14 harg14 f5 f8 f9 f12 f13
        (M79 arg11 (arg11.view.writes (Elt Ideal) f11 (L11 c i arg3 harg3 arg4 harg4 arg5 harg5 arg6 harg6 arg7 harg7 arg8 harg8 arg9 harg9 arg10 harg10 arg11 harg11 arg12 harg12 arg13 harg13 arg14 harg14 f3 f4 f6 f7 (P11 c i arg3 harg3 arg4 harg4 arg5 harg5 arg6 harg6 arg7 harg7 arg8 harg8 arg9 harg9 arg10 harg10 arg11 harg11 arg12 harg12 arg13 harg13 arg14 harg14 f3 f4 f6 f7 ++ [D11 i arg3 arg4 arg6 arg7 f3 f4 f6 f7 hc]))))
        (arg10.view.writes (Elt Ideal) f10 (L10 c i arg3 harg3 arg4 harg4 arg5 harg5 arg6 harg6 arg7 harg7 arg8 harg8 arg9 harg9 arg10 harg10 arg11 harg11 arg12 harg12 arg13 harg13 arg14 harg14 f3 f4 f6 f7 (P10 c i arg3 harg3 arg4 harg4 arg5 harg5 arg6 harg6 arg7 harg7 arg8 harg8 arg9 harg9 arg10 harg10 arg11 harg11 arg12 harg12 arg13 harg13 arg14 harg14 f3 f4 f6 f7 ++ [D10 i arg3 arg4 arg6 arg7 f3 f4 f6 f7 hc])))) (ix3 0 q (col g d))
      = out (SS i (arg7.view.read (Elt Ideal) f7) (arg6.view.read (Elt Ideal) f6) (arg3.view.read (Elt Ideal) f3) (arg4.view.read (Elt Ideal) f4) g) (fun j d r => arg8.view.read (Elt Ideal) f8 (ix5 0 0 j d r)) (fun j => arg5.view.read (Elt Ideal) f5 (ix1 (kcell i j))) q d := by
  have hf : first (Q i) = 0 := by unfold first; omega
  refine O9_at (s := SS i (arg7.view.read (Elt Ideal) f7) (arg6.view.read (Elt Ideal) f6) (arg3.view.read (Elt Ideal) f3) (arg4.view.read (Elt Ideal) f4)) (hs := fun g q j r h => SS_bot (h := h) ..) (hpm := fun g q R => maxima_at (h0 := fun hR => ?_) ..)
    (h10 := fun g q n r h1 h2 => score_at (hn := h1) (hn' := h2) (h0 := fun _ => ?_) ..) ..
  · have hR : R.val < 8 := by unfold f1 at hR; rw [hf] at hR; exact hR
    rw [PMax_at q _ (Q i) 0 ⟨R.val, hR⟩ R (by show R.val = 0 * 8 + R.val; omega) (by omega)]
    refine (View.read_writes_cons_rows_of_mem (o := 0) (hoff := rfl) (y := ix2 R (col g q)) (x := ix2 (⟨R.val, hR⟩ : Fin 8) (col g q)) (hx0 := (Nat.zero_add _).symm) (hx1 := rfl) ..).trans ?_
    refine (pay12_at ..).trans ?_
    refine Finset.sup_congr rfl fun y _ => ?_
    refine (first_at (hc := hc) ..).trans ?_
    rw [SS_eq i _ _ _ _ g q 0 _ (by omega) (by omega) (V10 arg6 f6) (V32 i arg3 f3) (fun l => V10_at (g := g) (q := q) (l := l) ..) (V32_at (g := g) (q := q) ..)]
    exact if_congr ⟨fun h => ⟨fun h' => absurd h' (by omega), fun _ => h⟩, fun h => h.2 rfl⟩ rfl rfl
  · refine (View.read_writes_cons_rows_of_mem (o := 0) (hoff := rfl) (y := ix2 (row 0 r) (col g q)) (x := ix2 r (col g q)) (hx0 := row_val (n := 0) (by omega) r) (hx1 := rfl) ..).trans ?_
    exact first_at (hc := hc) ..

/-- Before query block 32, the body leaves the attention output of its block. -/
theorem value_lt (hq : (Q i).val < 32) :
    arg9.view.read (Elt Ideal) (O9 c i arg3 harg3 arg4 harg4 arg5 harg5 arg6 harg6 arg7 harg7 arg8 harg8 arg9 harg9 arg10 harg10 arg11 harg11 arg12 harg12 arg13 harg13 arg14 harg14 f5 f8 f9 f12 f13
        (M79 arg11 (arg11.view.writes (Elt Ideal) arg11.view.junk (L11 c i arg3 harg3 arg4 harg4 arg5 harg5 arg6 harg6 arg7 harg7 arg8 harg8 arg9 harg9 arg10 harg10 arg11 harg11 arg12 harg12 arg13 harg13 arg14 harg14 f3 f4 f6 f7 (P11 c i arg3 harg3 arg4 harg4 arg5 harg5 arg6 harg6 arg7 harg7 arg8 harg8 arg9 harg9 arg10 harg10 arg11 harg11 arg12 harg12 arg13 harg13 arg14 harg14 f3 f4 f6 f7 ++ [E11]))))
        (arg10.view.writes (Elt Ideal) f10 (L10 c i arg3 harg3 arg4 harg4 arg5 harg5 arg6 harg6 arg7 harg7 arg8 harg8 arg9 harg9 arg10 harg10 arg11 harg11 arg12 harg12 arg13 harg13 arg14 harg14 f3 f4 f6 f7 (P10 c i arg3 harg3 arg4 harg4 arg5 harg5 arg6 harg6 arg7 harg7 arg8 harg8 arg9 harg9 arg10 harg10 arg11 harg11 arg12 harg12 arg13 harg13 arg14 harg14 f3 f4 f6 f7)))) (ix3 0 q (col g d))
      = out (SS i (arg7.view.read (Elt Ideal) f7) (arg6.view.read (Elt Ideal) f6) (arg3.view.read (Elt Ideal) f3) (arg4.view.read (Elt Ideal) f4) g) (fun j d r => arg8.view.read (Elt Ideal) f8 (ix5 0 0 j d r)) (fun j => arg5.view.read (Elt Ideal) f5 (ix1 (kcell i j))) q d := by
  have hf : 1 ≤ first (Q i) := by unfold first; omega
  rw [← List.append_nil (P10 c i arg3 harg3 arg4 harg4 arg5 harg5 arg6 harg6 arg7 harg7 arg8 harg8 arg9 harg9 arg10 harg10 arg11 harg11 arg12 harg12 arg13 harg13 arg14 harg14 f3 f4 f6 f7)]
  refine O9_at (s := SS i (arg7.view.read (Elt Ideal) f7) (arg6.view.read (Elt Ideal) f6) (arg3.view.read (Elt Ideal) f3) (arg4.view.read (Elt Ideal) f4)) (hs := fun g q j r h => SS_bot (h := h) ..) (hpm := fun g q R => maxima_at (h0 := fun hR => ?_) ..)
    (h10 := fun g q n r h1 h2 => score_at (hn := h1) (hn' := h2) (h0 := fun h => absurd h (by omega)) ..) ..
  have hR : R.val / 8 < first (Q i) := by unfold f1 at hR; rw [max_eq_left hf] at hR; omega
  unfold PMax
  rw [if_neg (by omega)]
  unfold E11
  refine (View.read_writes_cons_rows_of_mem (o := 0) (hoff := rfl) (y := ix2 R (col g q)) (x := ix2 R (col g q)) (hx0 := (Nat.zero_add _).symm) (hx1 := rfl) ..).trans ?_
  rw [pay9_at, negInf]

end Cert.KernelIdeal.Value
end
-- ==== Proof.KerPipe.lean ====
module

public import proofs.«01_k».proof.Proof.KerRun
public import proofs.«01_k».proof.Proof.KerValue
public import Idealize.ShloMosaic.Lib.Pipeline.ValueKit

/-!
The kernel's run over the ideal numbers, with what the body leaves in its output block at every point.
-/

@[expose] public section

set_option maxRecDepth 16384

noncomputable section

open Idealize.ShloMosaic Idealize.ShloMosaic.TcCoe Idealize.SL.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.ValuePipe

open Cert.KernelIdeal Cert.KernelIdeal.Gen Cert.KernelIdeal.Value Cert.KernelIdeal.ValueRun Cert.Spec

local notation "𝕄" => MT nD τ sig Unit (Elt Ideal) ℕ (UR sig nD τ) ℕ

/-- What the body leaves in its output block, from the blocks it reads: the attention formula of each of the four query heads. -/
def Out (i : grid0.Coords) (x3 : Vec Ideal S8192 .f32) (x4 : Vec Ideal S2048 .f32) (x5 : Vec Ideal S2048 .f32) (x6 : Vec Ideal S1x128x512 .fp8e4m3)
    (x7 : Vec Ideal S1x1x32768x128 .fp8e4m3) (x8 : Vec Ideal S1x1x256x128x128 .fp8e4m3) : Vec Ideal S1x128x512 .bf16 := fun y =>
  out (SS i x7 x6 x3 x4 ⟨(y 2).val / 128, Nat.div_lt_of_lt_mul (y 2).isLt⟩) (fun j d r => x8 (ix5 0 0 j d r)) (fun j => x5 (ix1 (kcell i j)))
    (y 1) ⟨(y 2).val % 128, Nat.mod_lt _ (by norm_num)⟩

/-- The output block at a head, a row and a column. -/
theorem Out_at (i : grid0.Coords) (x3 : Vec Ideal S8192 .f32) (x4 : Vec Ideal S2048 .f32) (x5 : Vec Ideal S2048 .f32) (x6 : Vec Ideal S1x128x512 .fp8e4m3)
    (x7 : Vec Ideal S1x1x32768x128 .fp8e4m3) (x8 : Vec Ideal S1x1x256x128x128 .fp8e4m3) (g : Fin 4) (q d : Fin 128) :
    Out i x3 x4 x5 x6 x7 x8 (ix3 0 q (col g d)) = out (SS i x7 x6 x3 x4 g) (fun j d r => x8 (ix5 0 0 j d r)) (fun j => x5 (ix1 (kcell i j))) q d := by
  have h1 : (⟨(col g d).val / 128, Nat.div_lt_of_lt_mul (col g d).isLt⟩ : Fin 4) = g := Fin.ext (by show (g.val * 128 + d.val) / 128 = g.val; omega)
  have h2 : (⟨(col g d).val % 128, Nat.mod_lt _ (by norm_num)⟩ : Fin 128) = d := Fin.ext (by show (g.val * 128 + d.val) % 128 = d.val; omega)
  show out (SS i x7 x6 x3 x4 ⟨(col g d).val / 128, _⟩) _ _ q ⟨(col g d).val % 128, _⟩ = _
  rw [h1, h2]

/-- A block equal at every head, row and column is equal. -/
theorem block_ext (u v : Vec Ideal S1x128x512 .bf16) (h : ∀ (g : Fin 4) (q d : Fin 128), u (ix3 0 q (col g d)) = v (ix3 0 q (col g d))) : u = v := by
  funext y
  have e : y = ix3 0 (y 1) (col ⟨(y 2).val / 128, Nat.div_lt_of_lt_mul (y 2).isLt⟩ ⟨(y 2).val % 128, Nat.mod_lt _ (by norm_num)⟩) := by
    funext a
    fin_cases a
    · exact Subsingleton.elim (α := Fin 1) _ _
    · rfl
    · exact Fin.ext (by show (y 2).val = (y 2).val / 128 * 128 + (y 2).val % 128; omega)
  rw [e]
  exact h _ _ _

/-- The body at a point: from the buffers at their blocks to the same, the output block holding the attention formula of them. -/
theorem sound_kernel (c : Dev nD) (E : Set ℕ) (i : grid0.Coords)
    (arg3 : Memref sig .tc .smem S8192 .f32) (harg3 : arg3.IsWhole)
    (arg4 : Memref sig .tc .smem S2048 .f32) (harg4 : arg4.IsWhole)
    (arg5 : Memref sig .tc .smem S2048 .f32) (harg5 : arg5.IsWhole)
    (arg6 : Memref sig .tc .vmem S1x128x512 .fp8e4m3) (harg6 : arg6.IsWhole)
    (arg7 : Memref sig .tc .vmem S1x1x32768x128 .fp8e4m3) (harg7 : arg7.IsWhole)
    (arg8 : Memref sig .tc .vmem S1x1x256x128x128 .fp8e4m3) (harg8 : arg8.IsWhole)
    (arg9 : Memref sig .tc .vmem S1x128x512 .bf16) (harg9 : arg9.IsWhole)
    (arg10 : Memref sig .tc .vmem S4224x512 .f32) (harg10 : arg10.IsWhole)
    (arg11 : Memref sig .tc .vmem S264x512 .f32) (harg11 : arg11.IsWhole)
    (arg12 : Memref sig .tc .vmem S40x512 .f32) (harg12 : arg12.IsWhole)
    (arg13 : Memref sig .tc .vmem S40x512 .f32) (harg13 : arg13.IsWhole)
    (arg14 : Memref sig .tc .vmem S128x512 .f32) (harg14 : arg14.IsWhole)
    (x3 : Vec Ideal S8192 .f32) (x4 : Vec Ideal S2048 .f32) (x5 : Vec Ideal S2048 .f32) (x6 : Vec Ideal S1x128x512 .fp8e4m3) (x7 : Vec Ideal S1x1x32768x128 .fp8e4m3) (x8 : Vec Ideal S1x1x256x128x128 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (Out i x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none c none) E (cc0_swa_attention i arg3 harg3 arg4 harg4 arg5 harg5 arg6 harg6 arg7 harg7 arg8 harg8 arg9 harg9 arg10 harg10 arg11 harg11 arg12 harg12 arg13 harg13 arg14 harg14) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  by_cases h : 32 ≤ (i 2).val
  · iapply (run_ge c E i arg3 harg3 arg4 harg4 arg5 harg5 arg6 harg6 arg7 harg7 arg8 harg8 arg9 harg9 arg10 harg10 arg11 harg11 arg12 harg12 arg13 harg13 arg14 harg14 ((Body.cond_ge i).mpr h) (fun e => absurd ((Body.cond_lt i).mp e) (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9, %e9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists g9; isplitr
      · ipureintro
        rw [e9]
        refine block_ext _ _ fun g q d => ?_
        rw [Out_at, ← h3, ← h4, ← h5, ← h6, ← h7, ← h8]
        exact value_ge (hq := h) ..
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14
  · iapply (run_lt c E i arg3 harg3 arg4 harg4 arg5 harg5 arg6 harg6 arg7 harg7 arg8 harg8 arg9 harg9 arg10 harg10 arg11 harg11 arg12 harg12 arg13 harg13 arg14 harg14 (fun e => h ((Body.cond_ge i).mp e)) ((Body.cond_lt i).mpr (by omega)) f3 f4 f5 f6 f7 f8 f9 f10 f11 f12 f13 f14 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, ⟨%g9, H9, %e9⟩, ⟨%g10, H10⟩, ⟨%g11, H11⟩, ⟨%g12, H12⟩, ⟨%g13, H13⟩, ⟨%g14, H14⟩⟩
    iapply Hk
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists g9; isplitr
      · ipureintro
        rw [e9]
        refine block_ext _ _ fun g q d => ?_
        rw [Out_at, ← h3, ← h4, ← h5, ← h6, ← h7, ← h8]
        exact value_lt (hq := Nat.lt_of_not_le h) ..
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14

/-! ## The pipeline's proof data -/

variable (m : (ℓ : Loc nD τ sig) → Buf (Elt Ideal) ℓ) (ρ : Dev nD → PrngReg)

/-- The proof data: the arrays as the region finds them; after the body each input's buffer at its block and the output's at the formula. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Out (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The body leaves argument window 0 as it found it. -/
theorem after0_0 (c : Dev nD) (t : Fin cfg0.N) : (dats m 0 c).after 0 t = iblk m c 0 t := by dsimp only [dats]
/-- The body leaves argument window 1 as it found it. -/
theorem after0_1 (c : Dev nD) (t : Fin cfg0.N) : (dats m 0 c).after 1 t = iblk m c 1 t := by dsimp only [dats]
/-- The body leaves argument window 2 as it found it. -/
theorem after0_2 (c : Dev nD) (t : Fin cfg0.N) : (dats m 0 c).after 2 t = iblk m c 2 t := by dsimp only [dats]
/-- The body leaves argument window 3 as it found it. -/
theorem after0_3 (c : Dev nD) (t : Fin cfg0.N) : (dats m 0 c).after 3 t = iblk m c 3 t := by dsimp only [dats]
/-- The body leaves argument window 4 as it found it. -/
theorem after0_4 (c : Dev nD) (t : Fin cfg0.N) : (dats m 0 c).after 4 t = iblk m c 4 t := by dsimp only [dats]
/-- The body leaves argument window 5 as it found it. -/
theorem after0_5 (c : Dev nD) (t : Fin cfg0.N) : (dats m 0 c).after 5 t = iblk m c 5 t := by dsimp only [dats]
/-- The body leaves its block of the result in window 6. -/
theorem after0_6 (c : Dev nD) (t : Fin cfg0.N) : (dats m 0 c).after 6 t = Out (grid0.coords t) (iblk m c 0 t) (iblk m c 1 t) (iblk m c 2 t) (iblk m c 3 t) (iblk m c 4 t) (iblk m c 5 t) := by dsimp only [dats]

/-- Before the body, argument window 0 holds its block of the array. -/
theorem before0_0 (c : Dev nD) (t : Fin cfg0.N) (d) : (dats m 0 c).before 0 t d = iblk m c 0 t :=
  before0_0_of m (dats m 0 c) (A_eq m c 0) (after0_0 m c) t d
/-- Before the body, argument window 1 holds its block of the array. -/
theorem before0_1 (c : Dev nD) (t : Fin cfg0.N) (d) : (dats m 0 c).before 1 t d = iblk m c 1 t :=
  before0_1_of m (dats m 0 c) (A_eq m c 1) (after0_1 m c) t d
/-- Before the body, argument window 2 holds its block of the array. -/
theorem before0_2 (c : Dev nD) (t : Fin cfg0.N) (d) : (dats m 0 c).before 2 t d = iblk m c 2 t :=
  before0_2_of m (dats m 0 c) (A_eq m c 2) (after0_2 m c) t d
/-- Before the body, argument window 3 holds its block of the array. -/
theorem before0_3 (c : Dev nD) (t : Fin cfg0.N) (d) : (dats m 0 c).before 3 t d = iblk m c 3 t :=
  before0_3_of m (dats m 0 c) (A_eq m c 3) (after0_3 m c) t d
/-- Before the body, argument window 4 holds its block of the array. -/
theorem before0_4 (c : Dev nD) (t : Fin cfg0.N) (d) : (dats m 0 c).before 4 t d = iblk m c 4 t :=
  before0_4_of m (dats m 0 c) (A_eq m c 4) (after0_4 m c) t d
/-- Before the body, argument window 5 holds its block of the array. -/
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t))

/-- The body at any point: `sound_kernel`, the scratch buffers taken from the invariant and put back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  simp only [← owns_whole]
  iintro ⟨⟨⟨⟨%g0, S0⟩, ⟨%g1, S1⟩, ⟨%g2, S2⟩, ⟨%g3, S3⟩, ⟨%g4, S4⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation at every point. -/
theorem body_obligation (c : Dev nD) :
    Pipeline.BodyObligationLoose (dats m 0 c) (defs₀ (F := Ideal)) Variants.none () Set.univ := fun t => by
  rw [bigSep_W0, bigSep_W0, Body.defs₀_row]
  exact triple_restated (sound_body m c t) rfl .rfl fun _ => .rfl

set_option backward.isDefEq.respectTransparency.types false in
set_option maxHeartbeats 800000 in
/-- The run: @main terminates with every array at what the proof data computes. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun _ h => h)

end Cert.KernelIdeal.ValuePipe
end
-- ==== Proof.RefTerms.lean ====
module

public import proofs.«01_k».proof.Proof.Gen.ReferenceIdeal.Frame
public import Idealize.ShloMosaic.Lib.Pipeline.ValueKit

/-!
The host lines of the reference: what each stage leaves, as a term over what it reads.
-/

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

/-- The scaled scores, before the mask. -/
def T18 (x : FVec Ideal S2x32768x2048 .f32) (k : FVec Ideal S2x4x32768x128 .f32) (qs : FVec Ideal S2x256x16 .f32) (ks : FVec Ideal S2x256x4 .f32) : FVec Ideal S2x4x4x256x128x256x128 .f32 :=
  (mulf (transpose S2x4x4x256x128x256x128 [0, 1, 6, 4, 5, 2, 3] (Host.dotGeneral dot_S2x4x256x128x128_S2x256x128x4x4x128_S2x4x256x128x256x128x4_4_5_23_124_01_03 none (shapeCast S2x4x256x128x128 k shapeCasts_S2x4x32768x128_S2x4x256x128x128) (shapeCast S2x256x128x4x4x128 x shapeCasts_S2x32768x2048_S2x256x128x4x4x128)) transposes_S2x4x256x128x256x128x4_S2x4x4x256x128x256x128_0_1_6_4_5_2_3) (broadcastInDim S2x4x4x256x128x256x128 ![0, 1, 2, 3, 4, 5, 6] bcast_S2x4x4x256x1x256x1_S2x4x4x256x128x256x128_0_1_2_3_4_5_6 (mulf (mulf (broadcastInDim S2x4x4x256x1x256x1 ![0, 1, 2, 3, 4, 5, 6] bcast_S2x4x4x256x1x1x1_S2x4x4x256x1x256x1_0_1_2_3_4_5_6 (broadcastInDim S2x4x4x256x1x1x1 ![0, 1, 2, 3] bcast_S2x4x4x256_S2x4x4x256x1x1x1_0_1_2_3 (transpose S2x4x4x256 [0, 2, 3, 1] (shapeCast S2x256x4x4 qs shapeCasts_S2x256x16_S2x256x4x4) transposes_S2x256x4x4_S2x4x4x256_0_2_3_1))) (broadcastInDim S2x4x4x256x1x256x1 ![0, 1, 2, 3, 4, 5, 6] bcast_S2x4x1x1x1x256x1_S2x4x4x256x1x256x1_0_1_2_3_4_5_6 (broadcastInDim S2x4x1x1x1x256x1 ![0, 1, 5] bcast_S2x4x256_S2x4x1x1x1x256x1_0_1_5 (transpose S2x4x256 [0, 2, 1] ks transposes_S2x256x4_S2x4x256_0_2_1)))) (broadcastInDim S2x4x4x256x1x256x1 ![] bcast_S_S2x4x4x256x1x256x1 (constant S_ .f32 0x3DB504F3#32)))))

/-- The scales of the values, one per key block. -/
def T11 (vs : FVec Ideal S2x256x4 .f32) : FVec Ideal S2x4x1x1x1x256x1 .f32 :=
  (broadcastInDim S2x4x1x1x1x256x1 ![0, 1, 5] bcast_S2x4x256_S2x4x1x1x1x256x1_0_1_5 (transpose S2x4x256 [0, 2, 1] vs transposes_S2x256x4_S2x4x256_0_2_1))

/-- The mask: which keys a query sees. -/
def T31  : IVec S256x128x256x128 1 :=
  (andi (cmpi .sle (broadcastInDim S256x128x256x128 ![0, 1, 2, 3] bcast_S1x1x256x128_S256x128x256x128_0_1_2_3 (broadcastInDim S1x1x256x128 ![2, 3] bcast_S256x128_S1x1x256x128_2_3 (shapeCast S256x128 (iotaInDim S32768 32 0) shapeCasts_S32768_S256x128))) (broadcastInDim S256x128x256x128 ![0, 1, 2, 3] bcast_S256x128x1x1_S256x128x256x128_0_1_2_3 (broadcastInDim S256x128x1x1 ![0, 1] bcast_S256x128_S256x128x1x1_0_1 (shapeCast S256x128 (iotaInDim S32768 32 0) shapeCasts_S32768_S256x128)))) (cmpi .slt (subi (broadcastInDim S256x128x256x128 ![0, 1, 2, 3] bcast_S256x128x1x1_S256x128x256x128_0_1_2_3 (broadcastInDim S256x128x1x1 ![0, 1] bcast_S256x128_S256x128x1x1_0_1 (shapeCast S256x128 (iotaInDim S32768 32 0) shapeCasts_S32768_S256x128))) (broadcastInDim S256x128x256x128 ![0, 1, 2, 3] bcast_S1x1x256x128_S256x128x256x128_0_1_2_3 (broadcastInDim S1x1x256x128 ![2, 3] bcast_S256x128_S1x1x256x128_2_3 (shapeCast S256x128 (iotaInDim S32768 32 0) shapeCasts_S32768_S256x128)))) (broadcastInDim S256x128x256x128 ![] bcast_S_S256x128x256x128 (constantI S_ 32 4096#32))))

/-- The masked scores. -/
def T32 (s : FVec Ideal S2x4x4x256x128x256x128 .f32) : FVec Ideal S2x4x4x256x128x256x128 .f32 :=
  (select (broadcastInDim S2x4x4x256x128x256x128 ![3, 4, 5, 6] bcast_S256x128x256x128_S2x4x4x256x128x256x128_3_4_5_6 T31) s (broadcastInDim S2x4x4x256x128x256x128 ![] bcast_S_S2x4x4x256x128x256x128 (constant S_ .f32 0xFF800000#32)))

/-- The largest score of a query. -/
def T33 (s : FVec Ideal S2x4x4x256x128x256x128 .f32) : FVec Ideal S2x4x4x256x128 .f32 :=
  (Host.reduce FloatOps.maximumf s (constant S_ .f32 0xFF800000#32) reducesTo_S2x4x4x256x128x256x128_S2x4x4x256x128_d5_6 h_S_)

/-- The weights. -/
def T37 (s : FVec Ideal S2x4x4x256x128x256x128 .f32) : FVec Ideal S2x4x4x256x128x256x128 .f32 :=
  (Host.exp (subf s (broadcastInDim S2x4x4x256x128x256x128 ![0, 1, 2, 3, 4, 5, 6] bcast_S2x4x4x256x128x1x1_S2x4x4x256x128x256x128_0_1_2_3_4_5_6 (broadcastInDim S2x4x4x256x128x1x1 ![0, 1, 2, 3, 4] bcast_S2x4x4x256x128_S2x4x4x256x128x1x1_0_1_2_3_4 (T33 s)))))

/-- The sum of the weights of a query. -/
def T38 (p : FVec Ideal S2x4x4x256x128x256x128 .f32) : FVec Ideal S2x4x4x256x128 .f32 :=
  (Host.reduceAdd p (constant S_ .f32 0x00000000#32) reducesTo_S2x4x4x256x128x256x128_S2x4x4x256x128_d5_6 h_S_)

/-- The largest weight of a block. -/
def T40 (p : FVec Ideal S2x4x4x256x128x256x128 .f32) : FVec Ideal S2x4x4x256x256 .f32 :=
  (Host.reduce FloatOps.maximumf (Host.absf p) (constant S_ .f32 0xFF800000#32) reducesTo_S2x4x4x256x128x256x128_S2x4x4x256x256_d4_6 h_S_)

/-- Which powers of two the largest weight over 448 reaches. -/
def T54 (a : FVec Ideal S2x4x4x256x256 .f32) : IVec S2x4x4x256x1x256x1x254 1 :=
  (cmpf .oge (broadcastInDim S2x4x4x256x1x256x1x254 ![0, 1, 2, 3, 4, 5, 6, 7] bcast_S2x4x4x256x1x256x1x1_S2x4x4x256x1x256x1x254_0_1_2_3_4_5_6_7 (mulf (broadcastInDim S2x4x4x256x1x256x1x1 ![0, 1, 2, 3, 4, 5, 6] bcast_S2x4x4x256x1x256x1_S2x4x4x256x1x256x1x1_0_1_2_3_4_5_6 (broadcastInDim S2x4x4x256x1x256x1 ![0, 1, 2, 3, 5] bcast_S2x4x4x256x256_S2x4x4x256x1x256x1_0_1_2_3_5 a)) (broadcastInDim S2x4x4x256x1x256x1x1 ![] bcast_S_S2x4x4x256x1x256x1x1 (constant S_ .f32 0x3B124925#32)))) (broadcastInDim S2x4x4x256x1x256x1x254 ![0, 1, 2, 3, 4, 5, 6, 7] bcast_S1x1x1x1x1x1x1x254_S2x4x4x256x1x256x1x254_0_1_2_3_4_5_6_7 (broadcastInDim S1x1x1x1x1x1x1x254 ![7] bcast_S254_S1x1x1x1x1x1x1x254_7 (Host.powf (broadcastInDim S254 ![] bcast_S_S254 (constant S_ .f32 0x40000000#32)) (sitofp .f32 (addi (broadcastInDim S254 ![] bcast_S_S254 (constantI S_ 32 4294967170#32)) (iotaInDim S254 32 0)))))))

/-- How many powers of two the largest weight over 448 reaches. -/
def T56 (a : FVec Ideal S2x4x4x256x256 .f32) : IVec S2x4x4x256x1x256x1 32 :=
  (Host.reduce IntOp.addi (extui 32 (T54 a) natLt_1_32) (constantI S_ 32 0#32) reducesTo_S2x4x4x256x1x256x1x254_S2x4x4x256x1x256x1_d7 h_S_)

/-- The exponent of the scale. -/
def T61 (n : IVec S2x4x4x256x1x256x1 32) : IVec S2x4x4x256x1x256x1 32 :=
  (select (cmpi .eq n (broadcastInDim S2x4x4x256x1x256x1 ![] bcast_S_S2x4x4x256x1x256x1 (constantI S_ 32 0#32))) (broadcastInDim S2x4x4x256x1x256x1 ![] bcast_S_S2x4x4x256x1x256x1 (constantI S_ 32 0#32)) (subi n (broadcastInDim S2x4x4x256x1x256x1 ![] bcast_S_S2x4x4x256x1x256x1 (constantI S_ 32 126#32))))

/-- The scale of a block of weights. -/
def T64 (e : IVec S2x4x4x256x1x256x1 32) : FVec Ideal S2x4x4x256x1x256x1 .f32 :=
  (Host.powf (broadcastInDim S2x4x4x256x1x256x1 ![] bcast_S_S2x4x4x256x1x256x1 (constant S_ .f32 0x40000000#32)) (sitofp .f32 e))

/-- The weights over their scale. -/
def T69 (p : FVec Ideal S2x4x4x256x128x256x128 .f32) (e : IVec S2x4x4x256x1x256x1 32) : FVec Ideal S2x4x4x256x128x256x128 .f32 :=
  (mulf p (broadcastInDim S2x4x4x256x128x256x128 ![0, 1, 2, 3, 4, 5, 6] bcast_S2x4x4x256x1x256x1_S2x4x4x256x128x256x128_0_1_2_3_4_5_6 (Host.powf (broadcastInDim S2x4x4x256x1x256x1 ![] bcast_S_S2x4x4x256x1x256x1 (constant S_ .f32 0x40000000#32)) (Host.negf (sitofp .f32 e)))))

/-- The codes of the weights. -/
def T70 (x : FVec Ideal S2x4x4x256x128x256x128 .f32) : FVec Ideal S2x4x4x256x128x256x128 .f32 :=
  (minimumf (broadcastInDim S2x4x4x256x128x256x128 ![] bcast_S_S2x4x4x256x128x256x128 (constant S_ .f32 0x43E00000#32)) (maximumf (broadcastInDim S2x4x4x256x128x256x128 ![] bcast_S_S2x4x4x256x128x256x128 (constant S_ .f32 0xC3E00000#32)) x))

/-- The products of the codes with the values, block by block. -/
def T72 (vt : FVec Ideal S2x4x256x128x128 .f32) (c : FVec Ideal S2x4x4x256x128x256x128 .f32) : FVec Ideal S2x4x4x256x128x256x128 .f32 :=
  (transpose S2x4x4x256x128x256x128 [0, 1, 4, 5, 6, 2, 3] (Host.dotGeneral dot_S2x4x256x128x128_S2x4x4x256x128x256x128_S2x4x256x128x4x256x128_4_6_3_234_012_015 none vt c) transposes_S2x4x256x128x4x256x128_S2x4x4x256x128x256x128_0_1_4_5_6_2_3)

/-- The same, scaled. -/
def T76 (vt : FVec Ideal S2x4x256x128x128 .f32) (c : FVec Ideal S2x4x4x256x128x256x128 .f32) (sc : FVec Ideal S2x4x4x256x1x256x1 .f32) (vs : FVec Ideal S2x4x1x1x1x256x1 .f32) : FVec Ideal S2x4x4x256x128x256x128 .f32 :=
  (mulf (T72 vt c) (broadcastInDim S2x4x4x256x128x256x128 ![0, 1, 2, 3, 4, 5, 6] bcast_S2x4x4x256x1x256x1_S2x4x4x256x128x256x128_0_1_2_3_4_5_6 (mulf sc (broadcastInDim S2x4x4x256x1x256x1 ![0, 1, 2, 3, 4, 5, 6] bcast_S2x4x1x1x1x256x1_S2x4x4x256x1x256x1_0_1_2_3_4_5_6 vs))))

/-- The same, summed over the blocks. -/
def T77 (vt : FVec Ideal S2x4x256x128x128 .f32) (c : FVec Ideal S2x4x4x256x128x256x128 .f32) (sc : FVec Ideal S2x4x4x256x1x256x1 .f32) (vs : FVec Ideal S2x4x1x1x1x256x1 .f32) : FVec Ideal S2x4x4x256x128x128 .f32 :=
  (Host.reduceAdd (T76 vt c sc vs) (constant S_ .f32 0x00000000#32) reducesTo_S2x4x4x256x128x256x128_S2x4x4x256x128x128_d5 h_S_)

/-- The output from the codes, the scales and the sums. -/
def T83 (vt : FVec Ideal S2x4x256x128x128 .f32) (c : FVec Ideal S2x4x4x256x128x256x128 .f32) (sc : FVec Ideal S2x4x4x256x1x256x1 .f32) (vs : FVec Ideal S2x4x1x1x1x256x1 .f32) (l : FVec Ideal S2x4x4x256x128 .f32) : FVec Ideal S2x32768x2048 .bf16 :=
  (truncf .bf16 (shapeCast S2x32768x2048 (transpose S2x256x128x4x4x128 [0, 3, 4, 1, 2, 5] (Host.divf (T77 vt c sc vs) (broadcastInDim S2x4x4x256x128x128 ![0, 1, 2, 3, 4, 5] bcast_S2x4x4x256x128x1_S2x4x4x256x128x128_0_1_2_3_4_5 (broadcastInDim S2x4x4x256x128x1 ![0, 1, 2, 3, 4] bcast_S2x4x4x256x128_S2x4x4x256x128x1_0_1_2_3_4 l))) transposes_S2x4x4x256x128x128_S2x256x128x4x4x128_0_3_4_1_2_5) shapeCasts_S2x256x128x4x4x128_S2x32768x2048) bitsLt_bf16_f32)

end Cert.ReferenceIdeal.Value
-- ==== Proof.RefPoint.lean ====
module

public import proofs.«01_k».proof.Proof.RefTerms
public import Idealize.ShloMosaic.Lib.Pipeline.ValueKit
public import Idealize.ShloMosaic.Lib.Pointwise
public import Idealize.ShloMosaic.Lib.IndicatorCount

/-!
The reference's stages read at one index.
-/

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

variable (b : Fin 2) (h g : Fin 4) (i : Fin 256) (q : Fin 128) (j : Fin 256) (r d : Fin 128)

/-- A scaled score: a product over the 128 lanes times the two scales and the constant. -/
theorem T18_at (x k qs ks) : T18 x k qs ks (ix7 b h g i q j r)
    = (∑ l : Fin 128, k (ix4 b h ⟨j.val * 128 + r.val, by omega⟩ l) * x (ix3 b ⟨i.val * 128 + q.val, by omega⟩ ⟨h.val * 512 + g.val * 128 + l.val, by omega⟩))
      * (qs (ix3 b i ⟨h.val * 4 + g.val, by omega⟩) * ks (ix3 b j h) * Ideal.ofBits .f32 1035273459#32) := by
  pointwise [T18]

/-- The value scale of a key block. -/
theorem T11_at (x) : T11 x (ix7 b h 0 0 0 j 0) = x (ix3 b j h) := by
  pointwise [T11]

/-- The mask at a query and a key. -/
theorem T31_at : T31 (ix4 i q j r)
    = IntOp.andi (IntOp.cmpi CmpIPredicate.sle (BitVec.ofNat 32 (j.val * 128 + r.val)) (BitVec.ofNat 32 (i.val * 128 + q.val)))
      (IntOp.cmpi CmpIPredicate.slt (IntOp.subi (BitVec.ofNat 32 (i.val * 128 + q.val)) (BitVec.ofNat 32 (j.val * 128 + r.val))) 4096#32) := by
  pointwise [T31]

/-- A masked score. -/
theorem T32_at (s) : T32 s (ix7 b h g i q j r)
    = Scalar.select (T31 (ix4 i q j r)) (s (ix7 b h g i q j r)) (Ideal.ofBits FTy.f32 4286578688#32) := by
  pointwise [T32]

/-- A weight. -/
theorem T37_at (s) : T37 s (ix7 b h g i q j r) = Ideal.exp (s (ix7 b h g i q j r) - T33 s (ix5 b h g i q)) := by
  pointwise [T37]

/-- The indices over a query. -/
theorem fiber56 : (Finset.univ.filter fun x => (reducesTo_S2x4x4x256x128x256x128_S2x4x4x256x128_d5_6).drop x = ix5 b h g i q)
    = Finset.univ.image (fun p : Fin 256 × Fin 128 => (ix7 b h g i q p.1 p.2 : S2x4x4x256x128x256x128.Idx)) := by
  ext x
  simp only [Finset.mem_filter, Finset.mem_univ, true_and, Finset.mem_image, Prod.exists]
  constructor
  · intro hx
    refine ⟨x 5, x 6, ?_⟩
    have e : ∀ a, (reducesTo_S2x4x4x256x128x256x128_S2x4x4x256x128_d5_6).drop x a = (ix5 b h g i q : S2x4x4x256x128.Idx) a := fun a => congrFun hx a
    have e0 := congrArg Fin.val (e 0); have e1 := congrArg Fin.val (e 1); have e2 := congrArg Fin.val (e 2)
    have e3 := congrArg Fin.val (e 3); have e4 := congrArg Fin.val (e 4)
    funext a; apply Fin.ext
    fin_cases a
    · exact e0.symm
    · exact e1.symm
    · exact e2.symm
    · exact e3.symm
    · exact e4.symm
    · rfl
    · rfl
  · rintro ⟨j, r, rfl⟩
    funext a; fin_cases a <;> rfl

/-- The indices over a query and a block. -/
theorem fiber46 : (Finset.univ.filter fun x => (reducesTo_S2x4x4x256x128x256x128_S2x4x4x256x256_d4_6).drop x = ix5 b h g i j)
    = Finset.univ.image (fun p : Fin 128 × Fin 128 => (ix7 b h g i p.1 j p.2 : S2x4x4x256x128x256x128.Idx)) := by
  ext x
  simp only [Finset.mem_filter, Finset.mem_univ, true_and, Finset.mem_image, Prod.exists]
  constructor
  · intro hx
    refine ⟨x 4, x 6, ?_⟩
    have e : ∀ a, (reducesTo_S2x4x4x256x128x256x128_S2x4x4x256x256_d4_6).drop x a = (ix5 b h g i j : S2x4x4x256x256.Idx) a := fun a => congrFun hx a
    have e0 := congrArg Fin.val (e 0); have e1 := congrArg Fin.val (e 1); have e2 := congrArg Fin.val (e 2)
    have e3 := congrArg Fin.val (e 3); have e4 := congrArg Fin.val (e 4)
    funext a; apply Fin.ext
    fin_cases a
    · exact e0.symm
    · exact e1.symm
    · exact e2.symm
    · exact e3.symm
    · rfl
    · exact e4.symm
    · rfl
  · rintro ⟨j, r, rfl⟩
    funext a; fin_cases a <;> rfl

/-- The indices over an output element. -/
theorem fiber5 : (Finset.univ.filter fun x => (reducesTo_S2x4x4x256x128x256x128_S2x4x4x256x128x128_d5).drop x = ix6 b h g i q d)
    = Finset.univ.image (fun p : Fin 256 => (ix7 b h g i q p d : S2x4x4x256x128x256x128.Idx)) := by
  ext x
  simp only [Finset.mem_filter, Finset.mem_univ, true_and, Finset.mem_image]
  constructor
  · intro hx
    refine ⟨x 5, ?_⟩
    have e : ∀ a, (reducesTo_S2x4x4x256x128x256x128_S2x4x4x256x128x128_d5).drop x a = (ix6 b h g i q d : S2x4x4x256x128x128.Idx) a := fun a => congrFun hx a
    have e0 := congrArg Fin.val (e 0); have e1 := congrArg Fin.val (e 1); have e2 := congrArg Fin.val (e 2)
    have e3 := congrArg Fin.val (e 3); have e4 := congrArg Fin.val (e 4); have e5 := congrArg Fin.val (e 5)
    funext a; apply Fin.ext
    fin_cases a
    · exact e0.symm
    · exact e1.symm
    · exact e2.symm
    · exact e3.symm
    · exact e4.symm
    · rfl
    · exact e5.symm
  · rintro ⟨j, rfl⟩
    funext a; fin_cases a <;> rfl

/-- The indices over a scale. -/
theorem fiber7 : (Finset.univ.filter fun x => (reducesTo_S2x4x4x256x1x256x1x254_S2x4x4x256x1x256x1_d7).drop x = ix7 b h g i 0 j 0)
    = Finset.univ.image (fun p : Fin 254 => (ix8 b h g i 0 j 0 p : S2x4x4x256x1x256x1x254.Idx)) := by
  ext x
  simp only [Finset.mem_filter, Finset.mem_univ, true_and, Finset.mem_image]
  constructor
  · intro hx
    refine ⟨x 7, ?_⟩
    have e : ∀ a, (reducesTo_S2x4x4x256x1x256x1x254_S2x4x4x256x1x256x1_d7).drop x a = (ix7 b h g i 0 j 0 : S2x4x4x256x1x256x1.Idx) a := fun a => congrFun hx a
    have e0 := congrArg Fin.val (e 0); have e1 := congrArg Fin.val (e 1); have e2 := congrArg Fin.val (e 2)
    have e3 := congrArg Fin.val (e 3); have e4 := congrArg Fin.val (e 4); have e5 := congrArg Fin.val (e 5)
    have e6 := congrArg Fin.val (e 6)
    funext a; apply Fin.ext
    fin_cases a
    · exact e0.symm
    · exact e1.symm
    · exact e2.symm
    · exact e3.symm
    · exact e4.symm
    · exact e5.symm
    · exact e6.symm
    · rfl
  · rintro ⟨j, rfl⟩
    funext a; fin_cases a <;> rfl

/-- The pattern of minus infinity. -/
theorem negInf : Ideal.ofBits .f32 4286578688#32 = ⊥ := by simp [Ideal.ofBits, Ideal.ieee]

/-- The largest score of a query is the supremum over the keys. -/
theorem T33_at (s) : T33 s (ix5 b h g i q) = Finset.univ.sup (fun p : Fin 256 × Fin 128 => (s (ix7 b h g i q p.1 p.2) : EReal)) := by
  have : T33 s (ix5 b h g i q) = (Finset.univ.filter fun x => (reducesTo_S2x4x4x256x128x256x128_S2x4x4x256x128_d5_6).drop x = ix5 b h g i q).sup (fun x => (s x : EReal)) := by
    pointwise [T33]
    rw [negInf]; rfl
  rw [this, fiber56, Finset.sup_image]; rfl

/-- The largest weight of a block is a supremum of absolute values. -/
theorem T40_at (s) : T40 s (ix5 b h g i j) = Finset.univ.sup (fun p : Fin 128 × Fin 128 => (FloatOps.absf (F := Ideal) (φ := .f32) (s (ix7 b h g i p.1 j p.2)) : EReal)) := by
  have : T40 s (ix5 b h g i j) = (Finset.univ.filter fun x => (reducesTo_S2x4x4x256x128x256x128_S2x4x4x256x256_d4_6).drop x = ix5 b h g i j).sup (fun x => (FloatOps.absf (F := Ideal) (φ := .f32) (s x) : EReal)) := by
    pointwise [T40]
    rw [negInf]; rfl
  rw [this, fiber46, Finset.sup_image]; rfl

/-- The sum of the weights of a query. -/
theorem T38_at (s) : T38 s (ix5 b h g i q) = ∑ p : Fin 256 × Fin 128, (s (ix7 b h g i q p.1 p.2) : EReal) := by
  have : T38 s (ix5 b h g i q) = 0 + ∑ x ∈ (Finset.univ.filter fun x => (reducesTo_S2x4x4x256x128x256x128_S2x4x4x256x128_d5_6).drop x = ix5 b h g i q), (s x : EReal) := by
    pointwise [T38]
    exact zero_add _
  rw [this, zero_add, fiber56, Finset.sum_image]
  rintro ⟨a, c⟩ _ ⟨a', c'⟩ _ e
  exact Prod.ext (congrFun e 5) (congrFun e 6)

/-- Whether a block reaches a power of two. -/
theorem T54_at (a) (k : Fin 254) : T54 a (ix8 b h g i 0 j 0 k)
    = FloatOps.cmpf (F := Ideal) (φ := .f32) .oge (a (ix5 b h g i j) * Ideal.ofBits .f32 991054117#32) (Ideal.pow (Ideal.ofBits .f32 1073741824#32) (FloatOps.sitofp (F := Ideal) .f32 (IntOp.addi 4294967170#32 (BitVec.ofNat 32 k.val)))) := by
  pointwise [T54]

/-- The count of the powers reached. -/
theorem T56_at (a) : T56 a (ix7 b h g i 0 j 0)
    = BitVec.ofNat 32 (Finset.univ.filter fun k : Fin 254 => T54 a (ix8 b h g i 0 j 0 k) = 1#1).card := by
  have : T56 a (ix7 b h g i 0 j 0) = (Finset.univ.filter fun x => (reducesTo_S2x4x4x256x1x256x1x254_S2x4x4x256x1x256x1_d7).drop x = ix7 b h g i 0 j 0).fold IntOp.addi 0#32 (fun x => (T54 a x).setWidth 32) := by
    pointwise [T56]
  rw [this, IndicatorCount.fold_addi_setWidth_eq_card, fiber7, Finset.filter_image, Finset.card_image_of_injective]
  intro x y e
  exact congrFun e 7

/-- The exponent. -/
theorem T61_at (s) : T61 s (ix7 b h g i 0 j 0)
    = Scalar.select (IntOp.cmpi CmpIPredicate.eq (s (ix7 b h g i 0 j 0)) 0#32) (0#32) (IntOp.subi (s (ix7 b h g i 0 j 0)) 126#32) := by
  pointwise [T61]

/-- The scale. -/
theorem T64_at (s) : T64 s (ix7 b h g i 0 j 0)
    = Ideal.pow (Ideal.ofBits .f32 1073741824#32) (FloatOps.sitofp (F := Ideal) .f32 (s (ix7 b h g i 0 j 0))) := by
  pointwise [T64]

/-- A weight over its scale. -/
theorem T69_at (p s) : T69 p s (ix7 b h g i q j r)
    = p (ix7 b h g i q j r) * Ideal.pow (Ideal.ofBits .f32 1073741824#32) (-FloatOps.sitofp (F := Ideal) .f32 (s (ix7 b h g i 0 j 0))) := by
  pointwise [T69]

/-- A code. -/
theorem T70_at (p) : T70 p (ix7 b h g i q j r)
    = min (Ideal.ofBits .f32 1138753536#32) (max (Ideal.ofBits .f32 3286237184#32) (p (ix7 b h g i q j r))) := by
  pointwise [T70]

/-- The product of a block's codes with its values. -/
theorem T72_at (vt c) : T72 vt c (ix7 b h g i q j d) = ∑ r : Fin 128, vt (ix5 b h j d r) * c (ix7 b h g i q j r) := by
  pointwise [T72]

/-- The same, scaled. -/
theorem T76_at (vt c sc vs) : T76 vt c sc vs (ix7 b h g i q j d)
    = T72 vt c (ix7 b h g i q j d) * (sc (ix7 b h g i 0 j 0) * vs (ix7 b h 0 0 0 j 0)) := by
  pointwise [T76]

/-- The same, summed over the blocks. -/
theorem T77_at (vt c sc vs) : T77 vt c sc vs (ix6 b h g i q d) = ∑ j : Fin 256, (T76 vt c sc vs (ix7 b h g i q j d) : EReal) := by
  have : T77 vt c sc vs (ix6 b h g i q d) = 0 + ∑ x ∈ (Finset.univ.filter fun x => (reducesTo_S2x4x4x256x128x256x128_S2x4x4x256x128x128_d5).drop x = ix6 b h g i q d), (T76 vt c sc vs x : EReal) := by
    pointwise [T77]
    exact zero_add _
  rw [this, zero_add, fiber5, Finset.sum_image]
  intro x _ y _ e
  exact congrFun e 5

/-- An output element. -/
theorem T83_at (vt c sc vs l) : T83 vt c sc vs l (ix3 b ⟨i.val * 128 + q.val, by omega⟩ ⟨(h.val * 4 + g.val) * 128 + d.val, by omega⟩)
    = Ideal.div (T77 vt c sc vs (ix6 b h g i q d)) (l (ix5 b h g i q)) := by
  pointwise [T83]
end Cert.ReferenceIdeal.Value
-- ==== Proof.RefStages.lean ====
module

public import proofs.«01_k».proof.Proof.RefTerms
public import Idealize.ShloMosaic.Lib.Pipeline.ValueKit

/-!
The host lines of the reference: what each stage leaves, as a term over what it reads.
-/

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

/-- What the lines leave: the value scales at the blocks. -/
theorem after_v11 (W : Valuation τ sig (Elt Ideal)) :
    StableHlo.after hostOps1 W (Proc.devRef .tc main_v11) = T11 (W (Proc.devRef .tc main_arg2)) := by
  after_results; try rfl

/-- What the lines leave: the scores. -/
theorem after_v18 (W : Valuation τ sig (Elt Ideal)) :
    StableHlo.after hostOps1 W (Proc.devRef .tc main_v18) = T18 (W (Proc.devRef .tc main_v0_0)) (W (Proc.devRef .tc main_v0_1)) (W (Proc.devRef .tc main_arg0)) (W (Proc.devRef .tc main_arg1)) := by
  after_results; try rfl

/-- What the lines leave: the mask. -/
theorem after_v31 (W : Valuation τ sig (Elt Ideal)) :
    StableHlo.after hostOps1 W (Proc.devRef .tc main_v31) = T31 := by
  after_results; try rfl

/-- What the lines leave: minus infinity. -/
theorem after_cst_0 (W : Valuation τ sig (Elt Ideal)) :
    StableHlo.after hostOps1 W (Proc.devRef .tc main_cst_0) = (constant S_ .f32 0xFF800000#32 : FVec Ideal S_ .f32) := by
  after_results; try rfl

/-- What the lines leave: the masked scores. -/
theorem after_v32 (W : Valuation τ sig (Elt Ideal)) (h31 : (W (Proc.devRef .tc main_v31)) = T31)
    (hc : (W (Proc.devRef .tc main_cst_0)) = (constant S_ .f32 0xFF800000#32 : FVec Ideal S_ .f32)) :
    StableHlo.after hostOps1_1 W (Proc.devRef .tc main_v32) = T32 (W (Proc.devRef .tc main_v18)) := by
  after_results; rw [h31, hc]; rfl

/-- What the lines leave: the weights. -/
theorem after_v37 (W : Valuation τ sig (Elt Ideal)) :
    StableHlo.after hostOps1_2 W (Proc.devRef .tc main_v37) = T37 (W (Proc.devRef .tc main_v32)) := by
  after_results; try rfl

/-- What the lines leave: the sums of the weights. -/
theorem after_v38 (W : Valuation τ sig (Elt Ideal)) :
    StableHlo.after hostOps1_2 W (Proc.devRef .tc main_v38) = T38 (T37 (W (Proc.devRef .tc main_v32))) := by
  after_results; try rfl

/-- What the lines leave: the counts of the powers reached. -/
theorem after_v56 (W : Valuation τ sig (Elt Ideal)) :
    StableHlo.after hostOps1_2 W (Proc.devRef .tc main_v56) = T56 (T40 (T37 (W (Proc.devRef .tc main_v32)))) := by
  after_results; try rfl

/-- What the lines leave: where the count is zero. -/
theorem after_v58 (W : Valuation τ sig (Elt Ideal)) :
    StableHlo.after hostOps1_2 W (Proc.devRef .tc main_v58) = (cmpi .eq (T56 (T40 (T37 (W (Proc.devRef .tc main_v32))))) (broadcastInDim S2x4x4x256x1x256x1 ![] bcast_S_S2x4x4x256x1x256x1 (constantI S_ 32 0#32))) := by
  after_results; try rfl

/-- What the lines leave: the count less 126. -/
theorem after_v60 (W : Valuation τ sig (Elt Ideal)) :
    StableHlo.after hostOps1_2 W (Proc.devRef .tc main_v60) = (subi (T56 (T40 (T37 (W (Proc.devRef .tc main_v32))))) (broadcastInDim S2x4x4x256x1x256x1 ![] bcast_S_S2x4x4x256x1x256x1 (constantI S_ 32 126#32))) := by
  after_results; try rfl

/-- What the lines leave: the word zero. -/
theorem after_c_10 (W : Valuation τ sig (Elt Ideal)) :
    StableHlo.after hostOps1_2 W (Proc.devRef .tc main_c_10) = (constantI S_ 32 0#32) := by
  after_results; try rfl

/-- What the lines leave: the exponents. -/
theorem after_v61 (W : Valuation τ sig (Elt Ideal)) :
    StableHlo.after hostOps1_3 W (Proc.devRef .tc main_v61) = (select (W (Proc.devRef .tc main_v58)) (broadcastInDim S2x4x4x256x1x256x1 ![] bcast_S_S2x4x4x256x1x256x1 (W (Proc.devRef .tc main_c_10))) (W (Proc.devRef .tc main_v60)) : IVec S2x4x4x256x1x256x1 32) := by
  after_results; try rfl

/-- What the lines leave: the scales of the weights. -/
theorem after_v64 (W : Valuation τ sig (Elt Ideal)) :
    StableHlo.after hostOps1_4 W (Proc.devRef .tc main_v64) = T64 (W (Proc.devRef .tc main_v61)) := by
  after_results; try rfl

/-- What the lines leave: the scaled weights. -/
theorem after_v69 (W : Valuation τ sig (Elt Ideal)) :
    StableHlo.after hostOps1_4 W (Proc.devRef .tc main_v69) = T69 (W (Proc.devRef .tc main_v37)) (W (Proc.devRef .tc main_v61)) := by
  after_results; try rfl

/-- What the lines leave: the lower bound of the codes. -/
theorem after_cst_13 (W : Valuation τ sig (Elt Ideal)) :
    StableHlo.after hostOps1_4 W (Proc.devRef .tc main_cst_13) = (constant S_ .f32 0xC3E00000#32 : FVec Ideal S_ .f32) := by
  after_results; try rfl

/-- What the lines leave: the upper bound of the codes. -/
theorem after_cst_14 (W : Valuation τ sig (Elt Ideal)) :
    StableHlo.after hostOps1_4 W (Proc.devRef .tc main_cst_14) = (constant S_ .f32 0x43E00000#32 : FVec Ideal S_ .f32) := by
  after_results; try rfl

/-- What the lines leave: the codes. -/
theorem after_v70 (W : Valuation τ sig (Elt Ideal)) :
    StableHlo.after hostOps1_5 W (Proc.devRef .tc main_v70) = (minimumf (broadcastInDim S2x4x4x256x128x256x128 ![] bcast_S_S2x4x4x256x128x256x128 (W (Proc.devRef .tc main_cst_14))) (maximumf (broadcastInDim S2x4x4x256x128x256x128 ![] bcast_S_S2x4x4x256x128x256x128 (W (Proc.devRef .tc main_cst_13))) (W (Proc.devRef .tc main_v69))) : FVec Ideal S2x4x4x256x128x256x128 .f32) := by
  after_results; try rfl

/-- What the lines leave: the output. -/
theorem after_v83 (W : Valuation τ sig (Elt Ideal)) :
    StableHlo.after hostOps1_6 W (Proc.devRef .tc main_v83) = T83 (W (Proc.devRef .tc main_v0_2)) (W (Proc.devRef .tc main_v70)) (W (Proc.devRef .tc main_v64)) (W (Proc.devRef .tc main_v11)) (W (Proc.devRef .tc main_v38)) := by
  after_results; try rfl

end Cert.ReferenceIdeal.Value
-- ==== Proof.RefValue.lean ====
module

public import proofs.«01_k».proof.Proof.RefPoint
public import proofs.«01_k».proof.Proof.RefStages
public import proofs.«01_k».proof.Proof.Spec

/-!
The reference's output as the attention formula, element by element.
-/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec

/-- The exponent words of the scales. -/
def TE (s : FVec Ideal S2x4x4x256x128x256x128 .f32) : IVec S2x4x4x256x1x256x1 32 := T61 (T56 (T40 (T37 s)))

/-- The output from the arrays: the query codes, the key codes, the value codes and the three arrays of scales. -/
def TALL (x : FVec Ideal S2x32768x2048 .f32) (k : FVec Ideal S2x4x32768x128 .f32) (vt : FVec Ideal S2x4x256x128x128 .f32)
    (qs : FVec Ideal S2x256x16 .f32) (ks vs : FVec Ideal S2x256x4 .f32) : FVec Ideal S2x32768x2048 .bf16 :=
  T83 vt (T70 (T69 (T37 (T32 (T18 x k qs ks))) (TE (T32 (T18 x k qs ks))))) (T64 (TE (T32 (T18 x k qs ks)))) (T11 vs) (T38 (T37 (T32 (T18 x k qs ks))))

/-- The mask in words is the window. -/
theorem word_mask (a c : ℕ) (ha : a < 32768) (hc : c < 32768) :
    IntOp.andi (IntOp.cmpi CmpIPredicate.sle (BitVec.ofNat 32 a) (BitVec.ofNat 32 c))
      (IntOp.cmpi CmpIPredicate.slt (IntOp.subi (BitVec.ofNat 32 c) (BitVec.ofNat 32 a)) 4096#32) = if a ≤ c ∧ c < a + 4096 then 1#1 else 0#1 := by
  have hi : ∀ n : ℕ, n < 32768 → (BitVec.ofNat 32 n).toInt = n := fun n hn => by
    rw [BitVec.toInt_eq_toNat_of_lt (by rw [BitVec.toNat_ofNat]; omega), BitVec.toNat_ofNat]; omega
  have e1 : (BitVec.ofNat 32 a).sle (BitVec.ofNat 32 c) = decide (a ≤ c) := by
    rw [BitVec.sle, hi a ha, hi c hc]
    exact decide_eq_decide.mpr (by omega)
  show BitVec.ofBool ((BitVec.ofNat 32 a).sle (BitVec.ofNat 32 c)) &&& BitVec.ofBool ((BitVec.ofNat 32 c - BitVec.ofNat 32 a).slt 4096#32) = _
  rw [e1]
  by_cases h : a ≤ c
  · have es : BitVec.ofNat 32 c - BitVec.ofNat 32 a = BitVec.ofNat 32 (c - a) := by
      apply BitVec.eq_of_toNat_eq
      rw [BitVec.toNat_sub, BitVec.toNat_ofNat, BitVec.toNat_ofNat, BitVec.toNat_ofNat]
      omega
    have e2 : (BitVec.ofNat 32 (c - a)).slt 4096#32 = decide (c < a + 4096) := by
      rw [BitVec.slt, hi _ (by omega), hi 4096 (by omega)]
      exact decide_eq_decide.mpr (by omega)
    rw [es, e2, decide_eq_true h]
    by_cases h' : c < a + 4096
    · rw [decide_eq_true h', if_pos ⟨h, h'⟩]; rfl
    · rw [decide_eq_false h', if_neg (fun hh => h' hh.2)]; rfl
  · rw [decide_eq_false h, if_neg (fun hh => h hh.1)]
    exact BitVec.zero_and

/-- The integer of an exponent word. -/
theorem word_int : ∀ k : Fin 254, (IntOp.addi 4294967170#32 (BitVec.ofNat 32 k.val)).toInt = (k.val : ℤ) - 126 := by
  decide

/-- The integer of the exponent chosen from a count. -/
theorem word_exp : ∀ k : Fin 127, (Scalar.select (IntOp.cmpi CmpIPredicate.eq (BitVec.ofNat 32 k.val) 0#32) 0#32 (IntOp.subi (BitVec.ofNat 32 k.val) 126#32)).toInt
    = if k.val = 0 then 0 else (k.val : ℤ) - 126 := by
  decide

/-- A power of two at a negated exponent. -/
theorem pow_two_neg (e : ℤ) : Ideal.pow (Ideal.ofBits .f32 1073741824#32) (-(((e : ℤ) : ℝ) : EReal)) = two (-e) := by
  refine Eq.trans ?_ (Cert.Spec.pow_two (-e))
  rw [← EReal.coe_neg, Int.cast_neg]

variable (b : Fin 2) (h g : Fin 4) (i : Fin 256) (q : Fin 128) (j : Fin 256) (r d : Fin 128)
  (s : FVec Ideal S2x4x4x256x128x256x128 .f32)

/-- The scores of one query block and one head, as the formula takes them. -/
def sc : Fin 128 → Fin 256 → Fin 128 → EReal := fun q j r => s (ix7 b h g i q j r)

/-- The weights. -/
theorem T37_wt : T37 s (ix7 b h g i q j r) = wt (sc b h g i s) q j r := by
  rw [T37_at, T33_at]
  rfl

/-- The largest weight of a block. -/
theorem T40_big : T40 (T37 s) (ix5 b h g i j) = big (sc b h g i s) j := by
  rw [T40_at]
  unfold big
  refine Finset.sup_congr rfl fun p _ => ?_
  rw [T37_wt]
  show max _ (-_) = _
  exact max_eq_left (le_trans (EReal.neg_le_neg_iff.mpr (wt_nonneg _ _ _ _)) (by rw [neg_zero]; exact wt_nonneg _ _ _ _))

/-- The count of the powers reached. -/
theorem T56_cnt : T56 (T40 (T37 s)) (ix7 b h g i 0 j 0) = BitVec.ofNat 32 (cnt (big (sc b h g i s) j)) := by
  rw [T56_at]
  unfold cnt
  refine congrArg (fun n : ℕ => BitVec.ofNat 32 n) (congrArg Finset.card (Finset.filter_congr fun k _ => ?_))
  rw [T54_at, T40_big]
  show BitVec.ofBool (decide (Ideal.pow (Ideal.ofBits .f32 1073741824#32) ((((IntOp.addi 4294967170#32 (BitVec.ofNat 32 k.val)).toInt : ℤ) : ℝ) : EReal) ≤ big (sc b h g i s) j * recip)) = 1#1 ↔ _
  rw [Cert.Spec.pow_two, word_int]
  by_cases hh : two ((k.val : ℤ) - 126) ≤ big (sc b h g i s) j * recip
  · rw [decide_eq_true hh]; exact ⟨fun _ => hh, fun _ => rfl⟩
  · rw [decide_eq_false hh]; exact ⟨fun e => absurd e (by decide), fun e => absurd e hh⟩

/-- The exponent. -/
theorem TE_ex : (TE s (ix7 b h g i 0 j 0)).toInt = ex (big (sc b h g i s) j) := by
  unfold TE
  rw [T61_at, T56_cnt]
  have hc := cnt_le (big_le_one (sc b h g i s) j)
  refine (word_exp ⟨cnt (big (sc b h g i s) j), by omega⟩).trans ?_
  unfold ex
  rfl

/-- The codes. -/
theorem T70_code : T70 (T69 (T37 s) (TE s)) (ix7 b h g i q j r) = code (sc b h g i s) q j r := by
  rw [T70_at, T69_at, T37_wt]
  unfold code
  rw [show (-FloatOps.sitofp (F := Ideal) .f32 (TE s (ix7 b h g i 0 j 0)) : EReal) = -((((TE s (ix7 b h g i 0 j 0)).toInt : ℤ) : ℝ) : EReal) from rfl, pow_two_neg, TE_ex]
  rfl

/-- The scale. -/
theorem T64_two : T64 (TE s) (ix7 b h g i 0 j 0) = two (ex (big (sc b h g i s) j)) := by
  rw [T64_at, show (FloatOps.sitofp (F := Ideal) .f32 (TE s (ix7 b h g i 0 j 0)) : EReal) = ((((TE s (ix7 b h g i 0 j 0)).toInt : ℤ) : ℝ) : EReal) from rfl, Cert.Spec.pow_two, TE_ex]

/-- The masked scores from the arrays. -/
theorem T32_sc (x : FVec Ideal S2x32768x2048 .f32) (k : FVec Ideal S2x4x32768x128 .f32) (qs : FVec Ideal S2x256x16 .f32) (ks : FVec Ideal S2x256x4 .f32) :
    T32 (T18 x k qs ks) (ix7 b h g i q j r) = if j.val * 128 + r.val ≤ i.val * 128 + q.val ∧ i.val * 128 + q.val < j.val * 128 + r.val + 4096 then
      (∑ l : Fin 128, k (ix4 b h ⟨j.val * 128 + r.val, by omega⟩ l) * x (ix3 b ⟨i.val * 128 + q.val, by omega⟩ ⟨h.val * 512 + g.val * 128 + l.val, by omega⟩))
      * (qs (ix3 b i ⟨h.val * 4 + g.val, by omega⟩) * ks (ix3 b j h) * Ideal.ofBits .f32 1035273459#32) else ⊥ := by
  rw [T32_at, T31_at, word_mask _ _ (by omega) (by omega), negInf, T18_at]
  by_cases hh : j.val * 128 + r.val ≤ i.val * 128 + q.val ∧ i.val * 128 + q.val < j.val * 128 + r.val + 4096
  · rw [if_pos hh, if_pos hh]; rfl
  · rw [if_neg hh, if_neg hh]; rfl

/-- The output is the formula of the masked scores, the values and their scales. -/
theorem TALL_at (x : FVec Ideal S2x32768x2048 .f32) (k : FVec Ideal S2x4x32768x128 .f32) (vt : FVec Ideal S2x4x256x128x128 .f32)
    (qs : FVec Ideal S2x256x16 .f32) (ks vs : FVec Ideal S2x256x4 .f32) :
    TALL x k vt qs ks vs (ix3 b ⟨i.val * 128 + q.val, by omega⟩ ⟨(h.val * 4 + g.val) * 128 + d.val, by omega⟩)
      = out (sc b h g i (T32 (T18 x k qs ks))) (fun j d r => vt (ix5 b h j d r)) (fun j => vs (ix3 b j h)) q d := by
  unfold TALL
  generalize T32 (T18 x k qs ks) = s
  rw [T83_at, T77_at, T38_at]
  unfold out
  refine congrArg₂ Ideal.div (Finset.sum_congr rfl fun j _ => ?_) (Finset.sum_congr rfl fun p _ => T37_wt ..)
  rw [T76_at, T72_at, T64_two, T11_at]
  unfold part
  refine congrArg₂ (fun x y : EReal => x * y) (Finset.sum_congr rfl fun r _ => ?_) rfl
  rw [T70_code]

end Cert.ReferenceIdeal.Value
end
-- ==== Proof.KerArray.lean ====
module

public import proofs.«01_k».proof.Proof.KerPipe
public import proofs.«01_k».proof.Proof.RefValue
public import Idealize.ShloMosaic.Lib.Pipeline.ValueKit

/-!
The kernel's result array: the attention formula of the argument arrays, the same the reference computes.
-/

@[expose] public section

set_option maxRecDepth 16384

noncomputable section

open Idealize.ShloMosaic Idealize.ShloMosaic.TcCoe Idealize.SL.Sem
open Idealize.ShloMosaic.Pipeline (Dat Cfg Window)

namespace Cert.KernelIdeal.ValueArray

open Cert.KernelIdeal Cert.KernelIdeal.Gen Cert.KernelIdeal.Value Cert.KernelIdeal.ValuePipe Cert.Spec

/-- The blocks' places, at every point. -/
theorem idx : ∀ t : Fin cfg0.N, win0_0.index t = ![0] ∧ win0_1.index t = ![0] ∧ win0_2.index t = ![0]
    ∧ win0_3.index t = ![(grid0.coords t 0).val, (grid0.coords t 2).val, (grid0.coords t 1).val]
    ∧ win0_4.index t = ![(grid0.coords t 0).val, (grid0.coords t 1).val, 0, 0]
    ∧ win0_5.index t = ![(grid0.coords t 0).val, (grid0.coords t 1).val, 0, 0, 0]
    ∧ win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-- The query scales, flattened. -/
theorem V_main_v0 : V m c main_v0 = shapeCast S8192 (m ((c : Thread nD τ).loc main_arg0) : FVec Ideal S2x256x16 .f32) shapeCasts_S2x256x16_S8192 := by
  show StableHlo.after hostOps0 (fun b => m (c, b)) (Proc.devRef .tc main_v0) = _
  after_results; try rfl

/-- The key scales, flattened. -/
theorem V_main_v1 : V m c main_v1 = shapeCast S2048 (m ((c : Thread nD τ).loc main_arg1) : FVec Ideal S2x256x4 .f32) shapeCasts_S2x256x4_S2048 := by
  show StableHlo.after hostOps0 (fun b => m (c, b)) (Proc.devRef .tc main_v1) = _
  after_results; try rfl

/-- The value scales, flattened. -/
theorem V_main_v2 : V m c main_v2 = shapeCast S2048 (m ((c : Thread nD τ).loc main_arg2) : FVec Ideal S2x256x4 .f32) shapeCasts_S2x256x4_S2048 := by
  show StableHlo.after hostOps0 (fun b => m (c, b)) (Proc.devRef .tc main_v2) = _
  after_results; try rfl

/-- A flattened array of sixteen columns at a cell. -/
theorem flat16 (x : FVec Ideal S2x256x16 .f32) (i : grid0.Coords) (g : Fin 4) :
    shapeCast S8192 x shapeCasts_S2x256x16_S8192 (ix1 (qcell i g)) = x (ix3 (B i) (Q i) ⟨(H i).val * 4 + g.val, by have := (H i).isLt; omega⟩) := by
  refine shapeCast_apply (hk := ?_) ..
  rw [Shape.rowMajor_val_one, Shape.rowMajor_val_three]
  have := (H i).isLt
  show ((i 0).val * 256 + (i 2).val) * 16 + ((i 1).val * 4 + g.val) = ((i 0).val * 256 + (i 2).val) * 16 + (i 1).val * 4 + g.val
  omega

/-- A flattened array of four columns at a cell. -/
theorem flat4 (x : FVec Ideal S2x256x4 .f32) (i : grid0.Coords) (j : Fin 256) :
    shapeCast S2048 x shapeCasts_S2x256x4_S2048 (ix1 (kcell i j)) = x (ix3 (B i) j (H i)) := by
  refine shapeCast_apply (hk := ?_) ..
  rw [Shape.rowMajor_val_one, Shape.rowMajor_val_three]
  have := (H i).isLt
  show ((i 0).val * 256 + j.val) * 4 + (i 1).val = ((i 0).val * 256 + j.val) * 4 + (i 1).val
  omega

/-- The query scale read at a point. -/
theorem iblk0_at (t : Fin cfg0.N) (g : Fin 4) : iblk m c 0 t (ix1 (qcell (grid0.coords t) g))
    = m ((c : Thread nD τ).loc main_arg0) (ix3 (B (grid0.coords t)) (Q (grid0.coords t)) ⟨(H (grid0.coords t)).val * 4 + g.val, by have := (H (grid0.coords t)).isLt; omega⟩) := by
  refine Eq.trans ?_ (flat16 (m ((c : Thread nD τ).loc main_arg0)) (grid0.coords t) g)
  rw [← V_main_v0]
  blk_simp [iblk]
  blk_ext [idx t]
  all_goals first | rfl | (simp only [B, H, Q]; omega)

/-- The key scale read at a point. -/
theorem iblk1_at (t : Fin cfg0.N) (j : Fin 256) : iblk m c 1 t (ix1 (kcell (grid0.coords t) j))
    = m ((c : Thread nD τ).loc main_arg1) (ix3 (B (grid0.coords t)) j (H (grid0.coords t))) := by
  refine Eq.trans ?_ (flat4 (m ((c : Thread nD τ).loc main_arg1)) (grid0.coords t) j)
  rw [← V_main_v1]
  blk_simp [iblk]
  blk_ext [idx t]
  all_goals first | rfl | (simp only [B, H, Q]; omega)

/-- The value scale read at a point. -/
theorem iblk2_at (t : Fin cfg0.N) (j : Fin 256) : iblk m c 2 t (ix1 (kcell (grid0.coords t) j))
    = m ((c : Thread nD τ).loc main_arg2) (ix3 (B (grid0.coords t)) j (H (grid0.coords t))) := by
  refine Eq.trans ?_ (flat4 (m ((c : Thread nD τ).loc main_arg2)) (grid0.coords t) j)
  rw [← V_main_v2]
  blk_simp [iblk]
  blk_ext [idx t]
  all_goals first | rfl | (simp only [B, H, Q]; omega)

/-- The query block at a point. -/
theorem iblk3_at (t : Fin cfg0.N) (q : Fin 128) (g : Fin 4) (l : Fin 128) : iblk m c 3 t (ix3 0 q (col g l))
    = m ((c : Thread nD τ).loc main_arg3) (ix3 (B (grid0.coords t)) ⟨(Q (grid0.coords t)).val * 128 + q.val, by have := (Q (grid0.coords t)).isLt; omega⟩
      ⟨(H (grid0.coords t)).val * 512 + g.val * 128 + l.val, by have := (H (grid0.coords t)).isLt; omega⟩) := by
  refine Eq.trans ?_ (congrFun (V_main_arg3 m c) _)
  blk_simp [iblk]
  blk_ext [idx t]
  all_goals first | rfl | (simp only [B, H, Q]; omega)

/-- The keys at a point. -/
theorem iblk4_at (t : Fin cfg0.N) (n : Fin 32768) (l : Fin 128) : iblk m c 4 t (ix4 0 0 n l)
    = m ((c : Thread nD τ).loc main_arg4) (ix4 (B (grid0.coords t)) (H (grid0.coords t)) n l) := by
  refine Eq.trans ?_ (congrFun (V_main_arg4 m c) _)
  blk_simp [iblk]
  blk_ext [idx t]
  all_goals first | rfl | (simp only [B, H, Q]; omega)

/-- The values at a point. -/
theorem iblk5_at (t : Fin cfg0.N) (j : Fin 256) (d r : Fin 128) : iblk m c 5 t (ix5 0 0 j d r)
    = m ((c : Thread nD τ).loc main_arg5) (ix5 (B (grid0.coords t)) (H (grid0.coords t)) j d r) := by
  refine Eq.trans ?_ (congrFun (V_main_arg5 m c) _)
  blk_simp [iblk]
  blk_ext [idx t]
  all_goals first | rfl | (simp only [B, H, Q]; omega)

/-- The formula over the arguments. -/
def RES : FVec Ideal S2x32768x2048 .bf16 :=
  Cert.ReferenceIdeal.Value.TALL (m ((c : Thread nD τ).loc main_arg3)) (m ((c : Thread nD τ).loc main_arg4)) (m ((c : Thread nD τ).loc main_arg5))
    (m ((c : Thread nD τ).loc main_arg0)) (m ((c : Thread nD τ).loc main_arg1)) (m ((c : Thread nD τ).loc main_arg2))

/-- What a point leaves in its block is the formula's block. -/
theorem Out_res (t : Fin cfg0.N) (g : Fin 4) (q d : Fin 128) :
    Out (grid0.coords t) (iblk m c 0 t) (iblk m c 1 t) (iblk m c 2 t) (iblk m c 3 t) (iblk m c 4 t) (iblk m c 5 t) (ix3 0 q (col g d))
      = RES m c (ix3 (B (grid0.coords t)) ⟨(Q (grid0.coords t)).val * 128 + q.val, by have := (Q (grid0.coords t)).isLt; omega⟩
        ⟨((H (grid0.coords t)).val * 4 + g.val) * 128 + d.val, by have := (H (grid0.coords t)).isLt; omega⟩) := by
  rw [Out_at]
  unfold RES
  rw [Cert.ReferenceIdeal.Value.TALL_at]
  congr 1
  · funext q j r
    unfold SS Cert.ReferenceIdeal.Value.sc
    rw [Cert.ReferenceIdeal.Value.T32_sc]
    refine if_congr Iff.rfl ?_ rfl
    rw [iblk0_at, iblk1_at]
    refine congrArg (fun x : EReal => x * _) (Finset.sum_congr rfl fun l _ => ?_)
    rw [iblk4_at, iblk3_at]
  · funext j d r
    exact iblk5_at ..
  · funext j
    exact iblk2_at ..

/-- The output array after the run is the formula. -/
theorem final : (dats m 0 c).arrAt 6 (cfgs 0).N = RES m c :=
  (dats m 0 c).arrAt_eq_of_covers 6 (RES m c) (by decide +kernel) fun t hf y => by
    obtain ⟨g, q, d, rfl⟩ : ∃ (g : Fin 4) (q d : Fin 128), y = ix3 0 q (col g d) :=
      ⟨⟨(y 2).val / 128, Nat.div_lt_of_lt_mul (y 2).isLt⟩, y 1, ⟨(y 2).val % 128, Nat.mod_lt _ (by norm_num)⟩, by
        funext a
        fin_cases a
        · exact Subsingleton.elim (α := Fin 1) _ _
        · rfl
        · exact Fin.ext (by show (y 2).val = (y 2).val / 128 * 128 + (y 2).val % 128; omega)⟩
    rw [after0_6]
    refine (Out_res m c t g q d).trans ?_
    blk_ext [idx t]
    all_goals first | rfl | (simp only [B, H, Q]; omega)

/-- The kernel's run: the result array ends as the formula of the arguments and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (((h.1 c).1 3).trans ((dats m 0 c).arrAt_in 3 rfl _)).trans ((A_eq m c 3).trans (V_main_arg3 m c)),
      (((h.1 c).1 4).trans ((dats m 0 c).arrAt_in 4 rfl _)).trans ((A_eq m c 4).trans (V_main_arg4 m c)),
      (((h.1 c).1 5).trans ((dats m 0 c).arrAt_in 5 rfl _)).trans ((A_eq m c 5).trans (V_main_arg5 m c))⟩) (run_main m ρ)

end Cert.KernelIdeal.ValueArray
end
-- ==== Proof.RefRun.lean ====
module

public import proofs.«01_k».proof.Proof.RefValue
public import proofs.«01_k».proof.Proof.Gen.ReferenceIdeal.Frame
public import Idealize.ShloMosaic.Lib.Pipeline.ValueKit

/-!
The reference's run: its result array as the stages' composition over the argument arrays.
-/

@[expose] public section

set_option maxRecDepth 16384

noncomputable section

open Idealize.ShloMosaic Idealize.ShloMosaic.TcCoe Idealize.SL.Sem
open Idealize.ShloMosaic.Pipeline (Dat Cfg Window)

namespace Cert.ReferenceIdeal.Value

open Cert.ReferenceIdeal Cert.ReferenceIdeal.Gen

/-- The host lines one after the other: the result is the stages' composition. -/
theorem chain (W : Valuation τ sig (Elt Ideal)) :
    StableHlo.after hostOps1_6 (StableHlo.after hostOps1_5 (StableHlo.after hostOps1_4 (StableHlo.after hostOps1_3 (StableHlo.after hostOps1_2
        (StableHlo.after hostOps1_1 (StableHlo.after hostOps1 W)))))) (Proc.devRef .tc main_v83)
      = TALL (W (Proc.devRef .tc main_v0_0)) (W (Proc.devRef .tc main_v0_1)) (W (Proc.devRef .tc main_v0_2)) (W (Proc.devRef .tc main_arg0)) (W (Proc.devRef .tc main_arg1)) (W (Proc.devRef .tc main_arg2)) := by
  have a11_0 := after_v11 W
  have a18_0 := after_v18 W
  have a31_0 := after_v31 W
  have ac0_0 := after_cst_0 W
  have av2_0 := StableHlo.after_of_writes_sub (r := main_v0_2) hostOps1 W hostOps1_writes (by decide +kernel)
  generalize StableHlo.after hostOps1 W = W1 at *
  have a32_1 := after_v32 W1 a31_0 ac0_0
  rw [a18_0] at a32_1
  have a11_1 := StableHlo.after_of_writes_sub (r := main_v11) hostOps1_1 W1 hostOps1_1_writes (by decide +kernel)
  rw [a11_0] at a11_1
  have av2_1 := StableHlo.after_of_writes_sub (r := main_v0_2) hostOps1_1 W1 hostOps1_1_writes (by decide +kernel)
  rw [av2_0] at av2_1
  generalize StableHlo.after hostOps1_1 W1 = W2 at *
  have a37_2 := after_v37 W2
  rw [a32_1] at a37_2
  have a38_2 := after_v38 W2
  rw [a32_1] at a38_2
  have a58_2 := after_v58 W2
  rw [a32_1] at a58_2
  have a60_2 := after_v60 W2
  rw [a32_1] at a60_2
  have ac10_2 := after_c_10 W2
  have a11_2 := StableHlo.after_of_writes_sub (r := main_v11) hostOps1_2 W2 hostOps1_2_writes (by decide +kernel)
  rw [a11_1] at a11_2
  have av2_2 := StableHlo.after_of_writes_sub (r := main_v0_2) hostOps1_2 W2 hostOps1_2_writes (by decide +kernel)
  rw [av2_1] at av2_2
  generalize StableHlo.after hostOps1_2 W2 = W3 at *
  have a61_3 := after_v61 W3
  rw [a58_2, a60_2, ac10_2] at a61_3
  have a37_3 := StableHlo.after_of_writes_sub (r := main_v37) hostOps1_3 W3 hostOps1_3_writes (by decide +kernel)
  rw [a37_2] at a37_3
  have a38_3 := StableHlo.after_of_writes_sub (r := main_v38) hostOps1_3 W3 hostOps1_3_writes (by decide +kernel)
  rw [a38_2] at a38_3
  have a11_3 := StableHlo.after_of_writes_sub (r := main_v11) hostOps1_3 W3 hostOps1_3_writes (by decide +kernel)
  rw [a11_2] at a11_3
  have av2_3 := StableHlo.after_of_writes_sub (r := main_v0_2) hostOps1_3 W3 hostOps1_3_writes (by decide +kernel)
  rw [av2_2] at av2_3
  generalize StableHlo.after hostOps1_3 W3 = W4 at *
  have a64_4 := after_v64 W4
  rw [a61_3] at a64_4
  have a69_4 := after_v69 W4
  rw [a61_3, a37_3] at a69_4
  have ac13_4 := after_cst_13 W4
  have ac14_4 := after_cst_14 W4
  have a38_4 := StableHlo.after_of_writes_sub (r := main_v38) hostOps1_4 W4 hostOps1_4_writes (by decide +kernel)
  rw [a38_3] at a38_4
  have a11_4 := StableHlo.after_of_writes_sub (r := main_v11) hostOps1_4 W4 hostOps1_4_writes (by decide +kernel)
  rw [a11_3] at a11_4
  have av2_4 := StableHlo.after_of_writes_sub (r := main_v0_2) hostOps1_4 W4 hostOps1_4_writes (by decide +kernel)
  rw [av2_3] at av2_4
  generalize StableHlo.after hostOps1_4 W4 = W5 at *
  have a70_5 := after_v70 W5
  rw [ac13_4, ac14_4, a69_4] at a70_5
  have a38_5 := StableHlo.after_of_writes_sub (r := main_v38) hostOps1_5 W5 hostOps1_5_writes (by decide +kernel)
  rw [a38_4] at a38_5
  have a11_5 := StableHlo.after_of_writes_sub (r := main_v11) hostOps1_5 W5 hostOps1_5_writes (by decide +kernel)
  rw [a11_4] at a11_5
  have a64_5 := StableHlo.after_of_writes_sub (r := main_v64) hostOps1_5 W5 hostOps1_5_writes (by decide +kernel)
  rw [a64_4] at a64_5
  have av2_5 := StableHlo.after_of_writes_sub (r := main_v0_2) hostOps1_5 W5 hostOps1_5_writes (by decide +kernel)
  rw [av2_4] at av2_5
  generalize StableHlo.after hostOps1_5 W5 = W6 at *
  rw [after_v83 W6, a70_5, a64_5, a38_5, a11_5, av2_5]
  rfl

/-- Equal arguments give equal outputs. -/
theorem TALL_congr {x x' : FVec Ideal S2x32768x2048 .f32} {k k' : FVec Ideal S2x4x32768x128 .f32} {vt vt' : FVec Ideal S2x4x256x128x128 .f32}
    {qs qs' : FVec Ideal S2x256x16 .f32} {ks ks' vs vs' : FVec Ideal S2x256x4 .f32} (h1 : x = x') (h2 : k = k') (h3 : vt = vt') (h4 : qs = qs') (h5 : ks = ks') (h6 : vs = vs') :
    TALL x k vt qs ks vs = TALL x' k' vt' qs' ks' vs' := by
  subst h1 h2 h3 h4 h5 h6
  rfl

variable (m : (ℓ : Loc nD τ sig) → Buf (Elt Ideal) ℓ) (c : Dev nD)

/-- The blocks' places at the one point. -/
theorem idx : ∀ t : Fin cfg0.N, win0_0.index t = ![0, 0, 0] ∧ win0_1.index t = ![0, 0, 0, 0] ∧ win0_2.index t = ![0, 0, 0, 0, 0]
    ∧ win0_3.index t = ![0, 0, 0] ∧ win0_4.index t = ![0, 0, 0, 0] ∧ win0_5.index t = ![0, 0, 0, 0, 0] :=
  (by decide +kernel : ∀ t : Fin grid0.N, _)

/-- The query codes widened are the query codes. -/
theorem final3 : (dats m 0 c).arrAt 3 (cfgs 0).N = m ((c : Thread nD τ).loc main_arg3) := by
  refine (dats m 0 c).arrAt_eq_of_after_last 3 t0_0 (by decide +kernel) _ fun j => ?_
  blk_simp
  rw [after0_3]
  frame_out
  unfold k0_pay1
  blk_point [iblk, V, idx t0_0]

/-- The key codes widened are the key codes. -/
theorem final4 : (dats m 0 c).arrAt 4 (cfgs 0).N = m ((c : Thread nD τ).loc main_arg4) := by
  refine (dats m 0 c).arrAt_eq_of_after_last 4 t0_0 (by decide +kernel) _ fun j => ?_
  blk_simp
  rw [after0_4]
  frame_out
  unfold k0_pay2
  blk_point [iblk, V, idx t0_0]

/-- The value codes widened are the value codes. -/
theorem final5 : (dats m 0 c).arrAt 5 (cfgs 0).N = m ((c : Thread nD τ).loc main_arg5) := by
  refine (dats m 0 c).arrAt_eq_of_after_last 5 t0_0 (by decide +kernel) _ fun j => ?_
  blk_simp
  rw [after0_5]
  frame_out
  unfold k0_pay3
  blk_point [iblk, V, idx t0_0]

/-- The result array after the host lines. -/
theorem tail_v83 : Pipeline.afterTail₀ cfgs (dats m) 0 (V0 m) [hostOps1, hostOps1_1, hostOps1_2, hostOps1_3, hostOps1_4, hostOps1_5, hostOps1_6] c main_v83
    = TALL (m ((c : Thread nD τ).loc main_arg3)) (m ((c : Thread nD τ).loc main_arg4)) (m ((c : Thread nD τ).loc main_arg5))
      (m ((c : Thread nD τ).loc main_arg0)) (m ((c : Thread nD τ).loc main_arg1)) (m ((c : Thread nD τ).loc main_arg2)) := by
  unfold Pipeline.afterTail₀
  rw [List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append,
    chain]
  have hinj : Function.Injective (Pipeline.arrRef spec0) := by decide
  have e3 := Pipeline.withArrays_arr spec0 hinj c (V0 m c) (fun w => (dats m 0 c).arrAt w (cfgs 0).N) 3
  have e4 := Pipeline.withArrays_arr spec0 hinj c (V0 m c) (fun w => (dats m 0 c).arrAt w (cfgs 0).N) 4
  have e5 := Pipeline.withArrays_arr spec0 hinj c (V0 m c) (fun w => (dats m 0 c).arrAt w (cfgs 0).N) 5
  have a0 := Pipeline.withArrays_of_ne spec0 c (V0 m c) (fun w => (dats m 0 c).arrAt w (cfgs 0).N) main_arg0 (by exact (by decide : ∀ w, Pipeline.arrRef spec0 w ≠ main_arg0))
  have a1 := Pipeline.withArrays_of_ne spec0 c (V0 m c) (fun w => (dats m 0 c).arrAt w (cfgs 0).N) main_arg1 (by exact (by decide : ∀ w, Pipeline.arrRef spec0 w ≠ main_arg1))
  have a2 := Pipeline.withArrays_of_ne spec0 c (V0 m c) (fun w => (dats m 0 c).arrAt w (cfgs 0).N) main_arg2 (by exact (by decide : ∀ w, Pipeline.arrRef spec0 w ≠ main_arg2))
  exact TALL_congr (e3.trans (final3 m c)) (e4.trans (final4 m c)) (e5.trans (final5 m c)) (a0.trans (V_main_arg0 m c)) (a1.trans (V_main_arg1 m c)) (a2.trans (V_main_arg2 m c))

/-- The reference's run: the result array ends as the stages' composition over the arguments and the arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v83) = TALL (m ((c : Thread nD τ).loc main_arg3)) (m ((c : Thread nD τ).loc main_arg4)) (m ((c : Thread nD τ).loc main_arg5))
        (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v83 (Pipeline.mem_restRefs_of main_v83 (by decide) (by decide))).trans (tail_v83 m c), h.2 c⟩)
    (θ_run_and (run_main m ρ) (unchanged m ρ))

end Cert.ReferenceIdeal.Value
end
-- ==== Proof.QuantSpec.lean ====
module

public import proofs.«01_k».proof.Proof.Spec

/-!
The quantiser of one block, over the extended reals: the largest magnitude, the power-of-two scale, the codes.
-/

@[expose] public section

noncomputable section
open Idealize.ShloMosaic

namespace Cert.Spec

/-- The largest magnitude in a block. -/
def amax (t : Fin 128 → Fin 128 → EReal) : EReal :=
  Finset.univ.sup fun p : Fin 128 × Fin 128 => max (t p.1 p.2) (-(t p.1 p.2))
/-- The code of an element of a block whose largest magnitude is `a`. -/
def qcode (a x : EReal) : EReal := min hi (max lo (x * two (-ex a)))

/-- The largest finite number of the inputs' format. -/
def most : EReal := Ideal.ofBits .f32 2139029504#32

/-- The largest finite number times the reciprocal of 448 is under 2^120. -/
theorem most_recip : most * recip < two 120 := by
  unfold recip two most
  simp [Ideal.ofBits, Ideal.ieee]
  simp only [← EReal.coe_mul, ← EReal.coe_one]
  norm_cast
  norm_num

/-- At most 246 powers are reached by a finite input. -/
theorem cnt_le_most {a : EReal} (h : a ≤ most) : cnt a ≤ 246 := by
  have hlt : a * recip < two 120 := lt_of_le_of_lt (mul_le_mul_of_nonneg_right h recip_nonneg) most_recip
  have hsub : (Finset.univ.filter fun k : Fin 254 => two ((k.val : ℤ) - 126) ≤ a * recip) ⊆ Finset.univ.filter fun k : Fin 254 => k.val < 246 := by
    intro k hk
    simp only [Finset.mem_filter, Finset.mem_univ, true_and] at hk ⊢
    by_contra hc
    exact absurd (lt_of_le_of_lt ((two_le (by omega)).trans hk) hlt) (lt_irrefl _)
  exact (Finset.card_le_card hsub).trans (by decide +kernel)

/-- The largest magnitude of a block of finite inputs is finite. -/
theorem amax_le {t : Fin 128 → Fin 128 → EReal} (h : ∀ r d, max (t r d) (-(t r d)) ≤ most) : amax t ≤ most :=
  Finset.sup_le fun p _ => h p.1 p.2

/-- The exponent word of a count. -/
def qsel (w : BitVec 32) : BitVec 32 := Scalar.select (IntOp.cmpi .eq w 0#32) 0#32 (IntOp.subi w 126#32)

/-- The word of the inverse scale of a count. -/
theorem qword_inv : ∀ k : Fin 247, IntOp.shli ArithUnit.vector (IntOp.addi (IntOp.subi 0#32 (qsel (BitVec.ofNat 32 k.val))) 127#32) 23#32 = BitVec.ofNat 32 ((if k.val = 0 then 127 else 253 - k.val) * 2 ^ 23) := by
  decide

/-- The word of the scale of a count. -/
theorem qword_scale : ∀ k : Fin 247, IntOp.shli ArithUnit.vector (IntOp.addi (qsel (BitVec.ofNat 32 k.val)) 127#32) 23#32 = BitVec.ofNat 32 ((if k.val = 0 then 127 else k.val + 1) * 2 ^ 23) := by
  decide

/-- The integer of the exponent chosen from a count. -/
theorem qword_int : ∀ k : Fin 247, (qsel (BitVec.ofNat 32 k.val)).toInt = if k.val = 0 then 0 else (k.val : ℤ) - 126 := by
  decide

/-- The inverse scale. -/
theorem qinv_word (A : EReal) (h : A ≤ most) : Ideal.ofBits .f32 (IntOp.shli ArithUnit.vector (IntOp.addi (IntOp.subi 0#32 (qsel (BitVec.ofNat 32 (cnt A)))) 127#32) 23#32) = two (-ex A) := by
  have hc := cnt_le_most h
  rw [qword_inv ⟨cnt A, by omega⟩, ofBits_two _ (by split_ifs <;> omega) (by split_ifs <;> omega)]
  unfold ex
  congr 1
  dsimp only
  split_ifs <;> omega

/-- The scale. -/
theorem qscale_word (A : EReal) (h : A ≤ most) : Ideal.ofBits .f32 (IntOp.shli ArithUnit.vector (IntOp.addi (qsel (BitVec.ofNat 32 (cnt A))) 127#32) 23#32) = two (ex A) := by
  have hc := cnt_le_most h
  rw [qword_scale ⟨cnt A, by omega⟩, ofBits_two _ (by split_ifs <;> omega) (by split_ifs <;> omega)]
  unfold ex
  congr 1
  dsimp only
  split_ifs <;> omega

/-- The exponent as an integer. -/
theorem qex_word (A : EReal) (h : A ≤ most) : (qsel (BitVec.ofNat 32 (cnt A))).toInt = ex A := by
  have hc := cnt_le_most h
  refine (qword_int ⟨cnt A, by omega⟩).trans ?_
  unfold ex
  rfl

/-- Two to an integer, by the binary exponential. -/
theorem exp2_int (e : ℤ) : Ideal.exp2 (((e : ℤ) : ℝ) : EReal) = two e := by
  show ((Real.rpow 2 ((e : ℤ) : ℝ) : ℝ) : EReal) = (((2 : ℝ) ^ e : ℝ) : EReal)
  exact congrArg _ (Real.rpow_intCast 2 e)

end Cert.Spec
end
-- ==== Proof.QuantHead.lean ====
module

public import proofs.«01_k».proof.Proof.Gen.QuantKIdeal.Skeleton
public import proofs.«01_k».proof.Proof.QuantSpec
public import Idealize.ShloMosaic.Lib.Pipeline.ValueKit
public import Idealize.ShloMosaic.Lib.Pointwise
public import Idealize.ShloMosaic.Lib.IndicatorCount

/-!
What a quantise body computes of one head's columns: the exponent, the codes and the scale of each of its eight blocks.
-/

@[expose] public section

set_option maxRecDepth 16384

noncomputable section

open Idealize.ShloMosaic Idealize.ShloMosaic.TcCoe Idealize.SL.Sem

namespace Cert.QuantKIdeal.Value

open Cert.QuantKIdeal Cert.QuantKIdeal.Gen Cert.Spec

/-- The word of minus infinity. -/
theorem negInf : Ideal.ofBits .f32 4286578688#32 = ⊥ := by
  simp [Ideal.ofBits, Ideal.ieee]

variable (v : Vec Ideal S1x1024x128 .bf16) (j : Fin 8) (r d : Fin 128)

/-- One block of a head's columns. -/
def hb : Fin 128 → Fin 128 → EReal := fun r d => v (ix3 0 ⟨j.val * 128 + r.val, by omega⟩ d)

/-- The word of the power of two at a position of the table. -/
theorem word_table : ∀ k : Fin 254, IntOp.shli ArithUnit.vector (IntOp.addi (IntOp.subi (BitVec.ofNat 32 k.val) 126#32) 127#32) 23#32 = BitVec.ofNat 32 ((k.val + 1) * 2 ^ 23) := by
  decide

/-- Counting the powers of two of the table that a value reaches. -/
theorem count_at (A : EReal) : Finset.fold IntOp.addi (0#32)
      (fun x : Fin 254 =>
        BitVec.setWidth 32
          (BitVec.ofBool
            (decide
              (Ideal.ofBits FTy.f32
                  (IntOp.shli ArithUnit.vector (IntOp.addi (IntOp.subi (BitVec.ofNat 32 x.val) 126#32) 127#32) 23#32) ≤
                A * Ideal.ofBits FTy.f32 991054117#32))))
      Finset.univ = BitVec.ofNat 32 (cnt A) := by
  rw [IndicatorCount.fold_addi_setWidth_eq_card]
  unfold cnt
  congr 2
  apply Finset.filter_congr
  intro k _
  rw [word_table, ofBits_two _ (by omega) (by omega)]
  have e : (((k.val + 1 : ℕ) : ℤ) - 127) = (k.val : ℤ) - 126 := by push_cast; ring
  rw [e]
  by_cases hk : two ((k.val : ℤ) - 126) ≤ A * Ideal.ofBits FTy.f32 991054117#32
  · simp only [hk, recip]; decide
  · simp only [hk, recip]; decide

/-- The exponent word of a block. -/
theorem pay4_at : k0_pay4 (F := Ideal) v (ix3 j 0 0) = qsel (BitVec.ofNat 32 (cnt (amax (hb v j)))) := by
  unfold qsel
  rw [← count_at]
  pointwise [k0_pay4, k0_pay3]
  rw [negInf]
  rfl

variable (hf : amax (hb v j) ≤ most)
include hf

/-- The codes of one head. -/
def codes : FVec Ideal S8x128x128 .f32 :=
  minimumf (broadcast S8x128x128 (Scalar.ofBits (F := Ideal) .f32 0x43E00000#32)) (maximumf (k0_pay6 (F := Ideal)) (k0_pay5 v))

/-- A code. -/
theorem codes_at : codes v (ix3 j r d) = qcode (amax (hb v j)) (hb v j r d) := by
  unfold qcode
  rw [← qinv_word _ hf, ← pay4_at]
  generalize hX : k0_pay4 (F := Ideal) v = X
  pointwise [codes, k0_pay5, k0_pay6, k0_pay3]
  rw [hX]
  rfl

/-- The codes of one head as the rows that are stored. -/
def rows (v : Vec Ideal S1x1024x128 .bf16) : FVec Ideal S1x1024x128 .fp8e4m3 :=
  k0_pay8 (F := Ideal) (k0_pay5 v) (Scalar.ofBits (F := Ideal) .f32 0x43E00000#32) k0_pay6

/-- A stored code. -/
theorem rows_at : rows v (ix3 0 ⟨j.val * 128 + r.val, by omega⟩ d) = qcode (amax (hb v j)) (hb v j r d) := by
  rw [← codes_at v j r d hf]
  unfold codes rows
  generalize k0_pay5 (F := Ideal) v = X
  pointwise [k0_pay8, k0_pay7]

/-- The codes of one head as the rows that are stored on their own. -/
def rows4 (v : Vec Ideal S1x1024x128 .bf16) : FVec Ideal S1x1x1024x128 .fp8e4m3 :=
  k0_pay10 (F := Ideal) (k0_pay5 v) (Scalar.ofBits (F := Ideal) .f32 0x43E00000#32) k0_pay6

/-- A code stored on its own. -/
theorem rows4_at : rows4 v (ix4 0 0 ⟨j.val * 128 + r.val, by omega⟩ d) = qcode (amax (hb v j)) (hb v j r d) := by
  rw [← codes_at v j r d hf]
  unfold codes rows4
  generalize k0_pay5 (F := Ideal) v = X
  pointwise [k0_pay10, k0_pay7]

/-- The scales of one head, as a column. -/
def scales (v : Vec Ideal S1x1024x128 .bf16) : FVec Ideal S8x1x1 .f32 :=
  bitcastToFloat .f32 (shli (addi (k0_pay4 (F := Ideal) v) (broadcast S8x1x1 127#32)) (broadcast S8x1x1 23#32))

/-- A scale. -/
theorem scales_at : scales v (ix3 j 0 0) = two (ex (amax (hb v j))) := by
  rw [← qscale_word _ hf, ← pay4_at]
  generalize hX : k0_pay4 (F := Ideal) v = X
  pointwise [scales]
  rw [hX]

end Cert.QuantKIdeal.Value
end
-- ==== Proof.QuantXRefRun.lean ====
module

public import proofs.«01_k».proof.Proof.Gen.QuantXReferenceIdeal.Frame
public import Idealize.ShloMosaic.Lib.Pipeline.Value

/-!
The run of the reference quantiser: each output array ends as one function of the argument.
-/

@[expose] public section

noncomputable section

namespace Cert.QuantXReferenceIdeal.ValueRun

open Cert.QuantXReferenceIdeal Cert.QuantXReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S2x32768x2048.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2x256x16.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_arg0) = m ((c : Thread nD τ).loc main_arg0) :=
  (θ_run defs _ _).mono (fun r h c => ⟨post1 m r h c,
      post2 m r h c,
      kept_main_arg0 m r h c⟩)
    (run_main m ρ)

/-! ## Closed form at one grid point: every window's block is its array -/

/-- The offsets of a whole array are all zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x32768x2048.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 32768 + 1 * (j 1).val = (j 1).val; omega
  | ⟨2, _⟩ => show win0_0.index t (2 : Fin 3) * 2048 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of a whole array are all zero. -/
theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x32768x2048.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 32768 + 1 * (j 1).val = (j 1).val; omega
  | ⟨2, _⟩ => show win0_1.index t (2 : Fin 3) * 2048 + 1 * (j 2).val = (j 2).val; omega

/-- The offsets of a whole array are all zero. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x256x16.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 256 + 1 * (j 1).val = (j 1).val; omega
  | ⟨2, _⟩ => show win0_2.index t (2 : Fin 3) * 16 + 1 * (j 2).val = (j 2).val; omega

/-! ### Output window 1: the array after the run -/

/-- What the window's array ends holding: `out0_1` applied to the argument arrays in place of the input blocks (a value that the
    frame states apart, `kK_payN a…`, keeps its loads inside its own definition). -/
abbrev G1 (a0 : Vec F S2x32768x2048 .bf16) : Vec F S2x32768x2048 .fp8e4m3 :=
  k0_pay4 a0

/-- A load of the whole of a block reads the block, and the one store through the whole rectangle leaves its payload. -/
theorem out1_eq (a0 : Vec F S2x32768x2048 .bf16) : out0_1 (F := F) a0 = G1 a0 := by
  unfold out0_1
  rw [View.canon_unit_zero hz1, View.ld_unit_zero (S := S2x32768x2048) hz0 _ a0]

/-- Cutting the point's block out of `X` and reading `X` through the block's view give the same. -/
theorem cut1_eq (t : Fin cfg0.N) (X : Vec F S2x32768x2048 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S2x32768x2048.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S2x32768x2048 .bf16) : Vec F S2x256x16 .f32 :=
  k0_pay3 a0

/-- A load of the whole of a block reads the block, and the one store through the whole rectangle leaves its payload. -/
theorem out2_eq (a0 : Vec F S2x32768x2048 .bf16) : out0_2 (F := F) a0 = G2 a0 := by
  unfold out0_2
  rw [View.canon_unit_zero hz2, View.ld_unit_zero (S := S2x32768x2048) hz0 _ a0]

/-- Cutting the point's block out of `X` and reading `X` through the block's view give the same. -/
theorem cut2_eq (t : Fin cfg0.N) (X : Vec F S2x256x16 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S2x256x16.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      kept_main_arg0 m r h c⟩)
    (run_main m ρ)

end Cert.QuantXReferenceIdeal.ValueRun

end
-- ==== Proof.QuantXRef.lean ====
module

public import proofs.«01_k».proof.Proof.QuantXRefRun
public import proofs.«01_k».proof.Proof.QuantSpec
public import Idealize.ShloMosaic.Lib.Pipeline.ValueKit
public import Idealize.ShloMosaic.Lib.Pointwise
public import Idealize.ShloMosaic.Lib.IndicatorCount

/-!
The reference quantiser's values, read at one index.
-/

@[expose] public section

set_option maxRecDepth 16384
set_option maxHeartbeats 1000000

noncomputable section

open Idealize.ShloMosaic Idealize.ShloMosaic.TcCoe Idealize.SL.Sem

namespace Cert.QuantXReferenceIdeal.ValueAt

open Cert.QuantXReferenceIdeal Cert.QuantXReferenceIdeal.Gen Cert.QuantXReferenceIdeal.ValueRun Cert.Spec

/-- The word of minus infinity. -/
theorem negInf : Ideal.ofBits .f32 4286578688#32 = ⊥ := by
  simp [Ideal.ofBits, Ideal.ieee]

/-- The integer of a word of the table of exponents. -/
theorem word_int : ∀ k : Fin 254, (IntOp.addi 4294967170#32 (BitVec.ofNat 32 k.val)).toInt = (k.val : ℤ) - 126 := by
  decide

variable (x : FVec Ideal S2x32768x2048 .bf16) (b : Fin 2) (j : Fin 256) (h : Fin 16) (r d : Fin 128)

/-- One block of one head. -/
def blk : Fin 128 → Fin 128 → EReal := fun r d => x (ix3 b ⟨j.val * 128 + r.val, by omega⟩ ⟨h.val * 128 + d.val, by omega⟩)

/-- The largest magnitude of a block, as the maximum over its rows of the maximum of a row. -/
theorem amax_rows (t : Fin 128 → Fin 128 → EReal) :
    (Finset.univ.sup fun r : Fin 128 => Finset.univ.sup fun d : Fin 128 => max (t r d) (-(t r d))) = amax t := by
  unfold amax
  rw [← Finset.univ_product_univ, Finset.sup_product_left]

/-- The exponent of a block. -/
theorem pay2_at (hf : amax (blk x b j h) ≤ most) : k0_pay2 (F := Ideal) x (ix3 b j h) = (((ex (amax (blk x b j h)) : ℤ) : ℝ) : EReal) := by
  rw [← qex_word _ hf]
  have hc : (Finset.univ.fold IntOp.addi 0#32 fun k : Fin 254 => BitVec.setWidth 32 (BitVec.ofBool (decide
      (Ideal.exp2 ((((IntOp.addi 4294967170#32 (BitVec.ofNat 32 k.val)).toInt : ℤ) : ℝ) : EReal) ≤ amax (blk x b j h) * Ideal.ofBits .f32 991054117#32)))) = BitVec.ofNat 32 (cnt (amax (blk x b j h))) := by
    rw [IndicatorCount.fold_addi_setWidth_eq_card]
    unfold cnt
    congr 2
    apply Finset.filter_congr
    intro k _
    rw [exp2_int, word_int]
    by_cases hk : two ((k.val : ℤ) - 126) ≤ amax (blk x b j h) * Ideal.ofBits FTy.f32 991054117#32
    · simp only [hk, recip]; decide
    · simp only [hk, recip]; decide
  have he : (Finset.univ.fold max (⊥ : EReal) fun r : Fin 128 => Finset.univ.fold max (⊥ : EReal) fun d : Fin 128 =>
      (FloatOps.absf (F := Ideal) (φ := .f32) (x (ix3 b ⟨j.val * 128 + r.val, by omega⟩ ⟨h.val * 128 + d.val, by omega⟩)) : EReal)) = amax (blk x b j h) :=
    amax_rows (blk x b j h)
  have hs : ∀ w : BitVec 32, (FloatOps.sitofp (F := Ideal) .f32 w : EReal) = (((w.toInt : ℤ) : ℝ) : EReal) := fun _ => rfl
  have hx : ∀ y : EReal, FloatOps.exp2 (F := Ideal) (φ := .f32) y = Ideal.exp2 y := fun _ => rfl
  pointwise [k0_pay2, k0_pay1]
  simp only [negInf]
  simp only [he, hs, hx]
  simp only [hc]
  rfl

/-- A scale. -/
theorem G2_at (hf : amax (blk x b j h) ≤ most) : G2 (F := Ideal) x (ix3 b j h) = two (ex (amax (blk x b j h))) := by
  rw [← exp2_int, ← pay2_at x b j h hf]
  generalize hX : k0_pay2 (F := Ideal) x = X
  pointwise [k0_pay3]
  rw [hX]
  rfl

/-- A code. -/
theorem G1_at (hf : amax (blk x b j h) ≤ most) : G1 (F := Ideal) x (ix3 b ⟨j.val * 128 + r.val, by omega⟩ ⟨h.val * 128 + d.val, by omega⟩)
    = qcode (amax (blk x b j h)) (blk x b j h r d) := by
  unfold qcode
  rw [← exp2_int, Int.cast_neg, EReal.coe_neg, ← pay2_at x b j h hf]
  generalize hX : k0_pay2 (F := Ideal) x = X
  pointwise [k0_pay4, k0_pay1]
  rw [hX, zero_sub]
  rfl

end Cert.QuantXReferenceIdeal.ValueAt
end
-- ==== Proof.QuantXKer.lean ====
module

public import proofs.«01_k».proof.Proof.Gen.QuantXIdeal.Value
public import proofs.«01_k».proof.Proof.QuantHead
public import proofs.«01_k».proof.Proof.QuantXRef
public import Idealize.ShloMosaic.Lib.Pipeline.ValueKit
public import Idealize.ShloMosaic.Lib.Pointwise

/-!
The quantise kernel's result arrays: the codes and the scales the reference computes.
-/

@[expose] public section

set_option maxRecDepth 16384

noncomputable section

open Idealize.ShloMosaic Idealize.ShloMosaic.TcCoe Idealize.SL.Sem
open Idealize.ShloMosaic.Pipeline (Dat Cfg Window)

namespace Cert.QuantXIdeal.ValueArray

open Cert.QuantXIdeal Cert.QuantXIdeal.Gen Cert.Spec
open Cert.QuantKIdeal.Value (hb codes codes_at rows rows_at scales scales_at)

variable (x0 : Vec Ideal S1x1024x2048 .bf16)

/-- One block of one head of a tile. -/
def cell (j : Fin 8) (h : Fin 16) : Fin 128 → Fin 128 → EReal :=
  fun r d => x0 (ix3 0 ⟨j.val * 128 + r.val, by omega⟩ ⟨h.val * 128 + d.val, by omega⟩)

/-- The codes of a tile. -/
def E1 : Vec Ideal S1x1024x2048 .fp8e4m3 := fun y =>
  qcode (amax (cell x0 ⟨(y 1).val / 128, Nat.div_lt_of_lt_mul (y 1).isLt⟩ ⟨(y 2).val / 128, Nat.div_lt_of_lt_mul (y 2).isLt⟩)) (x0 y)

/-- A code of a tile, by its block, head, row and channel. -/
theorem E1_at (j : Fin 8) (h : Fin 16) (r d : Fin 128) : E1 x0 (ix3 0 ⟨j.val * 128 + r.val, by omega⟩ ⟨h.val * 128 + d.val, by omega⟩)
    = qcode (amax (cell x0 j h)) (cell x0 j h r d) := by
  have ej : (⟨(j.val * 128 + r.val) / 128, by omega⟩ : Fin 8) = j := Fin.ext (by show (j.val * 128 + r.val) / 128 = j.val; omega)
  have eh : (⟨(h.val * 128 + d.val) / 128, by omega⟩ : Fin 16) = h := Fin.ext (by show (h.val * 128 + d.val) / 128 = h.val; omega)
  show qcode (amax (cell x0 ⟨(j.val * 128 + r.val) / 128, by omega⟩ ⟨(h.val * 128 + d.val) / 128, by omega⟩)) _ = _
  rw [ej, eh]
  rfl

/-- An index of a head's columns, by its block, row and channel. -/
theorem split (x : S1x1024x128.Idx) : ∃ (j : Fin 8) (r d : Fin 128), x = ix3 0 ⟨j.val * 128 + r.val, by omega⟩ d :=
  ⟨⟨(x 1).val / 128, Nat.div_lt_of_lt_mul (x 1).isLt⟩, ⟨(x 1).val % 128, Nat.mod_lt _ (by norm_num)⟩, x 2, by
    funext a
    fin_cases a
    · exact Subsingleton.elim (α := Fin 1) _ _
    · exact Fin.ext (by show (x 1).val = (x 1).val / 128 * 128 + (x 1).val % 128; omega)
    · rfl⟩

/-- The block of a head's columns is the tile's block of that head. -/
theorem hb_eq (h : Fin 16) (v : Vec Ideal S1x1024x128 .bf16)
    (hv : ∀ (n : Fin 1024) (d : Fin 128), v (ix3 0 n d) = x0 (ix3 0 n ⟨h.val * 128 + d.val, by omega⟩)) (j : Fin 8) : hb v j = cell x0 j h :=
  funext fun r => funext fun d => hv _ _

/-- The columns of head 0. -/
theorem ld0 (n : Fin 1024) (d : Fin 128) : View.ld x0 r0_0 (ix3 0 n d) = x0 (ix3 0 n ⟨(0 : Fin 16).val * 128 + d.val, by show 0 * 128 + d.val < 2048; omega⟩) :=
  congrArg x0 (funext fun a => Fin.ext (by
    fin_cases a
    · show 0 + 0 * 1 = 0; rfl
    · show 0 + 1 * n.val = n.val; omega
    · show 0 + 1 * d.val = 0 * 128 + d.val; omega))

/-- The columns of head 1. -/
theorem ld1 (n : Fin 1024) (d : Fin 128) : View.ld x0 r0_1 (ix3 0 n d) = x0 (ix3 0 n ⟨(1 : Fin 16).val * 128 + d.val, by show 1 * 128 + d.val < 2048; omega⟩) :=
  congrArg x0 (funext fun a => Fin.ext (by
    fin_cases a
    · show 0 + 0 * 1 = 0; rfl
    · show 0 + 1 * n.val = n.val; omega
    · show 128 + 1 * d.val = 1 * 128 + d.val; omega))

/-- The columns of head 2. -/
theorem ld2 (n : Fin 1024) (d : Fin 128) : View.ld x0 r0_2 (ix3 0 n d) = x0 (ix3 0 n ⟨(2 : Fin 16).val * 128 + d.val, by show 2 * 128 + d.val < 2048; omega⟩) :=
  congrArg x0 (funext fun a => Fin.ext (by
    fin_cases a
    · show 0 + 0 * 1 = 0; rfl
    · show 0 + 1 * n.val = n.val; omega
    · show 256 + 1 * d.val = 2 * 128 + d.val; omega))

/-- The columns of head 3. -/
theorem ld3 (n : Fin 1024) (d : Fin 128) : View.ld x0 r0_3 (ix3 0 n d) = x0 (ix3 0 n ⟨(3 : Fin 16).val * 128 + d.val, by show 3 * 128 + d.val < 2048; omega⟩) :=
  congrArg x0 (funext fun a => Fin.ext (by
    fin_cases a
    · show 0 + 0 * 1 = 0; rfl
    · show 0 + 1 * n.val = n.val; omega
    · show 384 + 1 * d.val = 3 * 128 + d.val; omega))

/-- The columns of head 4. -/
theorem ld4 (n : Fin 1024) (d : Fin 128) : View.ld x0 r0_4 (ix3 0 n d) = x0 (ix3 0 n ⟨(4 : Fin 16).val * 128 + d.val, by show 4 * 128 + d.val < 2048; omega⟩) :=
  congrArg x0 (funext fun a => Fin.ext (by
    fin_cases a
    · show 0 + 0 * 1 = 0; rfl
    · show 0 + 1 * n.val = n.val; omega
    · show 512 + 1 * d.val = 4 * 128 + d.val; omega))

/-- The columns of head 5. -/
theorem ld5 (n : Fin 1024) (d : Fin 128) : View.ld x0 r0_5 (ix3 0 n d) = x0 (ix3 0 n ⟨(5 : Fin 16).val * 128 + d.val, by show 5 * 128 + d.val < 2048; omega⟩) :=
  congrArg x0 (funext fun a => Fin.ext (by
    fin_cases a
    · show 0 + 0 * 1 = 0; rfl
    · show 0 + 1 * n.val = n.val; omega
    · show 640 + 1 * d.val = 5 * 128 + d.val; omega))

/-- The columns of head 6. -/
theorem ld6 (n : Fin 1024) (d : Fin 128) : View.ld x0 r0_6 (ix3 0 n d) = x0 (ix3 0 n ⟨(6 : Fin 16).val * 128 + d.val, by show 6 * 128 + d.val < 2048; omega⟩) :=
  congrArg x0 (funext fun a => Fin.ext (by
    fin_cases a
    · show 0 + 0 * 1 = 0; rfl
    · show 0 + 1 * n.val = n.val; omega
    · show 768 + 1 * d.val = 6 * 128 + d.val; omega))

/-- The columns of head 7. -/
theorem ld7 (n : Fin 1024) (d : Fin 128) : View.ld x0 r0_7 (ix3 0 n d) = x0 (ix3 0 n ⟨(7 : Fin 16).val * 128 + d.val, by show 7 * 128 + d.val < 2048; omega⟩) :=
  congrArg x0 (funext fun a => Fin.ext (by
    fin_cases a
    · show 0 + 0 * 1 = 0; rfl
    · show 0 + 1 * n.val = n.val; omega
    · show 896 + 1 * d.val = 7 * 128 + d.val; omega))

/-- The columns of head 8. -/
theorem ld8 (n : Fin 1024) (d : Fin 128) : View.ld x0 r0_8 (ix3 0 n d) = x0 (ix3 0 n ⟨(8 : Fin 16).val * 128 + d.val, by show 8 * 128 + d.val < 2048; omega⟩) :=
  congrArg x0 (funext fun a => Fin.ext (by
    fin_cases a
    · show 0 + 0 * 1 = 0; rfl
    · show 0 + 1 * n.val = n.val; omega
    · show 1024 + 1 * d.val = 8 * 128 + d.val; omega))

/-- The columns of head 9. -/
theorem ld9 (n : Fin 1024) (d : Fin 128) : View.ld x0 r0_9 (ix3 0 n d) = x0 (ix3 0 n ⟨(9 : Fin 16).val * 128 + d.val, by show 9 * 128 + d.val < 2048; omega⟩) :=
  congrArg x0 (funext fun a => Fin.ext (by
    fin_cases a
    · show 0 + 0 * 1 = 0; rfl
    · show 0 + 1 * n.val = n.val; omega
    · show 1152 + 1 * d.val = 9 * 128 + d.val; omega))

/-- The columns of head 10. -/
theorem ld10 (n : Fin 1024) (d : Fin 128) : View.ld x0 r0_10 (ix3 0 n d) = x0 (ix3 0 n ⟨(10 : Fin 16).val * 128 + d.val, by show 10 * 128 + d.val < 2048; omega⟩) :=
  congrArg x0 (funext fun a => Fin.ext (by
    fin_cases a
    · show 0 + 0 * 1 = 0; rfl
    · show 0 + 1 * n.val = n.val; omega
    · show 1280 + 1 * d.val = 10 * 128 + d.val; omega))

/-- The columns of head 11. -/
theorem ld11 (n : Fin 1024) (d : Fin 128) : View.ld x0 r0_11 (ix3 0 n d) = x0 (ix3 0 n ⟨(11 : Fin 16).val * 128 + d.val, by show 11 * 128 + d.val < 2048; omega⟩) :=
  congrArg x0 (funext fun a => Fin.ext (by
    fin_cases a
    · show 0 + 0 * 1 = 0; rfl
    · show 0 + 1 * n.val = n.val; omega
    · show 1408 + 1 * d.val = 11 * 128 + d.val; omega))

/-- The columns of head 12. -/
theorem ld12 (n : Fin 1024) (d : Fin 128) : View.ld x0 r0_12 (ix3 0 n d) = x0 (ix3 0 n ⟨(12 : Fin 16).val * 128 + d.val, by show 12 * 128 + d.val < 2048; omega⟩) :=
  congrArg x0 (funext fun a => Fin.ext (by
    fin_cases a
    · show 0 + 0 * 1 = 0; rfl
    · show 0 + 1 * n.val = n.val; omega
    · show 1536 + 1 * d.val = 12 * 128 + d.val; omega))

/-- The columns of head 13. -/
theorem ld13 (n : Fin 1024) (d : Fin 128) : View.ld x0 r0_13 (ix3 0 n d) = x0 (ix3 0 n ⟨(13 : Fin 16).val * 128 + d.val, by show 13 * 128 + d.val < 2048; omega⟩) :=
  congrArg x0 (funext fun a => Fin.ext (by
    fin_cases a
    · show 0 + 0 * 1 = 0; rfl
    · show 0 + 1 * n.val = n.val; omega
    · show 1664 + 1 * d.val = 13 * 128 + d.val; omega))

/-- The columns of head 14. -/
theorem ld14 (n : Fin 1024) (d : Fin 128) : View.ld x0 r0_14 (ix3 0 n d) = x0 (ix3 0 n ⟨(14 : Fin 16).val * 128 + d.val, by show 14 * 128 + d.val < 2048; omega⟩) :=
  congrArg x0 (funext fun a => Fin.ext (by
    fin_cases a
    · show 0 + 0 * 1 = 0; rfl
    · show 0 + 1 * n.val = n.val; omega
    · show 1792 + 1 * d.val = 14 * 128 + d.val; omega))

/-- The columns of head 15. -/
theorem ld15 (n : Fin 1024) (d : Fin 128) : View.ld x0 r0_15 (ix3 0 n d) = x0 (ix3 0 n ⟨(15 : Fin 16).val * 128 + d.val, by show 15 * 128 + d.val < 2048; omega⟩) :=
  congrArg x0 (funext fun a => Fin.ext (by
    fin_cases a
    · show 0 + 0 * 1 = 0; rfl
    · show 0 + 1 * n.val = n.val; omega
    · show 1920 + 1 * d.val = 15 * 128 + d.val; omega))

/-- The codes stored of head 0 are the one head's function of its columns. -/
theorem same0 : k0_pay7 (k0_pay5 (View.ld x0 r0_0)) (Scalar.ofBits (F := Ideal) .f32 0x43E00000#32) (k0_pay6 (F := Ideal)) = rows (View.ld x0 r0_0) := rfl

/-- The codes stored of head 1 are the one head's function of its columns. -/
theorem same1 : k0_pay13 (k0_pay9 (View.ld x0 r0_1)) (k0_pay91 x0) (k0_pay92 x0) = rows (View.ld x0 r0_1) := rfl

/-- The codes stored of head 2 are the one head's function of its columns. -/
theorem same2 : k0_pay19 (k0_pay15 (View.ld x0 r0_2)) (k0_pay93 x0) (k0_pay94 x0) = rows (View.ld x0 r0_2) := rfl

/-- The codes stored of head 3 are the one head's function of its columns. -/
theorem same3 : k0_pay26 (k0_pay25 (View.ld x0 r0_3)) = rows (View.ld x0 r0_3) := rfl

/-- The codes stored of head 4 are the one head's function of its columns. -/
theorem same4 : k0_pay31 (k0_pay28 (View.ld x0 r0_4)) (k0_pay95 x0) = rows (View.ld x0 r0_4) := rfl

/-- The codes stored of head 5 are the one head's function of its columns. -/
theorem same5 : k0_pay36 (k0_pay33 (View.ld x0 r0_5)) (k0_pay96 x0) = rows (View.ld x0 r0_5) := rfl

/-- The codes stored of head 6 are the one head's function of its columns. -/
theorem same6 : k0_pay42 (k0_pay39 (View.ld x0 r0_6)) (k0_pay41 (View.ld x0 r0_6)) = rows (View.ld x0 r0_6) := rfl

/-- The codes stored of head 7 are the one head's function of its columns. -/
theorem same7 : k0_pay47 (k0_pay44 (View.ld x0 r0_7)) (k0_pay97 x0) = rows (View.ld x0 r0_7) := rfl

/-- The codes stored of head 8 are the one head's function of its columns. -/
theorem same8 : k0_pay51 (k0_pay98 x0) = rows (View.ld x0 r0_8) := rfl

/-- The codes stored of head 9 are the one head's function of its columns. -/
theorem same9 : k0_pay56 (k0_pay53 (View.ld x0 r0_9)) (k0_pay55 (View.ld x0 r0_9)) = rows (View.ld x0 r0_9) := rfl

/-- The codes stored of head 10 are the one head's function of its columns. -/
theorem same10 : k0_pay62 (k0_pay58 (View.ld x0 r0_10)) (k0_pay99 x0) (k0_pay100 x0) = rows (View.ld x0 r0_10) := rfl

/-- The codes stored of head 11 are the one head's function of its columns. -/
theorem same11 : k0_pay67 (k0_pay66 (View.ld x0 r0_11)) = rows (View.ld x0 r0_11) := rfl

/-- The codes stored of head 12 are the one head's function of its columns. -/
theorem same12 : k0_pay72 (k0_pay69 (View.ld x0 r0_12)) (k0_pay71 (View.ld x0 r0_12)) = rows (View.ld x0 r0_12) := rfl

/-- The codes stored of head 13 are the one head's function of its columns. -/
theorem same13 : k0_pay78 (k0_pay74 (View.ld x0 r0_13)) (k0_pay101 x0) (k0_pay102 x0) 23#32 = rows (View.ld x0 r0_13) := rfl

/-- The codes stored of head 14 are the one head's function of its columns. -/
theorem same14 : k0_pay83 (k0_pay82 (View.ld x0 r0_14)) = rows (View.ld x0 r0_14) := rfl

/-- The codes stored of head 15 are the one head's function of its columns. -/
theorem same15 : k0_pay87 (k0_pay85 (View.ld x0 r0_15)) (k0_pay103 x0) = rows (View.ld x0 r0_15) := rfl

variable (hf : ∀ (j : Fin 8) (h : Fin 16), amax (cell x0 j h) ≤ most)
include hf

/-- A stored head of codes is the tile's codes at its place. -/
theorem piece1 (h : Fin 16) (v : Vec Ideal S1x1024x128 .bf16)
    (hv : ∀ (n : Fin 1024) (d : Fin 128), v (ix3 0 n d) = x0 (ix3 0 n ⟨h.val * 128 + d.val, by omega⟩)) (x : S1x1024x128.Idx) (y : S1x1024x2048.Idx)
    (hy : ∀ (n : Fin 1024) (d : Fin 128), x = ix3 0 n d → y = ix3 0 n ⟨h.val * 128 + d.val, by omega⟩) : rows v x = E1 x0 y := by
  obtain ⟨j, r, d, rfl⟩ := split x
  rw [hy _ _ rfl, E1_at, rows_at v j r d (by rw [hb_eq x0 h v hv]; exact hf j h), hb_eq x0 h v hv]

/-- The body's codes. -/
theorem out1_eq : out0_1 (F := Ideal) x0 = E1 x0 := by
  funext y
  unfold out0_1
  refine View.canon_apply_of_pieces (E1 x0) _ ?_ y (cover0_1 _ _ _ _ _ _ _ _ _ _ _ _ _ _ _ _ y)
  intro pc hpc
  rcases List.mem_cons.mp hpc with rfl | hpc
  · intro x
    refine (congrFun (same15 x0) x).trans (piece1 x0 hf 15 _ (ld15 x0) x _ ?_)
    rintro n d rfl
    exact funext fun a => Fin.ext (by
      fin_cases a
      · show 0 + 0 * 1 = 0; rfl
      · show 0 + 1 * n.val = n.val; omega
      · show 1920 + 1 * d.val = 15 * 128 + d.val; omega)
  rcases List.mem_cons.mp hpc with rfl | hpc
  · intro x
    refine (congrFun (same14 x0) x).trans (piece1 x0 hf 14 _ (ld14 x0) x _ ?_)
    rintro n d rfl
    exact funext fun a => Fin.ext (by
      fin_cases a
      · show 0 + 0 * 1 = 0; rfl
      · show 0 + 1 * n.val = n.val; omega
      · show 1792 + 1 * d.val = 14 * 128 + d.val; omega)
  rcases List.mem_cons.mp hpc with rfl | hpc
  · intro x
    refine (congrFun (same13 x0) x).trans (piece1 x0 hf 13 _ (ld13 x0) x _ ?_)
    rintro n d rfl
    exact funext fun a => Fin.ext (by
      fin_cases a
      · show 0 + 0 * 1 = 0; rfl
      · show 0 + 1 * n.val = n.val; omega
      · show 1664 + 1 * d.val = 13 * 128 + d.val; omega)
  rcases List.mem_cons.mp hpc with rfl | hpc
  · intro x
    refine (congrFun (same12 x0) x).trans (piece1 x0 hf 12 _ (ld12 x0) x _ ?_)
    rintro n d rfl
    exact funext fun a => Fin.ext (by
      fin_cases a
      · show 0 + 0 * 1 = 0; rfl
      · show 0 + 1 * n.val = n.val; omega
      · show 1536 + 1 * d.val = 12 * 128 + d.val; omega)
  rcases List.mem_cons.mp hpc with rfl | hpc
  · intro x
    refine (congrFun (same11 x0) x).trans (piece1 x0 hf 11 _ (ld11 x0) x _ ?_)
    rintro n d rfl
    exact funext fun a => Fin.ext (by
      fin_cases a
      · show 0 + 0 * 1 = 0; rfl
      · show 0 + 1 * n.val = n.val; omega
      · show 1408 + 1 * d.val = 11 * 128 + d.val; omega)
  rcases List.mem_cons.mp hpc with rfl | hpc
  · intro x
    refine (congrFun (same10 x0) x).trans (piece1 x0 hf 10 _ (ld10 x0) x _ ?_)
    rintro n d rfl
    exact funext fun a => Fin.ext (by
      fin_cases a
      · show 0 + 0 * 1 = 0; rfl
      · show 0 + 1 * n.val = n.val; omega
      · show 1280 + 1 * d.val = 10 * 128 + d.val; omega)
  rcases List.mem_cons.mp hpc with rfl | hpc
  · intro x
    refine (congrFun (same9 x0) x).trans (piece1 x0 hf 9 _ (ld9 x0) x _ ?_)
    rintro n d rfl
    exact funext fun a => Fin.ext (by
      fin_cases a
      · show 0 + 0 * 1 = 0; rfl
      · show 0 + 1 * n.val = n.val; omega
      · show 1152 + 1 * d.val = 9 * 128 + d.val; omega)
  rcases List.mem_cons.mp hpc with rfl | hpc
  · intro x
    refine (congrFun (same8 x0) x).trans (piece1 x0 hf 8 _ (ld8 x0) x _ ?_)
    rintro n d rfl
    exact funext fun a => Fin.ext (by
      fin_cases a
      · show 0 + 0 * 1 = 0; rfl
      · show 0 + 1 * n.val = n.val; omega
      · show 1024 + 1 * d.val = 8 * 128 + d.val; omega)
  rcases List.mem_cons.mp hpc with rfl | hpc
  · intro x
    refine (congrFun (same7 x0) x).trans (piece1 x0 hf 7 _ (ld7 x0) x _ ?_)
    rintro n d rfl
    exact funext fun a => Fin.ext (by
      fin_cases a
      · show 0 + 0 * 1 = 0; rfl
      · show 0 + 1 * n.val = n.val; omega
      · show 896 + 1 * d.val = 7 * 128 + d.val; omega)
  rcases List.mem_cons.mp hpc with rfl | hpc
  · intro x
    refine (congrFun (same6 x0) x).trans (piece1 x0 hf 6 _ (ld6 x0) x _ ?_)
    rintro n d rfl
    exact funext fun a => Fin.ext (by
      fin_cases a
      · show 0 + 0 * 1 = 0; rfl
      · show 0 + 1 * n.val = n.val; omega
      · show 768 + 1 * d.val = 6 * 128 + d.val; omega)
  rcases List.mem_cons.mp hpc with rfl | hpc
  · intro x
    refine (congrFun (same5 x0) x).trans (piece1 x0 hf 5 _ (ld5 x0) x _ ?_)
    rintro n d rfl
    exact funext fun a => Fin.ext (by
      fin_cases a
      · show 0 + 0 * 1 = 0; rfl
      · show 0 + 1 * n.val = n.val; omega
      · show 640 + 1 * d.val = 5 * 128 + d.val; omega)
  rcases List.mem_cons.mp hpc with rfl | hpc
  · intro x
    refine (congrFun (same4 x0) x).trans (piece1 x0 hf 4 _ (ld4 x0) x _ ?_)
    rintro n d rfl
    exact funext fun a => Fin.ext (by
      fin_cases a
      · show 0 + 0 * 1 = 0; rfl
      · show 0 + 1 * n.val = n.val; omega
      · show 512 + 1 * d.val = 4 * 128 + d.val; omega)
  rcases List.mem_cons.mp hpc with rfl | hpc
  · intro x
    refine (congrFun (same3 x0) x).trans (piece1 x0 hf 3 _ (ld3 x0) x _ ?_)
    rintro n d rfl
    exact funext fun a => Fin.ext (by
      fin_cases a
      · show 0 + 0 * 1 = 0; rfl
      · show 0 + 1 * n.val = n.val; omega
      · show 384 + 1 * d.val = 3 * 128 + d.val; omega)
  rcases List.mem_cons.mp hpc with rfl | hpc
  · intro x
    refine (congrFun (same2 x0) x).trans (piece1 x0 hf 2 _ (ld2 x0) x _ ?_)
    rintro n d rfl
    exact funext fun a => Fin.ext (by
      fin_cases a
      · show 0 + 0 * 1 = 0; rfl
      · show 0 + 1 * n.val = n.val; omega
      · show 256 + 1 * d.val = 2 * 128 + d.val; omega)
  rcases List.mem_cons.mp hpc with rfl | hpc
  · intro x
    refine (congrFun (same1 x0) x).trans (piece1 x0 hf 1 _ (ld1 x0) x _ ?_)
    rintro n d rfl
    exact funext fun a => Fin.ext (by
      fin_cases a
      · show 0 + 0 * 1 = 0; rfl
      · show 0 + 1 * n.val = n.val; omega
      · show 128 + 1 * d.val = 1 * 128 + d.val; omega)
  rcases List.mem_cons.mp hpc with rfl | hpc
  · intro x
    refine (congrFun (same0 x0) x).trans (piece1 x0 hf 0 _ (ld0 x0) x _ ?_)
    rintro n d rfl
    exact funext fun a => Fin.ext (by
      fin_cases a
      · show 0 + 0 * 1 = 0; rfl
      · show 0 + 1 * n.val = n.val; omega
      · show 0 + 1 * d.val = 0 * 128 + d.val; omega)
  exact nomatch hpc

omit hf in
/-- One step of collecting the scales: the column of head `w` takes that head's scales. -/
def step (w : BitVec 32) (X : FVec Ideal S8x16 .f32) (s : FVec Ideal S8x1x1 .f32) : FVec Ideal S8x16 .f32 :=
  select (cmpi .eq (iota .tc S8x16 32 [1] iota_S8x16_d1_w32) (broadcast S8x16 w))
    (broadcastTo S8x16 (shapeCast S8x1 (shapeCast S8x1 s shapeCasts_S8x1x1_S8x1) shapeCasts_S8x1_S8x1) broadcasts_S8x1_S8x16) X

omit hf in
/-- A step read at a block and a head. -/
theorem step_at (w : BitVec 32) (X : FVec Ideal S8x16 .f32) (s : FVec Ideal S8x1x1 .f32) (j : Fin 8) (h : Fin 16) :
    step w X s (ix2 j h) = Scalar.select (IntOp.cmpi .eq (BitVec.ofNat 32 h.val) w) (s (ix3 j 0 0)) (X (ix2 j h)) := by
  pointwise [step]

omit hf in
/-- The collected scales as a tile. -/
def store (X : FVec Ideal S8x16 .f32) : FVec Ideal S1x8x16 .f32 := shapeCast S1x8x16 X shapeCasts_S8x16_S1x8x16

omit hf in
/-- The body's scales, collected head by head. -/
theorem scales_same : k0_pay1 (k0_pay84 (k0_pay90 x0) (k0_pay79 (k0_pay90 x0) (k0_pay73 (k0_pay90 x0) (k0_pay68 (k0_pay90 x0) (k0_pay63 (k0_pay90 x0) (k0_pay57 (k0_pay90 x0) (k0_pay52 (k0_pay90 x0) (k0_pay48 (k0_pay90 x0) (k0_pay43 (k0_pay90 x0) (k0_pay38 (k0_pay32 (k0_pay90 x0) (k0_pay27 (k0_pay90 x0) (k0_pay22 (k0_pay14 (k0_pay90 x0) (k0_pay8 (k0_pay90 x0) (k0_pay2 (F := Ideal)) (k0_pay4 (View.ld x0 r0_0))) (k0_pay91 x0) (k0_pay92 x0)) (k0_pay20 (k0_pay90 x0)) (k0_pay21 (k0_pay93 x0) (k0_pay94 x0))) (k0_pay24 (View.ld x0 r0_3))) (k0_pay95 x0)) (k0_pay35 (k0_pay96 x0)) (k0_pay37 (k0_pay90 x0))) (k0_pay40 (View.ld x0 r0_6))) (k0_pay97 x0)) (k0_pay50 (k0_pay98 x0))) (k0_pay54 (View.ld x0 r0_9))) (k0_pay99 x0) (k0_pay100 x0)) (k0_pay65 (View.ld x0 r0_11))) (k0_pay70 (View.ld x0 r0_12))) (k0_pay101 x0) (k0_pay102 x0) 23#32) (k0_pay81 (View.ld x0 r0_14))) (k0_pay88 (k0_pay90 x0)) (k0_pay89 (F := Ideal) (k0_pay103 x0))
    = store (step 15#32 (step 14#32 (step 13#32 (step 12#32 (step 11#32 (step 10#32 (step 9#32 (step 8#32 (step 7#32 (step 6#32 (step 5#32 (step 4#32 (step 3#32 (step 2#32 (step 1#32 (step 0#32 (broadcast S8x16 (Scalar.ofBits (F := Ideal) .f32 0x00000000#32)) (scales (View.ld x0 r0_0))) (scales (View.ld x0 r0_1))) (scales (View.ld x0 r0_2))) (scales (View.ld x0 r0_3))) (scales (View.ld x0 r0_4))) (scales (View.ld x0 r0_5))) (scales (View.ld x0 r0_6))) (scales (View.ld x0 r0_7))) (scales (View.ld x0 r0_8))) (scales (View.ld x0 r0_9))) (scales (View.ld x0 r0_10))) (scales (View.ld x0 r0_11))) (scales (View.ld x0 r0_12))) (scales (View.ld x0 r0_13))) (scales (View.ld x0 r0_14))) (scales (View.ld x0 r0_15))) := rfl

omit hf in
/-- The collected scales stored as a tile. -/
theorem store_at (X : FVec Ideal S8x16 .f32) (j : Fin 8) (h : Fin 16) : store X (ix3 0 j h) = X (ix2 j h) := by
  pointwise [store]

/-- One head's scale is the tile's. -/
theorem sc (h : Fin 16) (v : Vec Ideal S1x1024x128 .bf16)
    (hv : ∀ (n : Fin 1024) (d : Fin 128), v (ix3 0 n d) = x0 (ix3 0 n ⟨h.val * 128 + d.val, by omega⟩)) (j : Fin 8) :
    scales v (ix3 j 0 0) = two (ex (amax (cell x0 j h))) := by
  rw [scales_at v j (by rw [hb_eq x0 h v hv]; exact hf j h), hb_eq x0 h v hv]

omit hf in
/-- The offsets of a whole tile. -/
theorem hz : (![0, 0, 0] : Fin 3 → Nat) = fun _ => 0 := funext fun a => by fin_cases a <;> rfl

omit hf in
/-- Choosing on a true bit. -/
theorem sel1 (a b : EReal) : Scalar.select 1#1 a b = a := rfl

omit hf in
/-- Choosing on a false bit. -/
theorem sel0 (a b : EReal) : Scalar.select 0#1 a b = b := rfl

/-- The body's scales. -/
theorem out2_at (j : Fin 8) (h : Fin 16) : out0_2 (F := Ideal) x0 (ix3 0 j h) = two (ex (amax (cell x0 j h))) := by
  unfold out0_2
  rw [View.canon_unit_zero hz, scales_same, store_at]
  simp only [step_at, sc x0 hf 0 _ (ld0 x0), sc x0 hf 1 _ (ld1 x0), sc x0 hf 2 _ (ld2 x0), sc x0 hf 3 _ (ld3 x0), sc x0 hf 4 _ (ld4 x0), sc x0 hf 5 _ (ld5 x0), sc x0 hf 6 _ (ld6 x0), sc x0 hf 7 _ (ld7 x0), sc x0 hf 8 _ (ld8 x0), sc x0 hf 9 _ (ld9 x0), sc x0 hf 10 _ (ld10 x0), sc x0 hf 11 _ (ld11 x0), sc x0 hf 12 _ (ld12 x0), sc x0 hf 13 _ (ld13 x0), sc x0 hf 14 _ (ld14 x0), sc x0 hf 15 _ (ld15 x0)]
  fin_cases h
  · rfl
  · rfl
  · rfl
  · rfl
  · rfl
  · rfl
  · rfl
  · rfl
  · rfl
  · rfl
  · rfl
  · rfl
  · rfl
  · rfl
  · rfl
  · rfl

end Cert.QuantXIdeal.ValueArray
end
-- ==== Proof.QuantXArr.lean ====
module

public import proofs.«01_k».proof.Proof.QuantXKer

/-!
The quantise kernel's result arrays after the run.
-/

@[expose] public section

set_option maxRecDepth 16384

noncomputable section

open Idealize.ShloMosaic Idealize.ShloMosaic.TcCoe Idealize.SL.Sem
open Idealize.ShloMosaic.Pipeline (Dat Cfg Window)

namespace Cert.QuantXIdeal.ValueArray

open Cert.QuantXIdeal Cert.QuantXIdeal.Gen Cert.Spec

/-- The blocks' places, at every point. -/
theorem idx : ∀ t : Fin cfg0.N, win0_0.index t = ![(grid0.coords t 0).val, (grid0.coords t 1).val, 0] ∧ win0_1.index t = ![(grid0.coords t 0).val, (grid0.coords t 1).val, 0] ∧ win0_2.index t = ![(grid0.coords t 0).val, (grid0.coords t 1).val, 0] :=
  (by decide +kernel : ∀ t : Fin grid0.N, _)

variable (m : (ℓ : Loc nD τ sig) → Buf (Elt Ideal) ℓ) (c : Dev nD)

/-- The batch of a point. -/
def B (t : Fin cfg0.N) : Fin 2 := grid0.coords t 0

/-- The tile of rows of a point. -/
def T (t : Fin cfg0.N) : Fin 32 := grid0.coords t 1

/-- The tile read at a point. -/
theorem iblk_at (t : Fin cfg0.N) (n : Fin 1024) (w : Fin 2048) : iblk m c 0 t (ix3 0 n w)
    = (m ((c : Thread nD τ).loc main_arg0) : FVec Ideal S2x32768x2048 .bf16) (ix3 (B t) ⟨(T t).val * 1024 + n.val, by have := (T t).isLt; omega⟩ w) := by
  refine Eq.trans ?_ (congrFun (V_main_arg0 m c) _)
  blk_simp [iblk]
  blk_ext [idx t]
  all_goals first | rfl | (simp only [B, T]; omega)

/-- The block of a global index. -/
def blkOf (t : Fin cfg0.N) (j : Fin 8) : Fin 256 := ⟨(T t).val * 8 + j.val, by have := (T t).isLt; omega⟩

/-- A block of the tile is the argument's block. -/
theorem cell_eq (t : Fin cfg0.N) (j : Fin 8) (h : Fin 16) : cell (iblk m c 0 t) j h = Cert.QuantXReferenceIdeal.ValueAt.blk (m ((c : Thread nD τ).loc main_arg0) : FVec Ideal S2x32768x2048 .bf16) (B t) (blkOf t j) h :=
  funext fun r => funext fun d => (iblk_at m c t _ _).trans (congrArg (fun n => (m ((c : Thread nD τ).loc main_arg0) : FVec Ideal S2x32768x2048 .bf16) (ix3 (B t) n _)) (Fin.ext (by
    show (T t).val * 1024 + (j.val * 128 + r.val) = ((T t).val * 8 + j.val) * 128 + r.val; omega)))

/-- An index of a tile, by its block, row, head and channel. -/
theorem split1 (y : S1x1024x2048.Idx) : ∃ (j : Fin 8) (r : Fin 128) (h : Fin 16) (d : Fin 128), y = ix3 0 ⟨j.val * 128 + r.val, by omega⟩ ⟨h.val * 128 + d.val, by omega⟩ :=
  ⟨⟨(y 1).val / 128, Nat.div_lt_of_lt_mul (y 1).isLt⟩, ⟨(y 1).val % 128, Nat.mod_lt _ (by norm_num)⟩, ⟨(y 2).val / 128, Nat.div_lt_of_lt_mul (y 2).isLt⟩, ⟨(y 2).val % 128, Nat.mod_lt _ (by norm_num)⟩, by
    funext a
    fin_cases a
    · exact Subsingleton.elim (α := Fin 1) _ _
    · exact Fin.ext (by show (y 1).val = (y 1).val / 128 * 128 + (y 1).val % 128; omega)
    · exact Fin.ext (by show (y 2).val = (y 2).val / 128 * 128 + (y 2).val % 128; omega)⟩

variable (hm : ∀ (b : Fin 2) (j : Fin 256) (h : Fin 16), amax (Cert.QuantXReferenceIdeal.ValueAt.blk (m ((c : Thread nD τ).loc main_arg0) : FVec Ideal S2x32768x2048 .bf16) b j h) ≤ most)
include hm

/-- Every block of a tile is in range. -/
theorem small (t : Fin cfg0.N) (j : Fin 8) (h : Fin 16) : amax (cell (iblk m c 0 t) j h) ≤ most := by
  rw [cell_eq]; exact hm _ _ _

/-- A code the body leaves at a point. -/
theorem out1_at (t : Fin cfg0.N) (j : Fin 8) (h : Fin 16) (r d : Fin 128) :
    out0_1 (F := Ideal) (iblk m c 0 t) (ix3 0 ⟨j.val * 128 + r.val, by omega⟩ ⟨h.val * 128 + d.val, by omega⟩)
      = qcode (amax (Cert.QuantXReferenceIdeal.ValueAt.blk (m ((c : Thread nD τ).loc main_arg0) : FVec Ideal S2x32768x2048 .bf16) (B t) (blkOf t j) h)) (Cert.QuantXReferenceIdeal.ValueAt.blk (m ((c : Thread nD τ).loc main_arg0) : FVec Ideal S2x32768x2048 .bf16) (B t) (blkOf t j) h r d) := by
  rw [out1_eq _ (small m c hm t), E1_at, cell_eq]

/-- The codes after the run are the reference's. -/
theorem final1 : (dats m 0 c).arrAt 1 (cfgs 0).N = Cert.QuantXReferenceIdeal.ValueRun.G1 (F := Ideal) (m ((c : Thread nD τ).loc main_arg0) : FVec Ideal S2x32768x2048 .bf16) :=
  (dats m 0 c).arrAt_eq_of_covers 1 (Cert.QuantXReferenceIdeal.ValueRun.G1 (F := Ideal) (m ((c : Thread nD τ).loc main_arg0) : FVec Ideal S2x32768x2048 .bf16)) (by decide +kernel) fun t hfl y => by
    obtain ⟨j, r, h, d, rfl⟩ := split1 y
    rw [after0_1]
    have hh := out1_at m c hm t j h r d
    generalize out0_1 (F := Ideal) (iblk m c 0 t) = X at hh ⊢
    refine hh.trans ?_
    refine (Cert.QuantXReferenceIdeal.ValueAt.G1_at (m ((c : Thread nD τ).loc main_arg0) : FVec Ideal S2x32768x2048 .bf16) (B t) (blkOf t j) h r d (hm _ _ _)).symm.trans ?_
    generalize Cert.QuantXReferenceIdeal.ValueRun.G1 (F := Ideal) (m ((c : Thread nD τ).loc main_arg0) : FVec Ideal S2x32768x2048 .bf16) = g
    blk_ext [idx t]
    all_goals first | rfl | (simp only [B, T, blkOf]; omega)

/-- The scales after the run are the reference's. -/
theorem final2 : (dats m 0 c).arrAt 2 (cfgs 0).N = Cert.QuantXReferenceIdeal.ValueRun.G2 (F := Ideal) (m ((c : Thread nD τ).loc main_arg0) : FVec Ideal S2x32768x2048 .bf16) :=
  (dats m 0 c).arrAt_eq_of_covers 2 (Cert.QuantXReferenceIdeal.ValueRun.G2 (F := Ideal) (m ((c : Thread nD τ).loc main_arg0) : FVec Ideal S2x32768x2048 .bf16)) (by decide +kernel) fun t hfl y => by
    obtain ⟨j, h, rfl⟩ : ∃ (j : Fin 8) (h : Fin 16), y = ix3 0 j h :=
      ⟨y 1, y 2, by
        funext a
        fin_cases a
        · exact Subsingleton.elim (α := Fin 1) _ _
        · rfl
        · rfl⟩
    rw [after0_2]
    refine (out2_at _ (small m c hm t) j h).trans ?_
    rw [cell_eq]
    refine (Cert.QuantXReferenceIdeal.ValueAt.G2_at (m ((c : Thread nD τ).loc main_arg0) : FVec Ideal S2x32768x2048 .bf16) (B t) (blkOf t j) h (hm _ _ _)).symm.trans ?_
    generalize Cert.QuantXReferenceIdeal.ValueRun.G2 (F := Ideal) (m ((c : Thread nD τ).loc main_arg0) : FVec Ideal S2x32768x2048 .bf16) = g
    blk_ext [idx t]
    all_goals first | rfl | (simp only [B, T, blkOf]; omega)

end Cert.QuantXIdeal.ValueArray
end
-- ==== Proof.QuantKRefRun.lean ====
module

public import proofs.«01_k».proof.Proof.Gen.QuantKReferenceIdeal.Frame
public import Idealize.ShloMosaic.Lib.Pipeline.Value

/-!
The run of the reference quantiser: each output array ends as one function of the argument.
-/

@[expose] public section

noncomputable section

namespace Cert.QuantKReferenceIdeal.ValueRun

open Cert.QuantKReferenceIdeal Cert.QuantKReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S2x32768x512.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2x256x4.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x4x32768x128.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_v0_2) = (dats m 0 c).arrAt 3 cfg0.N
      ∧ r.2.mem ((c : Thread nD τ).loc main_arg0) = m ((c : Thread nD τ).loc main_arg0) :=
  (θ_run defs _ _).mono (fun r h c => ⟨post1 m r h c,
      post2 m r h c,
      post3 m r h c,
      kept_main_arg0 m r h c⟩)
    (run_main m ρ)

/-! ## Closed form at one grid point: every window's block is its array -/

/-- The offsets of a whole array are all zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x32768x512.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 32768 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of a whole array are all zero. -/
theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x32768x512.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 32768 + 1 * (j 1).val = (j 1).val; omega
  | ⟨2, _⟩ => show win0_1.index t (2 : Fin 3) * 512 + 1 * (j 2).val = (j 2).val; omega

/-- The offsets of a whole array are all zero. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x256x4.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 256 + 1 * (j 1).val = (j 1).val; omega
  | ⟨2, _⟩ => show win0_2.index t (2 : Fin 3) * 4 + 1 * (j 2).val = (j 2).val; omega

/-- The offsets of a whole array are all zero. -/
theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S2x4x32768x128.Idx) : ((cfg0.win 3).blk t).view.emb j = j := by
  obtain ⟨e0, e1, e2, e3⟩ := idx_zero3 t
  funext a; apply Fin.ext
  match a with
  | ⟨0, _⟩ => show win0_3.index t (0 : Fin 4) * 2 + 1 * (j 0).val = (j 0).val; omega
  | ⟨1, _⟩ => show win0_3.index t (1 : Fin 4) * 4 + 1 * (j 1).val = (j 1).val; omega
  | ⟨2, _⟩ => show win0_3.index t (2 : Fin 4) * 32768 + 1 * (j 2).val = (j 2).val; omega
  | ⟨3, _⟩ => show win0_3.index t (3 : Fin 4) * 128 + 1 * (j 3).val = (j 3).val; omega

/-! ### Output window 1: the array after the run -/

/-- What the window's array ends holding: `out0_1` applied to the argument arrays in place of the input blocks (a value that the
    frame states apart, `kK_payN a…`, keeps its loads inside its own definition). -/
abbrev G1 (a0 : Vec F S2x32768x512 .bf16) : Vec F S2x32768x512 .fp8e4m3 :=
  k0_pay6 a0

/-- A load of the whole of a block reads the block, and the one store through the whole rectangle leaves its payload. -/
theorem out1_eq (a0 : Vec F S2x32768x512 .bf16) : out0_1 (F := F) a0 = G1 a0 := by
  unfold out0_1
  rw [View.canon_unit_zero hz1, View.ld_unit_zero (S := S2x32768x512) hz0 _ a0]

/-- Cutting the point's block out of `X` and reading `X` through the block's view give the same. -/
theorem cut1_eq (t : Fin cfg0.N) (X : Vec F S2x32768x512 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S2x32768x512.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S2x32768x512 .bf16) : Vec F S2x256x4 .f32 :=
  k0_pay4 a0

/-- A load of the whole of a block reads the block, and the one store through the whole rectangle leaves its payload. -/
theorem out2_eq (a0 : Vec F S2x32768x512 .bf16) : out0_2 (F := F) a0 = G2 a0 := by
  unfold out0_2
  rw [View.canon_unit_zero hz2, View.ld_unit_zero (S := S2x32768x512) hz0 _ a0]

/-- Cutting the point's block out of `X` and reading `X` through the block's view give the same. -/
theorem cut2_eq (t : Fin cfg0.N) (X : Vec F S2x256x4 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S2x256x4.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks (a value that the
    frame states apart, `kK_payN a…`, keeps its loads inside its own definition). -/
abbrev G3 (a0 : Vec F S2x32768x512 .bf16) : Vec F S2x4x32768x128 .fp8e4m3 :=
  k0_pay1 (k0_pay5 a0)

/-- A load of the whole of a block reads the block, and the one store through the whole rectangle leaves its payload. -/
theorem out3_eq (a0 : Vec F S2x32768x512 .bf16) : out0_3 (F := F) a0 = G3 a0 := by
  unfold out0_3
  rw [View.canon_unit_zero hz3, View.ld_unit_zero (S := S2x32768x512) hz0 _ a0]

/-- Cutting the point's block out of `X` and reading `X` through the block's view give the same. -/
theorem cut3_eq (t : Fin cfg0.N) (X : Vec F S2x4x32768x128 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S2x4x32768x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      kept_main_arg0 m r h c⟩)
    (run_main m ρ)

end Cert.QuantKReferenceIdeal.ValueRun

end
-- ==== Proof.QuantKRef.lean ====
module

public import proofs.«01_k».proof.Proof.QuantKRefRun
public import proofs.«01_k».proof.Proof.QuantSpec
public import Idealize.ShloMosaic.Lib.Pipeline.ValueKit
public import Idealize.ShloMosaic.Lib.Pointwise
public import Idealize.ShloMosaic.Lib.IndicatorCount

/-!
The reference quantiser's values, read at one index.
-/

@[expose] public section

set_option maxRecDepth 16384
set_option maxHeartbeats 1000000

noncomputable section

open Idealize.ShloMosaic Idealize.ShloMosaic.TcCoe Idealize.SL.Sem

namespace Cert.QuantKReferenceIdeal.ValueAt

open Cert.QuantKReferenceIdeal Cert.QuantKReferenceIdeal.Gen Cert.QuantKReferenceIdeal.ValueRun Cert.Spec

/-- The word of minus infinity. -/
theorem negInf : Ideal.ofBits .f32 4286578688#32 = ⊥ := by
  simp [Ideal.ofBits, Ideal.ieee]

/-- The integer of a word of the table of exponents. -/
theorem word_int : ∀ k : Fin 254, (IntOp.addi 4294967170#32 (BitVec.ofNat 32 k.val)).toInt = (k.val : ℤ) - 126 := by
  decide

variable (x : FVec Ideal S2x32768x512 .bf16) (b : Fin 2) (j : Fin 256) (h : Fin 4) (r d : Fin 128)

/-- One block of one head. -/
def blk : Fin 128 → Fin 128 → EReal := fun r d => x (ix3 b ⟨j.val * 128 + r.val, by omega⟩ ⟨h.val * 128 + d.val, by omega⟩)

/-- The largest magnitude of a block, as the maximum over its rows of the maximum of a row. -/
theorem amax_rows (t : Fin 128 → Fin 128 → EReal) :
    (Finset.univ.sup fun r : Fin 128 => Finset.univ.sup fun d : Fin 128 => max (t r d) (-(t r d))) = amax t := by
  unfold amax
  rw [← Finset.univ_product_univ, Finset.sup_product_left]

/-- The exponent of a block. -/
theorem pay3_at (hf : amax (blk x b j h) ≤ most) : k0_pay3 (F := Ideal) x (ix3 b j h) = (((ex (amax (blk x b j h)) : ℤ) : ℝ) : EReal) := by
  rw [← qex_word _ hf]
  have hc : (Finset.univ.fold IntOp.addi 0#32 fun k : Fin 254 => BitVec.setWidth 32 (BitVec.ofBool (decide
      (Ideal.exp2 ((((IntOp.addi 4294967170#32 (BitVec.ofNat 32 k.val)).toInt : ℤ) : ℝ) : EReal) ≤ amax (blk x b j h) * Ideal.ofBits .f32 991054117#32)))) = BitVec.ofNat 32 (cnt (amax (blk x b j h))) := by
    rw [IndicatorCount.fold_addi_setWidth_eq_card]
    unfold cnt
    congr 2
    apply Finset.filter_congr
    intro k _
    rw [exp2_int, word_int]
    by_cases hk : two ((k.val : ℤ) - 126) ≤ amax (blk x b j h) * Ideal.ofBits FTy.f32 991054117#32
    · simp only [hk, recip]; decide
    · simp only [hk, recip]; decide
  have he : (Finset.univ.fold max (⊥ : EReal) fun r : Fin 128 => Finset.univ.fold max (⊥ : EReal) fun d : Fin 128 =>
      (FloatOps.absf (F := Ideal) (φ := .f32) (x (ix3 b ⟨j.val * 128 + r.val, by omega⟩ ⟨h.val * 128 + d.val, by omega⟩)) : EReal)) = amax (blk x b j h) :=
    amax_rows (blk x b j h)
  have hs : ∀ w : BitVec 32, (FloatOps.sitofp (F := Ideal) .f32 w : EReal) = (((w.toInt : ℤ) : ℝ) : EReal) := fun _ => rfl
  have hx : ∀ y : EReal, FloatOps.exp2 (F := Ideal) (φ := .f32) y = Ideal.exp2 y := fun _ => rfl
  pointwise [k0_pay3, k0_pay2]
  simp only [negInf]
  simp only [he, hs, hx]
  simp only [hc]
  rfl

/-- A scale. -/
theorem G2_at (hf : amax (blk x b j h) ≤ most) : G2 (F := Ideal) x (ix3 b j h) = two (ex (amax (blk x b j h))) := by
  rw [← exp2_int, ← pay3_at x b j h hf]
  generalize hX : k0_pay3 (F := Ideal) x = X
  pointwise [k0_pay4]
  rw [hX]
  rfl

/-- A code, at its block, row, head and channel. -/
theorem pay5_at (hf : amax (blk x b j h) ≤ most) : k0_pay5 (F := Ideal) x (ix5 b j r h d) = qcode (amax (blk x b j h)) (blk x b j h r d) := by
  unfold qcode
  rw [← exp2_int, Int.cast_neg, EReal.coe_neg, ← pay3_at x b j h hf]
  generalize hX : k0_pay3 (F := Ideal) x = X
  pointwise [k0_pay5, k0_pay2]
  rw [hX, zero_sub]
  rfl

/-- A code. -/
theorem G1_at (hf : amax (blk x b j h) ≤ most) : G1 (F := Ideal) x (ix3 b ⟨j.val * 128 + r.val, by omega⟩ ⟨h.val * 128 + d.val, by omega⟩)
    = qcode (amax (blk x b j h)) (blk x b j h r d) := by
  rw [← pay5_at x b j h r d hf]
  generalize hX : k0_pay5 (F := Ideal) x = X
  pointwise [k0_pay6]
  rw [hX]

/-- A code, in the array of heads. -/
theorem G3_at (hf : amax (blk x b j h) ≤ most) : G3 (F := Ideal) x (ix4 b h ⟨j.val * 128 + r.val, by omega⟩ d)
    = qcode (amax (blk x b j h)) (blk x b j h r d) := by
  rw [← pay5_at x b j h r d hf]
  generalize hX : k0_pay5 (F := Ideal) x = X
  pointwise [k0_pay1]
  rw [hX]

end Cert.QuantKReferenceIdeal.ValueAt
end
-- ==== Proof.QuantKKer.lean ====
module

public import proofs.«01_k».proof.Proof.Gen.QuantKIdeal.Value
public import proofs.«01_k».proof.Proof.QuantHead
public import proofs.«01_k».proof.Proof.QuantKRef
public import Idealize.ShloMosaic.Lib.Pipeline.ValueKit
public import Idealize.ShloMosaic.Lib.Pointwise

/-!
The quantise kernel's result arrays: the codes and the scales the reference computes.
-/

@[expose] public section

set_option maxRecDepth 16384

noncomputable section

open Idealize.ShloMosaic Idealize.ShloMosaic.TcCoe Idealize.SL.Sem
open Idealize.ShloMosaic.Pipeline (Dat Cfg Window)

namespace Cert.QuantKIdeal.ValueArray

open Cert.QuantKIdeal Cert.QuantKIdeal.Gen Cert.Spec
open Cert.QuantKIdeal.Value (hb codes codes_at rows rows_at scales scales_at)

variable (x0 : Vec Ideal S1x1024x512 .bf16)

/-- One block of one head of a tile. -/
def cell (j : Fin 8) (h : Fin 4) : Fin 128 → Fin 128 → EReal :=
  fun r d => x0 (ix3 0 ⟨j.val * 128 + r.val, by omega⟩ ⟨h.val * 128 + d.val, by omega⟩)

/-- The codes of a tile. -/
def E1 : Vec Ideal S1x1024x512 .fp8e4m3 := fun y =>
  qcode (amax (cell x0 ⟨(y 1).val / 128, Nat.div_lt_of_lt_mul (y 1).isLt⟩ ⟨(y 2).val / 128, Nat.div_lt_of_lt_mul (y 2).isLt⟩)) (x0 y)

/-- A code of a tile, by its block, head, row and channel. -/
theorem E1_at (j : Fin 8) (h : Fin 4) (r d : Fin 128) : E1 x0 (ix3 0 ⟨j.val * 128 + r.val, by omega⟩ ⟨h.val * 128 + d.val, by omega⟩)
    = qcode (amax (cell x0 j h)) (cell x0 j h r d) := by
  have ej : (⟨(j.val * 128 + r.val) / 128, by omega⟩ : Fin 8) = j := Fin.ext (by show (j.val * 128 + r.val) / 128 = j.val; omega)
  have eh : (⟨(h.val * 128 + d.val) / 128, by omega⟩ : Fin 4) = h := Fin.ext (by show (h.val * 128 + d.val) / 128 = h.val; omega)
  show qcode (amax (cell x0 ⟨(j.val * 128 + r.val) / 128, by omega⟩ ⟨(h.val * 128 + d.val) / 128, by omega⟩)) _ = _
  rw [ej, eh]
  rfl

/-- An index of a head's columns, by its block, row and channel. -/
theorem split (x : S1x1024x128.Idx) : ∃ (j : Fin 8) (r d : Fin 128), x = ix3 0 ⟨j.val * 128 + r.val, by omega⟩ d :=
  ⟨⟨(x 1).val / 128, Nat.div_lt_of_lt_mul (x 1).isLt⟩, ⟨(x 1).val % 128, Nat.mod_lt _ (by norm_num)⟩, x 2, by
    funext a
    fin_cases a
    · exact Subsingleton.elim (α := Fin 1) _ _
    · exact Fin.ext (by show (x 1).val = (x 1).val / 128 * 128 + (x 1).val % 128; omega)
    · rfl⟩

/-- The block of a head's columns is the tile's block of that head. -/
theorem hb_eq (h : Fin 4) (v : Vec Ideal S1x1024x128 .bf16)
    (hv : ∀ (n : Fin 1024) (d : Fin 128), v (ix3 0 n d) = x0 (ix3 0 n ⟨h.val * 128 + d.val, by omega⟩)) (j : Fin 8) : hb v j = cell x0 j h :=
  funext fun r => funext fun d => hv _ _

/-- The columns of head 0. -/
theorem ld0 (n : Fin 1024) (d : Fin 128) : View.ld x0 r0_0 (ix3 0 n d) = x0 (ix3 0 n ⟨(0 : Fin 4).val * 128 + d.val, by show 0 * 128 + d.val < 512; omega⟩) :=
  congrArg x0 (funext fun a => Fin.ext (by
    fin_cases a
    · show 0 + 0 * 1 = 0; rfl
    · show 0 + 1 * n.val = n.val; omega
    · show 0 + 1 * d.val = 0 * 128 + d.val; omega))

/-- The columns of head 1. -/
theorem ld1 (n : Fin 1024) (d : Fin 128) : View.ld x0 r0_2 (ix3 0 n d) = x0 (ix3 0 n ⟨(1 : Fin 4).val * 128 + d.val, by show 1 * 128 + d.val < 512; omega⟩) :=
  congrArg x0 (funext fun a => Fin.ext (by
    fin_cases a
    · show 0 + 0 * 1 = 0; rfl
    · show 0 + 1 * n.val = n.val; omega
    · show 128 + 1 * d.val = 1 * 128 + d.val; omega))

/-- The columns of head 2. -/
theorem ld2 (n : Fin 1024) (d : Fin 128) : View.ld x0 r0_4 (ix3 0 n d) = x0 (ix3 0 n ⟨(2 : Fin 4).val * 128 + d.val, by show 2 * 128 + d.val < 512; omega⟩) :=
  congrArg x0 (funext fun a => Fin.ext (by
    fin_cases a
    · show 0 + 0 * 1 = 0; rfl
    · show 0 + 1 * n.val = n.val; omega
    · show 256 + 1 * d.val = 2 * 128 + d.val; omega))

/-- The columns of head 3. -/
theorem ld3 (n : Fin 1024) (d : Fin 128) : View.ld x0 r0_6 (ix3 0 n d) = x0 (ix3 0 n ⟨(3 : Fin 4).val * 128 + d.val, by show 3 * 128 + d.val < 512; omega⟩) :=
  congrArg x0 (funext fun a => Fin.ext (by
    fin_cases a
    · show 0 + 0 * 1 = 0; rfl
    · show 0 + 1 * n.val = n.val; omega
    · show 384 + 1 * d.val = 3 * 128 + d.val; omega))

/-- The codes stored of head 0 are the one head's function of its columns. -/
theorem same0 : k0_pay8 (k0_pay35 x0) (Scalar.ofBits (F := Ideal) .f32 0x43E00000#32) (k0_pay36 x0) = rows (View.ld x0 r0_0) := rfl

/-- The codes stored of head 1 are the one head's function of its columns. -/
theorem same1 : k0_pay16 (k0_pay37 x0) (k0_pay38 x0) (k0_pay39 x0) = rows (View.ld x0 r0_2) := rfl

/-- The codes stored of head 2 are the one head's function of its columns. -/
theorem same2 : k0_pay24 (k0_pay40 x0) (k0_pay41 x0) = rows (View.ld x0 r0_4) := rfl

/-- The codes stored of head 3 are the one head's function of its columns. -/
theorem same3 : k0_pay31 (k0_pay42 x0) (k0_pay43 x0) = rows (View.ld x0 r0_6) := rfl

variable (hf : ∀ (j : Fin 8) (h : Fin 4), amax (cell x0 j h) ≤ most)
include hf

/-- A stored head of codes is the tile's codes at its place. -/
theorem piece1 (h : Fin 4) (v : Vec Ideal S1x1024x128 .bf16)
    (hv : ∀ (n : Fin 1024) (d : Fin 128), v (ix3 0 n d) = x0 (ix3 0 n ⟨h.val * 128 + d.val, by omega⟩)) (x : S1x1024x128.Idx) (y : S1x1024x512.Idx)
    (hy : ∀ (n : Fin 1024) (d : Fin 128), x = ix3 0 n d → y = ix3 0 n ⟨h.val * 128 + d.val, by omega⟩) : rows v x = E1 x0 y := by
  obtain ⟨j, r, d, rfl⟩ := split x
  rw [hy _ _ rfl, E1_at, rows_at v j r d (by rw [hb_eq x0 h v hv]; exact hf j h), hb_eq x0 h v hv]

/-- The body's codes. -/
theorem out1_eq : out0_1 (F := Ideal) x0 = E1 x0 := by
  funext y
  unfold out0_1
  refine View.canon_apply_of_pieces (E1 x0) _ ?_ y (cover0_1 _ _ _ _ y)
  intro pc hpc
  rcases List.mem_cons.mp hpc with rfl | hpc
  · intro x
    refine (congrFun (same3 x0) x).trans (piece1 x0 hf 3 _ (ld3 x0) x _ ?_)
    rintro n d rfl
    exact funext fun a => Fin.ext (by
      fin_cases a
      · show 0 + 0 * 1 = 0; rfl
      · show 0 + 1 * n.val = n.val; omega
      · show 384 + 1 * d.val = 3 * 128 + d.val; omega)
  rcases List.mem_cons.mp hpc with rfl | hpc
  · intro x
    refine (congrFun (same2 x0) x).trans (piece1 x0 hf 2 _ (ld2 x0) x _ ?_)
    rintro n d rfl
    exact funext fun a => Fin.ext (by
      fin_cases a
      · show 0 + 0 * 1 = 0; rfl
      · show 0 + 1 * n.val = n.val; omega
      · show 256 + 1 * d.val = 2 * 128 + d.val; omega)
  rcases List.mem_cons.mp hpc with rfl | hpc
  · intro x
    refine (congrFun (same1 x0) x).trans (piece1 x0 hf 1 _ (ld1 x0) x _ ?_)
    rintro n d rfl
    exact funext fun a => Fin.ext (by
      fin_cases a
      · show 0 + 0 * 1 = 0; rfl
      · show 0 + 1 * n.val = n.val; omega
      · show 128 + 1 * d.val = 1 * 128 + d.val; omega)
  rcases List.mem_cons.mp hpc with rfl | hpc
  · intro x
    refine (congrFun (same0 x0) x).trans (piece1 x0 hf 0 _ (ld0 x0) x _ ?_)
    rintro n d rfl
    exact funext fun a => Fin.ext (by
      fin_cases a
      · show 0 + 0 * 1 = 0; rfl
      · show 0 + 1 * n.val = n.val; omega
      · show 0 + 1 * d.val = 0 * 128 + d.val; omega)
  exact nomatch hpc

omit hf in
/-- One step of collecting the scales: the column of head `w` takes that head's scales. -/
def step (w : BitVec 32) (X : FVec Ideal S8x4 .f32) (s : FVec Ideal S8x1x1 .f32) : FVec Ideal S8x4 .f32 :=
  select (cmpi .eq (iota .tc S8x4 32 [1] iota_S8x4_d1_w32) (broadcast S8x4 w))
    (broadcastTo S8x4 (shapeCast S8x1 (shapeCast S8x1 s shapeCasts_S8x1x1_S8x1) shapeCasts_S8x1_S8x1) broadcasts_S8x1_S8x4) X

omit hf in
/-- A step read at a block and a head. -/
theorem step_at (w : BitVec 32) (X : FVec Ideal S8x4 .f32) (s : FVec Ideal S8x1x1 .f32) (j : Fin 8) (h : Fin 4) :
    step w X s (ix2 j h) = Scalar.select (IntOp.cmpi .eq (BitVec.ofNat 32 h.val) w) (s (ix3 j 0 0)) (X (ix2 j h)) := by
  pointwise [step]

omit hf in
/-- The collected scales as a tile. -/
def store (X : FVec Ideal S8x4 .f32) : FVec Ideal S1x8x4 .f32 := shapeCast S1x8x4 X shapeCasts_S8x4_S1x8x4

omit hf in
/-- The body's scales, collected head by head. -/
theorem scales_same : k0_pay1 (k0_pay32 (k0_pay34 x0) (k0_pay25 (k0_pay34 x0) (k0_pay17 (k0_pay34 x0) (k0_pay9 (k0_pay34 x0) (k0_pay2 (F := Ideal)) (k0_pay4 (View.ld x0 r0_0))) (k0_pay38 x0) (k0_pay39 x0)) (k0_pay20 (View.ld x0 r0_4))) (k0_pay43 x0))
    = store (step 3#32 (step 2#32 (step 1#32 (step 0#32 (broadcast S8x4 (Scalar.ofBits (F := Ideal) .f32 0x00000000#32)) (scales (View.ld x0 r0_0))) (scales (View.ld x0 r0_2))) (scales (View.ld x0 r0_4))) (scales (View.ld x0 r0_6))) := rfl

omit hf in
/-- The collected scales stored as a tile. -/
theorem store_at (X : FVec Ideal S8x4 .f32) (j : Fin 8) (h : Fin 4) : store X (ix3 0 j h) = X (ix2 j h) := by
  pointwise [store]

/-- One head's scale is the tile's. -/
theorem sc (h : Fin 4) (v : Vec Ideal S1x1024x128 .bf16)
    (hv : ∀ (n : Fin 1024) (d : Fin 128), v (ix3 0 n d) = x0 (ix3 0 n ⟨h.val * 128 + d.val, by omega⟩)) (j : Fin 8) :
    scales v (ix3 j 0 0) = two (ex (amax (cell x0 j h))) := by
  rw [scales_at v j (by rw [hb_eq x0 h v hv]; exact hf j h), hb_eq x0 h v hv]

omit hf in
/-- The offsets of a whole tile. -/
theorem hz : (![0, 0, 0] : Fin 3 → Nat) = fun _ => 0 := funext fun a => by fin_cases a <;> rfl

omit hf in
/-- Choosing on a true bit. -/
theorem sel1 (a b : EReal) : Scalar.select 1#1 a b = a := rfl

omit hf in
/-- Choosing on a false bit. -/
theorem sel0 (a b : EReal) : Scalar.select 0#1 a b = b := rfl

/-- The body's scales. -/
theorem out2_at (j : Fin 8) (h : Fin 4) : out0_2 (F := Ideal) x0 (ix3 0 j h) = two (ex (amax (cell x0 j h))) := by
  unfold out0_2
  rw [View.canon_unit_zero hz, scales_same, store_at]
  simp only [step_at, sc x0 hf 0 _ (ld0 x0), sc x0 hf 1 _ (ld1 x0), sc x0 hf 2 _ (ld2 x0), sc x0 hf 3 _ (ld3 x0)]
  fin_cases h
  · rfl
  · rfl
  · rfl
  · rfl

omit hf in
/-- The codes of a tile, head by head. -/
def E3 : Vec Ideal S1x4x1024x128 .fp8e4m3 := fun y => E1 x0 (ix3 0 (y 2) ⟨(y 1).val * 128 + (y 3).val, by
  have h1 : (y 1).val < 4 := (y 1).isLt
  have h3 : (y 3).val < 128 := (y 3).isLt
  omega⟩)

omit hf in
/-- A code of a tile, by its head, block, row and channel. -/
theorem E3_at (j : Fin 8) (h : Fin 4) (r d : Fin 128) : E3 x0 (ix4 0 h ⟨j.val * 128 + r.val, by omega⟩ d)
    = qcode (amax (cell x0 j h)) (cell x0 j h r d) := E1_at x0 j h r d

omit hf in
/-- An index of one stored head, by its block, row and channel. -/
theorem split4 (x : S1x1x1024x128.Idx) : ∃ (j : Fin 8) (r d : Fin 128), x = ix4 0 0 ⟨j.val * 128 + r.val, by omega⟩ d :=
  ⟨⟨(x 2).val / 128, Nat.div_lt_of_lt_mul (x 2).isLt⟩, ⟨(x 2).val % 128, Nat.mod_lt _ (by norm_num)⟩, x 3, by
    funext a
    fin_cases a
    · exact Subsingleton.elim (α := Fin 1) _ _
    · exact Subsingleton.elim (α := Fin 1) _ _
    · exact Fin.ext (by show (x 2).val = (x 2).val / 128 * 128 + (x 2).val % 128; omega)
    · rfl⟩

/-- A head stored on its own is the tile's codes of that head. -/
theorem piece3 (h : Fin 4) (v : Vec Ideal S1x1024x128 .bf16)
    (hv : ∀ (n : Fin 1024) (d : Fin 128), v (ix3 0 n d) = x0 (ix3 0 n ⟨h.val * 128 + d.val, by omega⟩)) (x : S1x1x1024x128.Idx) (y : S1x4x1024x128.Idx)
    (hy : ∀ (n : Fin 1024) (d : Fin 128), x = ix4 0 0 n d → y = ix4 0 h n d) : Cert.QuantKIdeal.Value.rows4 v x = E3 x0 y := by
  obtain ⟨j, r, d, rfl⟩ := split4 x
  rw [hy _ _ rfl, E3_at, Cert.QuantKIdeal.Value.rows4_at v j r d (by rw [hb_eq x0 h v hv]; exact hf j h), hb_eq x0 h v hv]

omit hf in
/-- Head 0 stored on its own is the one head's function of its columns. -/
theorem alone0 : k0_pay10 (k0_pay35 x0) (Scalar.ofBits (F := Ideal) .f32 0x43E00000#32) (k0_pay36 x0) = Cert.QuantKIdeal.Value.rows4 (View.ld x0 r0_0) := rfl

omit hf in
/-- Head 1 stored on its own is the one head's function of its columns. -/
theorem alone1 : k0_pay18 (k0_pay15 (k0_pay37 x0) (k0_pay38 x0) (k0_pay39 x0)) = Cert.QuantKIdeal.Value.rows4 (View.ld x0 r0_2) := rfl

omit hf in
/-- Head 2 stored on its own is the one head's function of its columns. -/
theorem alone2 : k0_pay26 (k0_pay40 x0) (k0_pay41 x0) = Cert.QuantKIdeal.Value.rows4 (View.ld x0 r0_4) := rfl

omit hf in
/-- Head 3 stored on its own is the one head's function of its columns. -/
theorem alone3 : k0_pay33 (k0_pay42 x0) (k0_pay43 x0) = Cert.QuantKIdeal.Value.rows4 (View.ld x0 r0_6) := rfl

/-- The body's third result: the codes head by head. -/
theorem out3_eq : out0_3 (F := Ideal) x0 = E3 x0 := by
  funext y
  unfold out0_3
  refine View.canon_apply_of_pieces (E3 x0) _ ?_ y (cover0_3 _ _ _ _ y)
  intro pc hpc
  rcases List.mem_cons.mp hpc with rfl | hpc
  · intro x
    refine (congrFun (alone3 x0) x).trans (piece3 x0 hf 3 _ (ld3 x0) x _ ?_)
    rintro n d rfl
    exact funext fun a => Fin.ext (by
      fin_cases a
      · show 0 + 1 * 0 = 0; rfl
      · show 3 + 1 * 0 = 3; rfl
      · show 0 + 1 * n.val = n.val; omega
      · show 0 + 1 * d.val = d.val; omega)
  rcases List.mem_cons.mp hpc with rfl | hpc
  · intro x
    refine (congrFun (alone2 x0) x).trans (piece3 x0 hf 2 _ (ld2 x0) x _ ?_)
    rintro n d rfl
    exact funext fun a => Fin.ext (by
      fin_cases a
      · show 0 + 1 * 0 = 0; rfl
      · show 2 + 1 * 0 = 2; rfl
      · show 0 + 1 * n.val = n.val; omega
      · show 0 + 1 * d.val = d.val; omega)
  rcases List.mem_cons.mp hpc with rfl | hpc
  · intro x
    refine (congrFun (alone1 x0) x).trans (piece3 x0 hf 1 _ (ld1 x0) x _ ?_)
    rintro n d rfl
    exact funext fun a => Fin.ext (by
      fin_cases a
      · show 0 + 1 * 0 = 0; rfl
      · show 1 + 1 * 0 = 1; rfl
      · show 0 + 1 * n.val = n.val; omega
      · show 0 + 1 * d.val = d.val; omega)
  rcases List.mem_cons.mp hpc with rfl | hpc
  · intro x
    refine (congrFun (alone0 x0) x).trans (piece3 x0 hf 0 _ (ld0 x0) x _ ?_)
    rintro n d rfl
    exact funext fun a => Fin.ext (by
      fin_cases a
      · show 0 + 1 * 0 = 0; rfl
      · show 0 + 1 * 0 = 0; rfl
      · show 0 + 1 * n.val = n.val; omega
      · show 0 + 1 * d.val = d.val; omega)
  exact nomatch hpc

end Cert.QuantKIdeal.ValueArray
end
-- ==== Proof.QuantKArr.lean ====
module

public import proofs.«01_k».proof.Proof.QuantKKer

/-!
The quantise kernel's result arrays after the run.
-/

@[expose] public section

set_option maxRecDepth 16384

noncomputable section

open Idealize.ShloMosaic Idealize.ShloMosaic.TcCoe Idealize.SL.Sem
open Idealize.ShloMosaic.Pipeline (Dat Cfg Window)

namespace Cert.QuantKIdeal.ValueArray

open Cert.QuantKIdeal Cert.QuantKIdeal.Gen Cert.Spec

/-- The blocks' places, at every point. -/
theorem idx : ∀ t : Fin cfg0.N, win0_0.index t = ![(grid0.coords t 0).val, (grid0.coords t 1).val, 0] ∧ win0_1.index t = ![(grid0.coords t 0).val, (grid0.coords t 1).val, 0] ∧ win0_2.index t = ![(grid0.coords t 0).val, (grid0.coords t 1).val, 0] ∧ win0_3.index t = ![(grid0.coords t 0).val, 0, (grid0.coords t 1).val, 0] :=
  (by decide +kernel : ∀ t : Fin grid0.N, _)

variable (m : (ℓ : Loc nD τ sig) → Buf (Elt Ideal) ℓ) (c : Dev nD)

/-- The batch of a point. -/
def B (t : Fin cfg0.N) : Fin 2 := grid0.coords t 0

/-- The tile of rows of a point. -/
def T (t : Fin cfg0.N) : Fin 32 := grid0.coords t 1

/-- The tile read at a point. -/
theorem iblk_at (t : Fin cfg0.N) (n : Fin 1024) (w : Fin 512) : iblk m c 0 t (ix3 0 n w)
    = (m ((c : Thread nD τ).loc main_arg0) : FVec Ideal S2x32768x512 .bf16) (ix3 (B t) ⟨(T t).val * 1024 + n.val, by have := (T t).isLt; omega⟩ w) := by
  refine Eq.trans ?_ (congrFun (V_main_arg0 m c) _)
  blk_simp [iblk]
  blk_ext [idx t]
  all_goals first | rfl | (simp only [B, T]; omega)

/-- The block of a global index. -/
def blkOf (t : Fin cfg0.N) (j : Fin 8) : Fin 256 := ⟨(T t).val * 8 + j.val, by have := (T t).isLt; omega⟩

/-- A block of the tile is the argument's block. -/
theorem cell_eq (t : Fin cfg0.N) (j : Fin 8) (h : Fin 4) : cell (iblk m c 0 t) j h = Cert.QuantKReferenceIdeal.ValueAt.blk (m ((c : Thread nD τ).loc main_arg0) : FVec Ideal S2x32768x512 .bf16) (B t) (blkOf t j) h :=
  funext fun r => funext fun d => (iblk_at m c t _ _).trans (congrArg (fun n => (m ((c : Thread nD τ).loc main_arg0) : FVec Ideal S2x32768x512 .bf16) (ix3 (B t) n _)) (Fin.ext (by
    show (T t).val * 1024 + (j.val * 128 + r.val) = ((T t).val * 8 + j.val) * 128 + r.val; omega)))

/-- An index of a tile, by its block, row, head and channel. -/
theorem split1 (y : S1x1024x512.Idx) : ∃ (j : Fin 8) (r : Fin 128) (h : Fin 4) (d : Fin 128), y = ix3 0 ⟨j.val * 128 + r.val, by omega⟩ ⟨h.val * 128 + d.val, by omega⟩ :=
  ⟨⟨(y 1).val / 128, Nat.div_lt_of_lt_mul (y 1).isLt⟩, ⟨(y 1).val % 128, Nat.mod_lt _ (by norm_num)⟩, ⟨(y 2).val / 128, Nat.div_lt_of_lt_mul (y 2).isLt⟩, ⟨(y 2).val % 128, Nat.mod_lt _ (by norm_num)⟩, by
    funext a
    fin_cases a
    · exact Subsingleton.elim (α := Fin 1) _ _
    · exact Fin.ext (by show (y 1).val = (y 1).val / 128 * 128 + (y 1).val % 128; omega)
    · exact Fin.ext (by show (y 2).val = (y 2).val / 128 * 128 + (y 2).val % 128; omega)⟩

/-- An index of a tile of heads, by its head, block, row and channel. -/
theorem split3 (y : S1x4x1024x128.Idx) : ∃ (j : Fin 8) (r : Fin 128) (h : Fin 4) (d : Fin 128), y = ix4 0 h ⟨j.val * 128 + r.val, by omega⟩ d :=
  ⟨⟨(y 2).val / 128, Nat.div_lt_of_lt_mul (y 2).isLt⟩, ⟨(y 2).val % 128, Nat.mod_lt _ (by norm_num)⟩, y 1, y 3, by
    funext a
    fin_cases a
    · exact Subsingleton.elim (α := Fin 1) _ _
    · rfl
    · exact Fin.ext (by show (y 2).val = (y 2).val / 128 * 128 + (y 2).val % 128; omega)
    · rfl⟩

variable (hm : ∀ (b : Fin 2) (j : Fin 256) (h : Fin 4), amax (Cert.QuantKReferenceIdeal.ValueAt.blk (m ((c : Thread nD τ).loc main_arg0) : FVec Ideal S2x32768x512 .bf16) b j h) ≤ most)
include hm

/-- Every block of a tile is in range. -/
theorem small (t : Fin cfg0.N) (j : Fin 8) (h : Fin 4) : amax (cell (iblk m c 0 t) j h) ≤ most := by
  rw [cell_eq]; exact hm _ _ _

/-- A code the body leaves at a point. -/
theorem out1_at (t : Fin cfg0.N) (j : Fin 8) (h : Fin 4) (r d : Fin 128) :
    out0_1 (F := Ideal) (iblk m c 0 t) (ix3 0 ⟨j.val * 128 + r.val, by omega⟩ ⟨h.val * 128 + d.val, by omega⟩)
      = qcode (amax (Cert.QuantKReferenceIdeal.ValueAt.blk (m ((c : Thread nD τ).loc main_arg0) : FVec Ideal S2x32768x512 .bf16) (B t) (blkOf t j) h)) (Cert.QuantKReferenceIdeal.ValueAt.blk (m ((c : Thread nD τ).loc main_arg0) : FVec Ideal S2x32768x512 .bf16) (B t) (blkOf t j) h r d) := by
  rw [out1_eq _ (small m c hm t), E1_at, cell_eq]

/-- The codes after the run are the reference's. -/
theorem final1 : (dats m 0 c).arrAt 1 (cfgs 0).N = Cert.QuantKReferenceIdeal.ValueRun.G1 (F := Ideal) (m ((c : Thread nD τ).loc main_arg0) : FVec Ideal S2x32768x512 .bf16) :=
  (dats m 0 c).arrAt_eq_of_covers 1 (Cert.QuantKReferenceIdeal.ValueRun.G1 (F := Ideal) (m ((c : Thread nD τ).loc main_arg0) : FVec Ideal S2x32768x512 .bf16)) (by decide +kernel) fun t hfl y => by
    obtain ⟨j, r, h, d, rfl⟩ := split1 y
    rw [after0_1]
    have hh := out1_at m c hm t j h r d
    generalize out0_1 (F := Ideal) (iblk m c 0 t) = X at hh ⊢
    refine hh.trans ?_
    refine (Cert.QuantKReferenceIdeal.ValueAt.G1_at (m ((c : Thread nD τ).loc main_arg0) : FVec Ideal S2x32768x512 .bf16) (B t) (blkOf t j) h r d (hm _ _ _)).symm.trans ?_
    generalize Cert.QuantKReferenceIdeal.ValueRun.G1 (F := Ideal) (m ((c : Thread nD τ).loc main_arg0) : FVec Ideal S2x32768x512 .bf16) = g
    blk_ext [idx t]
    all_goals first | rfl | (simp only [B, T, blkOf]; omega)

/-- The scales after the run are the reference's. -/
theorem final2 : (dats m 0 c).arrAt 2 (cfgs 0).N = Cert.QuantKReferenceIdeal.ValueRun.G2 (F := Ideal) (m ((c : Thread nD τ).loc main_arg0) : FVec Ideal S2x32768x512 .bf16) :=
  (dats m 0 c).arrAt_eq_of_covers 2 (Cert.QuantKReferenceIdeal.ValueRun.G2 (F := Ideal) (m ((c : Thread nD τ).loc main_arg0) : FVec Ideal S2x32768x512 .bf16)) (by decide +kernel) fun t hfl y => by
    obtain ⟨j, h, rfl⟩ : ∃ (j : Fin 8) (h : Fin 4), y = ix3 0 j h :=
      ⟨y 1, y 2, by
        funext a
        fin_cases a
        · exact Subsingleton.elim (α := Fin 1) _ _
        · rfl
        · rfl⟩
    rw [after0_2]
    refine (out2_at _ (small m c hm t) j h).trans ?_
    rw [cell_eq]
    refine (Cert.QuantKReferenceIdeal.ValueAt.G2_at (m ((c : Thread nD τ).loc main_arg0) : FVec Ideal S2x32768x512 .bf16) (B t) (blkOf t j) h (hm _ _ _)).symm.trans ?_
    generalize Cert.QuantKReferenceIdeal.ValueRun.G2 (F := Ideal) (m ((c : Thread nD τ).loc main_arg0) : FVec Ideal S2x32768x512 .bf16) = g
    blk_ext [idx t]
    all_goals first | rfl | (simp only [B, T, blkOf]; omega)

/-- A code the body leaves at a point, in the array of heads. -/
theorem out3_at (t : Fin cfg0.N) (j : Fin 8) (h : Fin 4) (r d : Fin 128) :
    out0_3 (F := Ideal) (iblk m c 0 t) (ix4 0 h ⟨j.val * 128 + r.val, by omega⟩ d)
      = qcode (amax (Cert.QuantKReferenceIdeal.ValueAt.blk (m ((c : Thread nD τ).loc main_arg0) : FVec Ideal S2x32768x512 .bf16) (B t) (blkOf t j) h)) (Cert.QuantKReferenceIdeal.ValueAt.blk (m ((c : Thread nD τ).loc main_arg0) : FVec Ideal S2x32768x512 .bf16) (B t) (blkOf t j) h r d) := by
  rw [out3_eq _ (small m c hm t), E3_at, cell_eq]

/-- The codes head by head after the run are the reference's. -/
theorem final3 : (dats m 0 c).arrAt 3 (cfgs 0).N = Cert.QuantKReferenceIdeal.ValueRun.G3 (F := Ideal) (m ((c : Thread nD τ).loc main_arg0) : FVec Ideal S2x32768x512 .bf16) :=
  (dats m 0 c).arrAt_eq_of_covers 3 (Cert.QuantKReferenceIdeal.ValueRun.G3 (F := Ideal) (m ((c : Thread nD τ).loc main_arg0) : FVec Ideal S2x32768x512 .bf16)) (by decide +kernel) fun t hfl y => by
    obtain ⟨j, r, h, d, rfl⟩ := split3 y
    rw [after0_3]
    have hh := out3_at m c hm t j h r d
    generalize out0_3 (F := Ideal) (iblk m c 0 t) = X at hh ⊢
    refine hh.trans ?_
    refine (Cert.QuantKReferenceIdeal.ValueAt.G3_at (m ((c : Thread nD τ).loc main_arg0) : FVec Ideal S2x32768x512 .bf16) (B t) (blkOf t j) h r d (hm _ _ _)).symm.trans ?_
    generalize Cert.QuantKReferenceIdeal.ValueRun.G3 (F := Ideal) (m ((c : Thread nD τ).loc main_arg0) : FVec Ideal S2x32768x512 .bf16) = g
    blk_ext [idx t]
    all_goals first | rfl | (simp only [B, T, blkOf]; omega)

end Cert.QuantKIdeal.ValueArray
end
-- ==== Proof.QuantVRefRun.lean ====
module

public import proofs.«01_k».proof.Proof.Gen.QuantVReferenceIdeal.Frame
public import Idealize.ShloMosaic.Lib.Pipeline.Value

/-!
The run of the reference quantiser: each output array ends as one function of the argument.
-/

@[expose] public section

noncomputable section

namespace Cert.QuantVReferenceIdeal.ValueRun

open Cert.QuantVReferenceIdeal Cert.QuantVReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S2x32768x512.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2x256x4.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x4x256x128x128.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_v0_2) = (dats m 0 c).arrAt 3 cfg0.N
      ∧ r.2.mem ((c : Thread nD τ).loc main_arg0) = m ((c : Thread nD τ).loc main_arg0) :=
  (θ_run defs _ _).mono (fun r h c => ⟨post1 m r h c,
      post2 m r h c,
      post3 m r h c,
      kept_main_arg0 m r h c⟩)
    (run_main m ρ)

/-! ## Closed form at one grid point: every window's block is its array -/

/-- The offsets of a whole array are all zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x32768x512.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 32768 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of a whole array are all zero. -/
theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x32768x512.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 32768 + 1 * (j 1).val = (j 1).val; omega
  | ⟨2, _⟩ => show win0_1.index t (2 : Fin 3) * 512 + 1 * (j 2).val = (j 2).val; omega

/-- The offsets of a whole array are all zero. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x256x4.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 256 + 1 * (j 1).val = (j 1).val; omega
  | ⟨2, _⟩ => show win0_2.index t (2 : Fin 3) * 4 + 1 * (j 2).val = (j 2).val; omega

/-- The offsets of a whole array are all zero. -/
theorem hz3 : (![0, 0, 0, 0, 0] : Fin 5 → Nat) = fun _ => 0 := funext fun a => by fin_cases a <;> rfl

/-- Window 3's block index at the one point is zero on every axis. -/
theorem idx_zero3 : ∀ t : Fin cfg0.N, win0_3.index t (0 : Fin 5) = 0 ∧ win0_3.index t (1 : Fin 5) = 0 ∧ win0_3.index t (2 : Fin 5) = 0 ∧ win0_3.index t (3 : Fin 5) = 0 ∧ win0_3.index t (4 : Fin 5) = 0 :=
  (by decide +kernel : ∀ t : Fin grid0.N, _)

/-- An index of window 3's block is the same index of its array. -/
theorem emb3 (t : Fin cfg0.N) (j : S2x4x256x128x128.Idx) : ((cfg0.win 3).blk t).view.emb j = j := by
  obtain ⟨e0, e1, e2, e3, e4⟩ := idx_zero3 t
  funext a; apply Fin.ext
  match a with
  | ⟨0, _⟩ => show win0_3.index t (0 : Fin 5) * 2 + 1 * (j 0).val = (j 0).val; omega
  | ⟨1, _⟩ => show win0_3.index t (1 : Fin 5) * 4 + 1 * (j 1).val = (j 1).val; omega
  | ⟨2, _⟩ => show win0_3.index t (2 : Fin 5) * 256 + 1 * (j 2).val = (j 2).val; omega
  | ⟨3, _⟩ => show win0_3.index t (3 : Fin 5) * 128 + 1 * (j 3).val = (j 3).val; omega
  | ⟨4, _⟩ => show win0_3.index t (4 : Fin 5) * 128 + 1 * (j 4).val = (j 4).val; omega

/-! ### Output window 1: the array after the run -/

/-- What the window's array ends holding: `out0_1` applied to the argument arrays in place of the input blocks (a value that the
    frame states apart, `kK_payN a…`, keeps its loads inside its own definition). -/
abbrev G1 (a0 : Vec F S2x32768x512 .bf16) : Vec F S2x32768x512 .fp8e4m3 :=
  k0_pay6 a0

/-- A load of the whole of a block reads the block, and the one store through the whole rectangle leaves its payload. -/
theorem out1_eq (a0 : Vec F S2x32768x512 .bf16) : out0_1 (F := F) a0 = G1 a0 := by
  unfold out0_1
  rw [View.canon_unit_zero hz1, View.ld_unit_zero (S := S2x32768x512) hz0 _ a0]

/-- Cutting the point's block out of `X` and reading `X` through the block's view give the same. -/
theorem cut1_eq (t : Fin cfg0.N) (X : Vec F S2x32768x512 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S2x32768x512.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S2x32768x512 .bf16) : Vec F S2x256x4 .f32 :=
  k0_pay4 a0

/-- A load of the whole of a block reads the block, and the one store through the whole rectangle leaves its payload. -/
theorem out2_eq (a0 : Vec F S2x32768x512 .bf16) : out0_2 (F := F) a0 = G2 a0 := by
  unfold out0_2
  rw [View.canon_unit_zero hz2, View.ld_unit_zero (S := S2x32768x512) hz0 _ a0]

/-- Cutting the point's block out of `X` and reading `X` through the block's view give the same. -/
theorem cut2_eq (t : Fin cfg0.N) (X : Vec F S2x256x4 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S2x256x4.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks (a value that the
    frame states apart, `kK_payN a…`, keeps its loads inside its own definition). -/
abbrev G3 (a0 : Vec F S2x32768x512 .bf16) : Vec F S2x4x256x128x128 .fp8e4m3 :=
  k0_pay1 (k0_pay5 a0)

/-- A load of the whole of a block reads the block, and the one store through the whole rectangle leaves its payload. -/
theorem out3_eq (a0 : Vec F S2x32768x512 .bf16) : out0_3 (F := F) a0 = G3 a0 := by
  unfold out0_3
  rw [View.canon_unit_zero hz3, View.ld_unit_zero (S := S2x32768x512) hz0 _ a0]

/-- Cutting the point's block out of `X` and reading `X` through the block's view give the same. -/
theorem cut3_eq (t : Fin cfg0.N) (X : Vec F S2x4x256x128x128 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S2x4x256x128x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      kept_main_arg0 m r h c⟩)
    (run_main m ρ)

end Cert.QuantVReferenceIdeal.ValueRun

end
-- ==== Proof.QuantVRef.lean ====
module

public import proofs.«01_k».proof.Proof.QuantVRefRun
public import proofs.«01_k».proof.Proof.QuantSpec
public import Idealize.ShloMosaic.Lib.Pipeline.ValueKit
public import Idealize.ShloMosaic.Lib.Pointwise
public import Idealize.ShloMosaic.Lib.IndicatorCount

/-!
The reference quantiser's values, read at one index.
-/

@[expose] public section

set_option maxRecDepth 16384
set_option maxHeartbeats 1000000

noncomputable section

open Idealize.ShloMosaic Idealize.ShloMosaic.TcCoe Idealize.SL.Sem

namespace Cert.QuantVReferenceIdeal.ValueAt

open Cert.QuantVReferenceIdeal Cert.QuantVReferenceIdeal.Gen Cert.QuantVReferenceIdeal.ValueRun Cert.Spec

/-- The word of minus infinity. -/
theorem negInf : Ideal.ofBits .f32 4286578688#32 = ⊥ := by
  simp [Ideal.ofBits, Ideal.ieee]

/-- The integer of a word of the table of exponents. -/
theorem word_int : ∀ k : Fin 254, (IntOp.addi 4294967170#32 (BitVec.ofNat 32 k.val)).toInt = (k.val : ℤ) - 126 := by
  decide

variable (x : FVec Ideal S2x32768x512 .bf16) (b : Fin 2) (j : Fin 256) (h : Fin 4) (r d : Fin 128)

/-- One block of one head. -/
def blk : Fin 128 → Fin 128 → EReal := fun r d => x (ix3 b ⟨j.val * 128 + r.val, by omega⟩ ⟨h.val * 128 + d.val, by omega⟩)

/-- The largest magnitude of a block, as the maximum over its rows of the maximum of a row. -/
theorem amax_rows (t : Fin 128 → Fin 128 → EReal) :
    (Finset.univ.sup fun r : Fin 128 => Finset.univ.sup fun d : Fin 128 => max (t r d) (-(t r d))) = amax t := by
  unfold amax
  rw [← Finset.univ_product_univ, Finset.sup_product_left]

/-- The exponent of a block. -/
theorem pay3_at (hf : amax (blk x b j h) ≤ most) : k0_pay3 (F := Ideal) x (ix3 b j h) = (((ex (amax (blk x b j h)) : ℤ) : ℝ) : EReal) := by
  rw [← qex_word _ hf]
  have hc : (Finset.univ.fold IntOp.addi 0#32 fun k : Fin 254 => BitVec.setWidth 32 (BitVec.ofBool (decide
      (Ideal.exp2 ((((IntOp.addi 4294967170#32 (BitVec.ofNat 32 k.val)).toInt : ℤ) : ℝ) : EReal) ≤ amax (blk x b j h) * Ideal.ofBits .f32 991054117#32)))) = BitVec.ofNat 32 (cnt (amax (blk x b j h))) := by
    rw [IndicatorCount.fold_addi_setWidth_eq_card]
    unfold cnt
    congr 2
    apply Finset.filter_congr
    intro k _
    rw [exp2_int, word_int]
    by_cases hk : two ((k.val : ℤ) - 126) ≤ amax (blk x b j h) * Ideal.ofBits FTy.f32 991054117#32
    · simp only [hk, recip]; decide
    · simp only [hk, recip]; decide
  have he : (Finset.univ.fold max (⊥ : EReal) fun r : Fin 128 => Finset.univ.fold max (⊥ : EReal) fun d : Fin 128 =>
      (FloatOps.absf (F := Ideal) (φ := .f32) (x (ix3 b ⟨j.val * 128 + r.val, by omega⟩ ⟨h.val * 128 + d.val, by omega⟩)) : EReal)) = amax (blk x b j h) :=
    amax_rows (blk x b j h)
  have hs : ∀ w : BitVec 32, (FloatOps.sitofp (F := Ideal) .f32 w : EReal) = (((w.toInt : ℤ) : ℝ) : EReal) := fun _ => rfl
  have hx : ∀ y : EReal, FloatOps.exp2 (F := Ideal) (φ := .f32) y = Ideal.exp2 y := fun _ => rfl
  pointwise [k0_pay3, k0_pay2]
  simp only [negInf]
  simp only [he, hs, hx]
  simp only [hc]
  rfl

/-- A scale. -/
theorem G2_at (hf : amax (blk x b j h) ≤ most) : G2 (F := Ideal) x (ix3 b j h) = two (ex (amax (blk x b j h))) := by
  rw [← exp2_int, ← pay3_at x b j h hf]
  generalize hX : k0_pay3 (F := Ideal) x = X
  pointwise [k0_pay4]
  rw [hX]
  rfl

/-- A code, at its block, row, head and channel. -/
theorem pay5_at (hf : amax (blk x b j h) ≤ most) : k0_pay5 (F := Ideal) x (ix5 b j r h d) = qcode (amax (blk x b j h)) (blk x b j h r d) := by
  unfold qcode
  rw [← exp2_int, Int.cast_neg, EReal.coe_neg, ← pay3_at x b j h hf]
  generalize hX : k0_pay3 (F := Ideal) x = X
  pointwise [k0_pay5, k0_pay2]
  rw [hX, zero_sub]
  rfl

/-- A code. -/
theorem G1_at (hf : amax (blk x b j h) ≤ most) : G1 (F := Ideal) x (ix3 b ⟨j.val * 128 + r.val, by omega⟩ ⟨h.val * 128 + d.val, by omega⟩)
    = qcode (amax (blk x b j h)) (blk x b j h r d) := by
  rw [← pay5_at x b j h r d hf]
  generalize hX : k0_pay5 (F := Ideal) x = X
  pointwise [k0_pay6]
  rw [hX]

/-- A code, in the array of transposed blocks. -/
theorem G3_at (hf : amax (blk x b j h) ≤ most) : G3 (F := Ideal) x (ix5 b h j d r)
    = qcode (amax (blk x b j h)) (blk x b j h r d) := by
  rw [← pay5_at x b j h r d hf]
  generalize hX : k0_pay5 (F := Ideal) x = X
  pointwise [k0_pay1]
  rw [hX]

end Cert.QuantVReferenceIdeal.ValueAt
end
-- ==== Proof.QuantVKer.lean ====
module

public import proofs.«01_k».proof.Proof.Gen.QuantVIdeal.Value
public import proofs.«01_k».proof.Proof.QuantHead
public import proofs.«01_k».proof.Proof.QuantVRef
public import Idealize.ShloMosaic.Lib.Pipeline.ValueKit
public import Idealize.ShloMosaic.Lib.Pointwise

/-!
The quantise kernel's result arrays: the codes and the scales the reference computes.
-/

@[expose] public section

set_option maxRecDepth 16384

noncomputable section

open Idealize.ShloMosaic Idealize.ShloMosaic.TcCoe Idealize.SL.Sem
open Idealize.ShloMosaic.Pipeline (Dat Cfg Window)

namespace Cert.QuantVIdeal.ValueArray

open Cert.QuantVIdeal Cert.QuantVIdeal.Gen Cert.Spec
open Cert.QuantKIdeal.Value (hb codes codes_at rows rows_at scales scales_at)

variable (x0 : Vec Ideal S1x1024x512 .bf16)

/-- One block of one head of a tile. -/
def cell (j : Fin 8) (h : Fin 4) : Fin 128 → Fin 128 → EReal :=
  fun r d => x0 (ix3 0 ⟨j.val * 128 + r.val, by omega⟩ ⟨h.val * 128 + d.val, by omega⟩)

/-- The codes of a tile. -/
def E1 : Vec Ideal S1x1024x512 .fp8e4m3 := fun y =>
  qcode (amax (cell x0 ⟨(y 1).val / 128, Nat.div_lt_of_lt_mul (y 1).isLt⟩ ⟨(y 2).val / 128, Nat.div_lt_of_lt_mul (y 2).isLt⟩)) (x0 y)

/-- A code of a tile, by its block, head, row and channel. -/
theorem E1_at (j : Fin 8) (h : Fin 4) (r d : Fin 128) : E1 x0 (ix3 0 ⟨j.val * 128 + r.val, by omega⟩ ⟨h.val * 128 + d.val, by omega⟩)
    = qcode (amax (cell x0 j h)) (cell x0 j h r d) := by
  have ej : (⟨(j.val * 128 + r.val) / 128, by omega⟩ : Fin 8) = j := Fin.ext (by show (j.val * 128 + r.val) / 128 = j.val; omega)
  have eh : (⟨(h.val * 128 + d.val) / 128, by omega⟩ : Fin 4) = h := Fin.ext (by show (h.val * 128 + d.val) / 128 = h.val; omega)
  show qcode (amax (cell x0 ⟨(j.val * 128 + r.val) / 128, by omega⟩ ⟨(h.val * 128 + d.val) / 128, by omega⟩)) _ = _
  rw [ej, eh]
  rfl

/-- An index of a head's columns, by its block, row and channel. -/
theorem split (x : S1x1024x128.Idx) : ∃ (j : Fin 8) (r d : Fin 128), x = ix3 0 ⟨j.val * 128 + r.val, by omega⟩ d :=
  ⟨⟨(x 1).val / 128, Nat.div_lt_of_lt_mul (x 1).isLt⟩, ⟨(x 1).val % 128, Nat.mod_lt _ (by norm_num)⟩, x 2, by
    funext a
    fin_cases a
    · exact Subsingleton.elim (α := Fin 1) _ _
    · exact Fin.ext (by show (x 1).val = (x 1).val / 128 * 128 + (x 1).val % 128; omega)
    · rfl⟩

/-- The block of a head's columns is the tile's block of that head. -/
theorem hb_eq (h : Fin 4) (v : Vec Ideal S1x1024x128 .bf16)
    (hv : ∀ (n : Fin 1024) (d : Fin 128), v (ix3 0 n d) = x0 (ix3 0 n ⟨h.val * 128 + d.val, by omega⟩)) (j : Fin 8) : hb v j = cell x0 j h :=
  funext fun r => funext fun d => hv _ _

/-- The columns of head 0. -/
theorem ld0 (n : Fin 1024) (d : Fin 128) : View.ld x0 r0_0 (ix3 0 n d) = x0 (ix3 0 n ⟨(0 : Fin 4).val * 128 + d.val, by show 0 * 128 + d.val < 512; omega⟩) :=
  congrArg x0 (funext fun a => Fin.ext (by
    fin_cases a
    · show 0 + 0 * 1 = 0; rfl
    · show 0 + 1 * n.val = n.val; omega
    · show 0 + 1 * d.val = 0 * 128 + d.val; omega))

/-- The columns of head 1. -/
theorem ld1 (n : Fin 1024) (d : Fin 128) : View.ld x0 r0_9 (ix3 0 n d) = x0 (ix3 0 n ⟨(1 : Fin 4).val * 128 + d.val, by show 1 * 128 + d.val < 512; omega⟩) :=
  congrArg x0 (funext fun a => Fin.ext (by
    fin_cases a
    · show 0 + 0 * 1 = 0; rfl
    · show 0 + 1 * n.val = n.val; omega
    · show 128 + 1 * d.val = 1 * 128 + d.val; omega))

/-- The columns of head 2. -/
theorem ld2 (n : Fin 1024) (d : Fin 128) : View.ld x0 r0_18 (ix3 0 n d) = x0 (ix3 0 n ⟨(2 : Fin 4).val * 128 + d.val, by show 2 * 128 + d.val < 512; omega⟩) :=
  congrArg x0 (funext fun a => Fin.ext (by
    fin_cases a
    · show 0 + 0 * 1 = 0; rfl
    · show 0 + 1 * n.val = n.val; omega
    · show 256 + 1 * d.val = 2 * 128 + d.val; omega))

/-- The columns of head 3. -/
theorem ld3 (n : Fin 1024) (d : Fin 128) : View.ld x0 r0_27 (ix3 0 n d) = x0 (ix3 0 n ⟨(3 : Fin 4).val * 128 + d.val, by show 3 * 128 + d.val < 512; omega⟩) :=
  congrArg x0 (funext fun a => Fin.ext (by
    fin_cases a
    · show 0 + 0 * 1 = 0; rfl
    · show 0 + 1 * n.val = n.val; omega
    · show 384 + 1 * d.val = 3 * 128 + d.val; omega))

/-- The codes stored of head 0 are the one head's function of its columns. -/
theorem same0 : k0_pay10 (k0_pay69 x0) (Scalar.ofBits (F := Ideal) .f32 0x43E00000#32) (k0_pay70 x0) = rows (View.ld x0 r0_0) := rfl

/-- The codes stored of head 1 are the one head's function of its columns. -/
theorem same1 : k0_pay26 (k0_pay72 x0) (k0_pay73 x0) = rows (View.ld x0 r0_9) := rfl

/-- The codes stored of head 2 are the one head's function of its columns. -/
theorem same2 : k0_pay43 (k0_pay75 x0) (k0_pay76 x0) (k0_pay77 x0) = rows (View.ld x0 r0_18) := rfl

/-- The codes stored of head 3 are the one head's function of its columns. -/
theorem same3 : k0_pay58 (k0_pay79 x0) (k0_pay80 x0) = rows (View.ld x0 r0_27) := rfl

variable (hf : ∀ (j : Fin 8) (h : Fin 4), amax (cell x0 j h) ≤ most)
include hf

/-- A stored head of codes is the tile's codes at its place. -/
theorem piece1 (h : Fin 4) (v : Vec Ideal S1x1024x128 .bf16)
    (hv : ∀ (n : Fin 1024) (d : Fin 128), v (ix3 0 n d) = x0 (ix3 0 n ⟨h.val * 128 + d.val, by omega⟩)) (x : S1x1024x128.Idx) (y : S1x1024x512.Idx)
    (hy : ∀ (n : Fin 1024) (d : Fin 128), x = ix3 0 n d → y = ix3 0 n ⟨h.val * 128 + d.val, by omega⟩) : rows v x = E1 x0 y := by
  obtain ⟨j, r, d, rfl⟩ := split x
  rw [hy _ _ rfl, E1_at, rows_at v j r d (by rw [hb_eq x0 h v hv]; exact hf j h), hb_eq x0 h v hv]

/-- The body's codes. -/
theorem out1_eq : out0_1 (F := Ideal) x0 = E1 x0 := by
  funext y
  unfold out0_1
  refine View.canon_apply_of_pieces (E1 x0) _ ?_ y (cover0_1 _ _ _ _ y)
  intro pc hpc
  rcases List.mem_cons.mp hpc with rfl | hpc
  · intro x
    refine (congrFun (same3 x0) x).trans (piece1 x0 hf 3 _ (ld3 x0) x _ ?_)
    rintro n d rfl
    exact funext fun a => Fin.ext (by
      fin_cases a
      · show 0 + 0 * 1 = 0; rfl
      · show 0 + 1 * n.val = n.val; omega
      · show 384 + 1 * d.val = 3 * 128 + d.val; omega)
  rcases List.mem_cons.mp hpc with rfl | hpc
  · intro x
    refine (congrFun (same2 x0) x).trans (piece1 x0 hf 2 _ (ld2 x0) x _ ?_)
    rintro n d rfl
    exact funext fun a => Fin.ext (by
      fin_cases a
      · show 0 + 0 * 1 = 0; rfl
      · show 0 + 1 * n.val = n.val; omega
      · show 256 + 1 * d.val = 2 * 128 + d.val; omega)
  rcases List.mem_cons.mp hpc with rfl | hpc
  · intro x
    refine (congrFun (same1 x0) x).trans (piece1 x0 hf 1 _ (ld1 x0) x _ ?_)
    rintro n d rfl
    exact funext fun a => Fin.ext (by
      fin_cases a
      · show 0 + 0 * 1 = 0; rfl
      · show 0 + 1 * n.val = n.val; omega
      · show 128 + 1 * d.val = 1 * 128 + d.val; omega)
  rcases List.mem_cons.mp hpc with rfl | hpc
  · intro x
    refine (congrFun (same0 x0) x).trans (piece1 x0 hf 0 _ (ld0 x0) x _ ?_)
    rintro n d rfl
    exact funext fun a => Fin.ext (by
      fin_cases a
      · show 0 + 0 * 1 = 0; rfl
      · show 0 + 1 * n.val = n.val; omega
      · show 0 + 1 * d.val = 0 * 128 + d.val; omega)
  exact nomatch hpc

omit hf in
/-- One step of collecting the scales: the column of head `w` takes that head's scales. -/
def step (w : BitVec 32) (X : FVec Ideal S8x4 .f32) (s : FVec Ideal S8x1x1 .f32) : FVec Ideal S8x4 .f32 :=
  select (cmpi .eq (iota .tc S8x4 32 [1] iota_S8x4_d1_w32) (broadcast S8x4 w))
    (broadcastTo S8x4 (shapeCast S8x1 (shapeCast S8x1 s shapeCasts_S8x1x1_S8x1) shapeCasts_S8x1_S8x1) broadcasts_S8x1_S8x4) X

omit hf in
/-- A step read at a block and a head. -/
theorem step_at (w : BitVec 32) (X : FVec Ideal S8x4 .f32) (s : FVec Ideal S8x1x1 .f32) (j : Fin 8) (h : Fin 4) :
    step w X s (ix2 j h) = Scalar.select (IntOp.cmpi .eq (BitVec.ofNat 32 h.val) w) (s (ix3 j 0 0)) (X (ix2 j h)) := by
  pointwise [step]

omit hf in
/-- The collected scales as a tile. -/
def store (X : FVec Ideal S8x4 .f32) : FVec Ideal S1x8x4 .f32 := shapeCast S1x8x4 X shapeCasts_S8x4_S1x8x4

omit hf in
/-- The body's scales, collected head by head. -/
theorem scales_same : k0_pay3 (k0_pay59 (k0_pay68 x0) (k0_pay44 (k0_pay68 x0) (k0_pay27 (k0_pay68 x0) (k0_pay11 (k0_pay68 x0) (k0_pay4 (F := Ideal)) (k0_pay6 (View.ld x0 r0_0))) (k0_pay23 (View.ld x0 r0_9))) (k0_pay39 (View.ld x0 r0_18))) (k0_pay80 x0))
    = store (step 3#32 (step 2#32 (step 1#32 (step 0#32 (broadcast S8x4 (Scalar.ofBits (F := Ideal) .f32 0x00000000#32)) (scales (View.ld x0 r0_0))) (scales (View.ld x0 r0_9))) (scales (View.ld x0 r0_18))) (scales (View.ld x0 r0_27))) := rfl

omit hf in
/-- The collected scales stored as a tile. -/
theorem store_at (X : FVec Ideal S8x4 .f32) (j : Fin 8) (h : Fin 4) : store X (ix3 0 j h) = X (ix2 j h) := by
  pointwise [store]

/-- One head's scale is the tile's. -/
theorem sc (h : Fin 4) (v : Vec Ideal S1x1024x128 .bf16)
    (hv : ∀ (n : Fin 1024) (d : Fin 128), v (ix3 0 n d) = x0 (ix3 0 n ⟨h.val * 128 + d.val, by omega⟩)) (j : Fin 8) :
    scales v (ix3 j 0 0) = two (ex (amax (cell x0 j h))) := by
  rw [scales_at v j (by rw [hb_eq x0 h v hv]; exact hf j h), hb_eq x0 h v hv]

omit hf in
/-- The offsets of a whole tile. -/
theorem hz : (![0, 0, 0] : Fin 3 → Nat) = fun _ => 0 := funext fun a => by fin_cases a <;> rfl

omit hf in
/-- Choosing on a true bit. -/
theorem sel1 (a b : EReal) : Scalar.select 1#1 a b = a := rfl

omit hf in
/-- Choosing on a false bit. -/
theorem sel0 (a b : EReal) : Scalar.select 0#1 a b = b := rfl

/-- The body's scales. -/
theorem out2_at (j : Fin 8) (h : Fin 4) : out0_2 (F := Ideal) x0 (ix3 0 j h) = two (ex (amax (cell x0 j h))) := by
  unfold out0_2
  rw [View.canon_unit_zero hz, scales_same, store_at]
  simp only [step_at, sc x0 hf 0 _ (ld0 x0), sc x0 hf 1 _ (ld1 x0), sc x0 hf 2 _ (ld2 x0), sc x0 hf 3 _ (ld3 x0)]
  fin_cases h
  · rfl
  · rfl
  · rfl
  · rfl

omit hf in
/-- The codes of a tile, head by head and block by block, each block transposed. -/
def E3 : Vec Ideal S1x4x8x128x128 .fp8e4m3 := fun y => E1 x0 (ix3 0 ⟨(y 2).val * 128 + (y 4).val, by
  have h2 : (y 2).val < 8 := (y 2).isLt
  have h4 : (y 4).val < 128 := (y 4).isLt
  omega⟩ ⟨(y 1).val * 128 + (y 3).val, by
  have h1 : (y 1).val < 4 := (y 1).isLt
  have h3 : (y 3).val < 128 := (y 3).isLt
  omega⟩)

omit hf in
/-- A code of a tile, by its head, block, channel and row. -/
theorem E3_at (j : Fin 8) (h : Fin 4) (r d : Fin 128) : E3 x0 (ix5 0 h j d r)
    = qcode (amax (cell x0 j h)) (cell x0 j h r d) := E1_at x0 j h r d

omit hf in
/-- Block 0 of a head's codes, transposed. -/
def tail0 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![0, 0, 0] X slices_S8x128x128_o0_0_0_S1x128x128)
    shapeCasts_S1x128x128_S128x128) transposes_S128x128_p1_0_S128x128) bitsLt_fp8e4m3_f32) shapeCasts_S128x128_S1x1x1x128x128

omit hf in
/-- It read at an index. -/
theorem tail0_at (X : FVec Ideal S8x128x128 .f32) (d r : Fin 128) : tail0 X (ix5 0 0 0 d r) = X (ix3 0 r d) := by
  pointwise [tail0]

omit hf in
/-- Block 1 of a head's codes, transposed. -/
def tail1 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![1, 0, 0] X slices_S8x128x128_o1_0_0_S1x128x128)
    shapeCasts_S1x128x128_S128x128) transposes_S128x128_p1_0_S128x128) bitsLt_fp8e4m3_f32) shapeCasts_S128x128_S1x1x1x128x128

omit hf in
/-- It read at an index. -/
theorem tail1_at (X : FVec Ideal S8x128x128 .f32) (d r : Fin 128) : tail1 X (ix5 0 0 0 d r) = X (ix3 1 r d) := by
  pointwise [tail1]

omit hf in
/-- Block 2 of a head's codes, transposed. -/
def tail2 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![2, 0, 0] X slices_S8x128x128_o2_0_0_S1x128x128)
    shapeCasts_S1x128x128_S128x128) transposes_S128x128_p1_0_S128x128) bitsLt_fp8e4m3_f32) shapeCasts_S128x128_S1x1x1x128x128

omit hf in
/-- It read at an index. -/
theorem tail2_at (X : FVec Ideal S8x128x128 .f32) (d r : Fin 128) : tail2 X (ix5 0 0 0 d r) = X (ix3 2 r d) := by
  pointwise [tail2]

omit hf in
/-- Block 3 of a head's codes, transposed. -/
def tail3 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![3, 0, 0] X slices_S8x128x128_o3_0_0_S1x128x128)
    shapeCasts_S1x128x128_S128x128) transposes_S128x128_p1_0_S128x128) bitsLt_fp8e4m3_f32) shapeCasts_S128x128_S1x1x1x128x128

omit hf in
/-- It read at an index. -/
theorem tail3_at (X : FVec Ideal S8x128x128 .f32) (d r : Fin 128) : tail3 X (ix5 0 0 0 d r) = X (ix3 3 r d) := by
  pointwise [tail3]

omit hf in
/-- Block 4 of a head's codes, transposed. -/
def tail4 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![4, 0, 0] X slices_S8x128x128_o4_0_0_S1x128x128)
    shapeCasts_S1x128x128_S128x128) transposes_S128x128_p1_0_S128x128) bitsLt_fp8e4m3_f32) shapeCasts_S128x128_S1x1x1x128x128

omit hf in
/-- It read at an index. -/
theorem tail4_at (X : FVec Ideal S8x128x128 .f32) (d r : Fin 128) : tail4 X (ix5 0 0 0 d r) = X (ix3 4 r d) := by
  pointwise [tail4]

omit hf in
/-- Block 5 of a head's codes, transposed. -/
def tail5 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![5, 0, 0] X slices_S8x128x128_o5_0_0_S1x128x128)
    shapeCasts_S1x128x128_S128x128) transposes_S128x128_p1_0_S128x128) bitsLt_fp8e4m3_f32) shapeCasts_S128x128_S1x1x1x128x128

omit hf in
/-- It read at an index. -/
theorem tail5_at (X : FVec Ideal S8x128x128 .f32) (d r : Fin 128) : tail5 X (ix5 0 0 0 d r) = X (ix3 5 r d) := by
  pointwise [tail5]

omit hf in
/-- Block 6 of a head's codes, transposed. -/
def tail6 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![6, 0, 0] X slices_S8x128x128_o6_0_0_S1x128x128)
    shapeCasts_S1x128x128_S128x128) transposes_S128x128_p1_0_S128x128) bitsLt_fp8e4m3_f32) shapeCasts_S128x128_S1x1x1x128x128

omit hf in
/-- It read at an index. -/
theorem tail6_at (X : FVec Ideal S8x128x128 .f32) (d r : Fin 128) : tail6 X (ix5 0 0 0 d r) = X (ix3 6 r d) := by
  pointwise [tail6]

omit hf in
/-- Block 7 of a head's codes, transposed. -/
def tail7 (X : FVec Ideal S8x128x128 .f32) : FVec Ideal S1x1x1x128x128 .fp8e4m3 :=
  shapeCast S1x1x1x128x128 (truncf .fp8e4m3 (transpose S128x128 [1, 0] (shapeCast S128x128 (extractStridedSlice S1x128x128 ![7, 0, 0] X slices_S8x128x128_o7_0_0_S1x128x128)
    shapeCasts_S1x128x128_S128x128) transposes_S128x128_p1_0_S128x128) bitsLt_fp8e4m3_f32) shapeCasts_S128x128_S1x1x1x128x128

omit hf in
/-- It read at an index. -/
theorem tail7_at (X : FVec Ideal S8x128x128 .f32) (d r : Fin 128) : tail7 X (ix5 0 0 0 d r) = X (ix3 7 r d) := by
  pointwise [tail7]

/-- A transposed block is the tile's codes at its place. -/
theorem piece3 (h : Fin 4) (v : Vec Ideal S1x1024x128 .bf16)
    (hv : ∀ (n : Fin 1024) (d : Fin 128), v (ix3 0 n d) = x0 (ix3 0 n ⟨h.val * 128 + d.val, by omega⟩)) (j : Fin 8)
    (tl : FVec Ideal S8x128x128 .f32 → FVec Ideal S1x1x1x128x128 .fp8e4m3)
    (htl : ∀ (X : FVec Ideal S8x128x128 .f32) (d r : Fin 128), tl X (ix5 0 0 0 d r) = X (ix3 j r d)) (x : S1x1x1x128x128.Idx) (y : S1x4x8x128x128.Idx)
    (hy : ∀ d r : Fin 128, x = ix5 0 0 0 d r → y = ix5 0 h j d r) : tl (codes v) x = E3 x0 y := by
  obtain ⟨d, r, rfl⟩ : ∃ d r : Fin 128, x = ix5 0 0 0 d r :=
    ⟨x 3, x 4, by
      funext a
      fin_cases a
      · exact Subsingleton.elim (α := Fin 1) _ _
      · exact Subsingleton.elim (α := Fin 1) _ _
      · exact Subsingleton.elim (α := Fin 1) _ _
      · rfl
      · rfl⟩
  rw [hy _ _ rfl, E3_at, htl, codes_at v j r d (by rw [hb_eq x0 h v hv]; exact hf j h), hb_eq x0 h v hv]

omit hf in
/-- Block 0 of head 0, stored transposed. -/
theorem alone0_0 : k0_pay12 (k0_pay69 x0) (Scalar.ofBits (F := Ideal) .f32 0x43E00000#32) (k0_pay70 x0) = tail0 (codes (View.ld x0 r0_0)) := rfl

omit hf in
/-- Block 1 of head 0, stored transposed. -/
theorem alone0_1 : k0_pay13 (k0_pay69 x0) (Scalar.ofBits (F := Ideal) .f32 0x43E00000#32) (k0_pay70 x0) = tail1 (codes (View.ld x0 r0_0)) := rfl

omit hf in
/-- Block 2 of head 0, stored transposed. -/
theorem alone0_2 : k0_pay15 (k0_pay14 (k0_pay69 x0) (Scalar.ofBits (F := Ideal) .f32 0x43E00000#32) (k0_pay70 x0)) = tail2 (codes (View.ld x0 r0_0)) := rfl

omit hf in
/-- Block 3 of head 0, stored transposed. -/
theorem alone0_3 : k0_pay16 (k0_pay71 x0) = tail3 (codes (View.ld x0 r0_0)) := rfl

omit hf in
/-- Block 4 of head 0, stored transposed. -/
theorem alone0_4 : k0_pay17 (k0_pay71 x0) = tail4 (codes (View.ld x0 r0_0)) := rfl

omit hf in
/-- Block 5 of head 0, stored transposed. -/
theorem alone0_5 : k0_pay18 (k0_pay71 x0) = tail5 (codes (View.ld x0 r0_0)) := rfl

omit hf in
/-- Block 6 of head 0, stored transposed. -/
theorem alone0_6 : k0_pay19 (k0_pay71 x0) = tail6 (codes (View.ld x0 r0_0)) := rfl

omit hf in
/-- Block 7 of head 0, stored transposed. -/
theorem alone0_7 : k0_pay21 (k0_pay20 (k0_pay71 x0)) = tail7 (codes (View.ld x0 r0_0)) := rfl

omit hf in
/-- Block 0 of head 1, stored transposed. -/
theorem alone1_0 : k0_pay28 (k0_pay72 x0) (k0_pay73 x0) = tail0 (codes (View.ld x0 r0_9)) := rfl

omit hf in
/-- Block 1 of head 1, stored transposed. -/
theorem alone1_1 : k0_pay29 (k0_pay72 x0) (k0_pay73 x0) = tail1 (codes (View.ld x0 r0_9)) := rfl

omit hf in
/-- Block 2 of head 1, stored transposed. -/
theorem alone1_2 : k0_pay31 (k0_pay30 (k0_pay72 x0) (k0_pay73 x0)) = tail2 (codes (View.ld x0 r0_9)) := rfl

omit hf in
/-- Block 3 of head 1, stored transposed. -/
theorem alone1_3 : k0_pay32 (k0_pay74 x0) = tail3 (codes (View.ld x0 r0_9)) := rfl

omit hf in
/-- Block 4 of head 1, stored transposed. -/
theorem alone1_4 : k0_pay33 (k0_pay74 x0) = tail4 (codes (View.ld x0 r0_9)) := rfl

omit hf in
/-- Block 5 of head 1, stored transposed. -/
theorem alone1_5 : k0_pay34 (k0_pay74 x0) = tail5 (codes (View.ld x0 r0_9)) := rfl

omit hf in
/-- Block 6 of head 1, stored transposed. -/
theorem alone1_6 : k0_pay36 (k0_pay35 (k0_pay74 x0)) = tail6 (codes (View.ld x0 r0_9)) := rfl

omit hf in
/-- Block 7 of head 1, stored transposed. -/
theorem alone1_7 : k0_pay37 (k0_pay74 x0) = tail7 (codes (View.ld x0 r0_9)) := rfl

omit hf in
/-- Block 0 of head 2, stored transposed. -/
theorem alone2_0 : k0_pay45 (k0_pay75 x0) (k0_pay76 x0) (k0_pay77 x0) = tail0 (codes (View.ld x0 r0_18)) := rfl

omit hf in
/-- Block 1 of head 2, stored transposed. -/
theorem alone2_1 : k0_pay47 (k0_pay46 (k0_pay75 x0) (k0_pay76 x0) (k0_pay77 x0)) = tail1 (codes (View.ld x0 r0_18)) := rfl

omit hf in
/-- Block 2 of head 2, stored transposed. -/
theorem alone2_2 : k0_pay48 (k0_pay78 x0) = tail2 (codes (View.ld x0 r0_18)) := rfl

omit hf in
/-- Block 3 of head 2, stored transposed. -/
theorem alone2_3 : k0_pay49 (k0_pay78 x0) = tail3 (codes (View.ld x0 r0_18)) := rfl

omit hf in
/-- Block 4 of head 2, stored transposed. -/
theorem alone2_4 : k0_pay50 (k0_pay78 x0) = tail4 (codes (View.ld x0 r0_18)) := rfl

omit hf in
/-- Block 5 of head 2, stored transposed. -/
theorem alone2_5 : k0_pay51 (k0_pay78 x0) = tail5 (codes (View.ld x0 r0_18)) := rfl

omit hf in
/-- Block 6 of head 2, stored transposed. -/
theorem alone2_6 : k0_pay53 (k0_pay52 (k0_pay78 x0)) = tail6 (codes (View.ld x0 r0_18)) := rfl

omit hf in
/-- Block 7 of head 2, stored transposed. -/
theorem alone2_7 : k0_pay54 (k0_pay78 x0) = tail7 (codes (View.ld x0 r0_18)) := rfl

omit hf in
/-- Block 0 of head 3, stored transposed. -/
theorem alone3_0 : k0_pay60 (k0_pay79 x0) (k0_pay80 x0) = tail0 (codes (View.ld x0 r0_27)) := rfl

omit hf in
/-- Block 1 of head 3, stored transposed. -/
theorem alone3_1 : k0_pay62 (k0_pay61 (k0_pay79 x0) (k0_pay80 x0)) = tail1 (codes (View.ld x0 r0_27)) := rfl

omit hf in
/-- Block 2 of head 3, stored transposed. -/
theorem alone3_2 : k0_pay63 (k0_pay81 x0) = tail2 (codes (View.ld x0 r0_27)) := rfl

omit hf in
/-- Block 3 of head 3, stored transposed. -/
theorem alone3_3 : k0_pay64 (k0_pay81 x0) = tail3 (codes (View.ld x0 r0_27)) := rfl

omit hf in
/-- Block 4 of head 3, stored transposed. -/
theorem alone3_4 : k0_pay65 (k0_pay81 x0) = tail4 (codes (View.ld x0 r0_27)) := rfl

omit hf in
/-- Block 5 of head 3, stored transposed. -/
theorem alone3_5 : k0_pay66 (k0_pay81 x0) = tail5 (codes (View.ld x0 r0_27)) := rfl

omit hf in
/-- Block 6 of head 3, stored transposed. -/
theorem alone3_6 : k0_pay1 (k0_pay67 (k0_pay81 x0)) = tail6 (codes (View.ld x0 r0_27)) := rfl

omit hf in
/-- Block 7 of head 3, stored transposed. -/
theorem alone3_7 : k0_pay2 (k0_pay81 x0) = tail7 (codes (View.ld x0 r0_27)) := rfl

/-- The body's third result: the codes head by head. -/
theorem out3_eq : out0_3 (F := Ideal) x0 = E3 x0 := by
  funext y
  unfold out0_3
  refine View.canon_apply_of_pieces (E3 x0) _ ?_ y (cover0_3 _ _ _ _ _ _ _ _ _ _ _ _ _ _ _ _ _ _ _ _ _ _ _ _ _ _ _ _ _ _ _ _ y)
  intro pc hpc
  rcases List.mem_cons.mp hpc with rfl | hpc
  · intro x
    refine (congrFun (alone3_7 x0) x).trans (piece3 x0 hf 3 _ (ld3 x0) 7 _ tail7_at x _ ?_)
    rintro d r rfl
    exact funext fun a => Fin.ext (by
      fin_cases a
      · show 0 + 1 * 0 = 0; rfl
      · show 3 + 1 * 0 = 3; rfl
      · show 7 + 1 * 0 = 7; rfl
      · show 0 + 1 * d.val = d.val; omega
      · show 0 + 1 * r.val = r.val; omega)
  rcases List.mem_cons.mp hpc with rfl | hpc
  · intro x
    refine (congrFun (alone3_6 x0) x).trans (piece3 x0 hf 3 _ (ld3 x0) 6 _ tail6_at x _ ?_)
    rintro d r rfl
    exact funext fun a => Fin.ext (by
      fin_cases a
      · show 0 + 1 * 0 = 0; rfl
      · show 3 + 1 * 0 = 3; rfl
      · show 6 + 1 * 0 = 6; rfl
      · show 0 + 1 * d.val = d.val; omega
      · show 0 + 1 * r.val = r.val; omega)
  rcases List.mem_cons.mp hpc with rfl | hpc
  · intro x
    refine (congrFun (alone3_5 x0) x).trans (piece3 x0 hf 3 _ (ld3 x0) 5 _ tail5_at x _ ?_)
    rintro d r rfl
    exact funext fun a => Fin.ext (by
      fin_cases a
      · show 0 + 1 * 0 = 0; rfl
      · show 3 + 1 * 0 = 3; rfl
      · show 5 + 1 * 0 = 5; rfl
      · show 0 + 1 * d.val = d.val; omega
      · show 0 + 1 * r.val = r.val; omega)
  rcases List.mem_cons.mp hpc with rfl | hpc
  · intro x
    refine (congrFun (alone3_4 x0) x).trans (piece3 x0 hf 3 _ (ld3 x0) 4 _ tail4_at x _ ?_)
    rintro d r rfl
    exact funext fun a => Fin.ext (by
      fin_cases a
      · show 0 + 1 * 0 = 0; rfl
      · show 3 + 1 * 0 = 3; rfl
      · show 4 + 1 * 0 = 4; rfl
      · show 0 + 1 * d.val = d.val; omega
      · show 0 + 1 * r.val = r.val; omega)
  rcases List.mem_cons.mp hpc with rfl | hpc
  · intro x
    refine (congrFun (alone3_3 x0) x).trans (piece3 x0 hf 3 _ (ld3 x0) 3 _ tail3_at x _ ?_)
    rintro d r rfl
    exact funext fun a => Fin.ext (by
      fin_cases a
      · show 0 + 1 * 0 = 0; rfl
      · show 3 + 1 * 0 = 3; rfl
      · show 3 + 1 * 0 = 3; rfl
      · show 0 + 1 * d.val = d.val; omega
      · show 0 + 1 * r.val = r.val; omega)
  rcases List.mem_cons.mp hpc with rfl | hpc
  · intro x
    refine (congrFun (alone3_2 x0) x).trans (piece3 x0 hf 3 _ (ld3 x0) 2 _ tail2_at x _ ?_)
    rintro d r rfl
    exact funext fun a => Fin.ext (by
      fin_cases a
      · show 0 + 1 * 0 = 0; rfl
      · show 3 + 1 * 0 = 3; rfl
      · show 2 + 1 * 0 = 2; rfl
      · show 0 + 1 * d.val = d.val; omega
      · show 0 + 1 * r.val = r.val; omega)
  rcases List.mem_cons.mp hpc with rfl | hpc
  · intro x
    refine (congrFun (alone3_1 x0) x).trans (piece3 x0 hf 3 _ (ld3 x0) 1 _ tail1_at x _ ?_)
    rintro d r rfl
    exact funext fun a => Fin.ext (by
      fin_cases a
      · show 0 + 1 * 0 = 0; rfl
      · show 3 + 1 * 0 = 3; rfl
      · show 1 + 1 * 0 = 1; rfl
      · show 0 + 1 * d.val = d.val; omega
      · show 0 + 1 * r.val = r.val; omega)
  rcases List.mem_cons.mp hpc with rfl | hpc
  · intro x
    refine (congrFun (alone3_0 x0) x).trans (piece3 x0 hf 3 _ (ld3 x0) 0 _ tail0_at x _ ?_)
    rintro d r rfl
    exact funext fun a => Fin.ext (by
      fin_cases a
      · show 0 + 1 * 0 = 0; rfl
      · show 3 + 1 * 0 = 3; rfl
      · show 0 + 1 * 0 = 0; rfl
      · show 0 + 1 * d.val = d.val; omega
      · show 0 + 1 * r.val = r.val; omega)
  rcases List.mem_cons.mp hpc with rfl | hpc
  · intro x
    refine (congrFun (alone2_7 x0) x).trans (piece3 x0 hf 2 _ (ld2 x0) 7 _ tail7_at x _ ?_)
    rintro d r rfl
    exact funext fun a => Fin.ext (by
      fin_cases a
      · show 0 + 1 * 0 = 0; rfl
      · show 2 + 1 * 0 = 2; rfl
      · show 7 + 1 * 0 = 7; rfl
      · show 0 + 1 * d.val = d.val; omega
      · show 0 + 1 * r.val = r.val; omega)
  rcases List.mem_cons.mp hpc with rfl | hpc
  · intro x
    refine (congrFun (alone2_6 x0) x).trans (piece3 x0 hf 2 _ (ld2 x0) 6 _ tail6_at x _ ?_)
    rintro d r rfl
    exact funext fun a => Fin.ext (by
      fin_cases a
      · show 0 + 1 * 0 = 0; rfl
      · show 2 + 1 * 0 = 2; rfl
      · show 6 + 1 * 0 = 6; rfl
      · show 0 + 1 * d.val = d.val; omega
      · show 0 + 1 * r.val = r.val; omega)
  rcases List.mem_cons.mp hpc with rfl | hpc
  · intro x
    refine (congrFun (alone2_5 x0) x).trans (piece3 x0 hf 2 _ (ld2 x0) 5 _ tail5_at x _ ?_)
    rintro d r rfl
    exact funext fun a => Fin.ext (by
      fin_cases a
      · show 0 + 1 * 0 = 0; rfl
      · show 2 + 1 * 0 = 2; rfl
      · show 5 + 1 * 0 = 5; rfl
      · show 0 + 1 * d.val = d.val; omega
      · show 0 + 1 * r.val = r.val; omega)
  rcases List.mem_cons.mp hpc with rfl | hpc
  · intro x
    refine (congrFun (alone2_4 x0) x).trans (piece3 x0 hf 2 _ (ld2 x0) 4 _ tail4_at x _ ?_)
    rintro d r rfl
    exact funext fun a => Fin.ext (by
      fin_cases a
      · show 0 + 1 * 0 = 0; rfl
      · show 2 + 1 * 0 = 2; rfl
      · show 4 + 1 * 0 = 4; rfl
      · show 0 + 1 * d.val = d.val; omega
      · show 0 + 1 * r.val = r.val; omega)
  rcases List.mem_cons.mp hpc with rfl | hpc
  · intro x
    refine (congrFun (alone2_3 x0) x).trans (piece3 x0 hf 2 _ (ld2 x0) 3 _ tail3_at x _ ?_)
    rintro d r rfl
    exact funext fun a => Fin.ext (by
      fin_cases a
      · show 0 + 1 * 0 = 0; rfl
      · show 2 + 1 * 0 = 2; rfl
      · show 3 + 1 * 0 = 3; rfl
      · show 0 + 1 * d.val = d.val; omega
      · show 0 + 1 * r.val = r.val; omega)
  rcases List.mem_cons.mp hpc with rfl | hpc
  · intro x
    refine (congrFun (alone2_2 x0) x).trans (piece3 x0 hf 2 _ (ld2 x0) 2 _ tail2_at x _ ?_)
    rintro d r rfl
    exact funext fun a => Fin.ext (by
      fin_cases a
      · show 0 + 1 * 0 = 0; rfl
      · show 2 + 1 * 0 = 2; rfl
      · show 2 + 1 * 0 = 2; rfl
      · show 0 + 1 * d.val = d.val; omega
      · show 0 + 1 * r.val = r.val; omega)
  rcases List.mem_cons.mp hpc with rfl | hpc
  · intro x
    refine (congrFun (alone2_1 x0) x).trans (piece3 x0 hf 2 _ (ld2 x0) 1 _ tail1_at x _ ?_)
    rintro d r rfl
    exact funext fun a => Fin.ext (by
      fin_cases a
      · show 0 + 1 * 0 = 0; rfl
      · show 2 + 1 * 0 = 2; rfl
      · show 1 + 1 * 0 = 1; rfl
      · show 0 + 1 * d.val = d.val; omega
      · show 0 + 1 * r.val = r.val; omega)
  rcases List.mem_cons.mp hpc with rfl | hpc
  · intro x
    refine (congrFun (alone2_0 x0) x).trans (piece3 x0 hf 2 _ (ld2 x0) 0 _ tail0_at x _ ?_)
    rintro d r rfl
    exact funext fun a => Fin.ext (by
      fin_cases a
      · show 0 + 1 * 0 = 0; rfl
      · show 2 + 1 * 0 = 2; rfl
      · show 0 + 1 * 0 = 0; rfl
      · show 0 + 1 * d.val = d.val; omega
      · show 0 + 1 * r.val = r.val; omega)
  rcases List.mem_cons.mp hpc with rfl | hpc
  · intro x
    refine (congrFun (alone1_7 x0) x).trans (piece3 x0 hf 1 _ (ld1 x0) 7 _ tail7_at x _ ?_)
    rintro d r rfl
    exact funext fun a => Fin.ext (by
      fin_cases a
      · show 0 + 1 * 0 = 0; rfl
      · show 1 + 1 * 0 = 1; rfl
      · show 7 + 1 * 0 = 7; rfl
      · show 0 + 1 * d.val = d.val; omega
      · show 0 + 1 * r.val = r.val; omega)
  rcases List.mem_cons.mp hpc with rfl | hpc
  · intro x
    refine (congrFun (alone1_6 x0) x).trans (piece3 x0 hf 1 _ (ld1 x0) 6 _ tail6_at x _ ?_)
    rintro d r rfl
    exact funext fun a => Fin.ext (by
      fin_cases a
      · show 0 + 1 * 0 = 0; rfl
      · show 1 + 1 * 0 = 1; rfl
      · show 6 + 1 * 0 = 6; rfl
      · show 0 + 1 * d.val = d.val; omega
      · show 0 + 1 * r.val = r.val; omega)
  rcases List.mem_cons.mp hpc with rfl | hpc
  · intro x
    refine (congrFun (alone1_5 x0) x).trans (piece3 x0 hf 1 _ (ld1 x0) 5 _ tail5_at x _ ?_)
    rintro d r rfl
    exact funext fun a => Fin.ext (by
      fin_cases a
      · show 0 + 1 * 0 = 0; rfl
      · show 1 + 1 * 0 = 1; rfl
      · show 5 + 1 * 0 = 5; rfl
      · show 0 + 1 * d.val = d.val; omega
      · show 0 + 1 * r.val = r.val; omega)
  rcases List.mem_cons.mp hpc with rfl | hpc
  · intro x
    refine (congrFun (alone1_4 x0) x).trans (piece3 x0 hf 1 _ (ld1 x0) 4 _ tail4_at x _ ?_)
    rintro d r rfl
    exact funext fun a => Fin.ext (by
      fin_cases a
      · show 0 + 1 * 0 = 0; rfl
      · show 1 + 1 * 0 = 1; rfl
      · show 4 + 1 * 0 = 4; rfl
      · show 0 + 1 * d.val = d.val; omega
      · show 0 + 1 * r.val = r.val; omega)
  rcases List.mem_cons.mp hpc with rfl | hpc
  · intro x
    refine (congrFun (alone1_3 x0) x).trans (piece3 x0 hf 1 _ (ld1 x0) 3 _ tail3_at x _ ?_)
    rintro d r rfl
    exact funext fun a => Fin.ext (by
      fin_cases a
      · show 0 + 1 * 0 = 0; rfl
      · show 1 + 1 * 0 = 1; rfl
      · show 3 + 1 * 0 = 3; rfl
      · show 0 + 1 * d.val = d.val; omega
      · show 0 + 1 * r.val = r.val; omega)
  rcases List.mem_cons.mp hpc with rfl | hpc
  · intro x
    refine (congrFun (alone1_2 x0) x).trans (piece3 x0 hf 1 _ (ld1 x0) 2 _ tail2_at x _ ?_)
    rintro d r rfl
    exact funext fun a => Fin.ext (by
      fin_cases a
      · show 0 + 1 * 0 = 0; rfl
      · show 1 + 1 * 0 = 1; rfl
      · show 2 + 1 * 0 = 2; rfl
      · show 0 + 1 * d.val = d.val; omega
      · show 0 + 1 * r.val = r.val; omega)
  rcases List.mem_cons.mp hpc with rfl | hpc
  · intro x
    refine (congrFun (alone1_1 x0) x).trans (piece3 x0 hf 1 _ (ld1 x0) 1 _ tail1_at x _ ?_)
    rintro d r rfl
    exact funext fun a => Fin.ext (by
      fin_cases a
      · show 0 + 1 * 0 = 0; rfl
      · show 1 + 1 * 0 = 1; rfl
      · show 1 + 1 * 0 = 1; rfl
      · show 0 + 1 * d.val = d.val; omega
      · show 0 + 1 * r.val = r.val; omega)
  rcases List.mem_cons.mp hpc with rfl | hpc
  · intro x
    refine (congrFun (alone1_0 x0) x).trans (piece3 x0 hf 1 _ (ld1 x0) 0 _ tail0_at x _ ?_)
    rintro d r rfl
    exact funext fun a => Fin.ext (by
      fin_cases a
      · show 0 + 1 * 0 = 0; rfl
      · show 1 + 1 * 0 = 1; rfl
      · show 0 + 1 * 0 = 0; rfl
      · show 0 + 1 * d.val = d.val; omega
      · show 0 + 1 * r.val = r.val; omega)
  rcases List.mem_cons.mp hpc with rfl | hpc
  · intro x
    refine (congrFun (alone0_7 x0) x).trans (piece3 x0 hf 0 _ (ld0 x0) 7 _ tail7_at x _ ?_)
    rintro d r rfl
    exact funext fun a => Fin.ext (by
      fin_cases a
      · show 0 + 1 * 0 = 0; rfl
      · show 0 + 1 * 0 = 0; rfl
      · show 7 + 1 * 0 = 7; rfl
      · show 0 + 1 * d.val = d.val; omega
      · show 0 + 1 * r.val = r.val; omega)
  rcases List.mem_cons.mp hpc with rfl | hpc
  · intro x
    refine (congrFun (alone0_6 x0) x).trans (piece3 x0 hf 0 _ (ld0 x0) 6 _ tail6_at x _ ?_)
    rintro d r rfl
    exact funext fun a => Fin.ext (by
      fin_cases a
      · show 0 + 1 * 0 = 0; rfl
      · show 0 + 1 * 0 = 0; rfl
      · show 6 + 1 * 0 = 6; rfl
      · show 0 + 1 * d.val = d.val; omega
      · show 0 + 1 * r.val = r.val; omega)
  rcases List.mem_cons.mp hpc with rfl | hpc
  · intro x
    refine (congrFun (alone0_5 x0) x).trans (piece3 x0 hf 0 _ (ld0 x0) 5 _ tail5_at x _ ?_)
    rintro d r rfl
    exact funext fun a => Fin.ext (by
      fin_cases a
      · show 0 + 1 * 0 = 0; rfl
      · show 0 + 1 * 0 = 0; rfl
      · show 5 + 1 * 0 = 5; rfl
      · show 0 + 1 * d.val = d.val; omega
      · show 0 + 1 * r.val = r.val; omega)
  rcases List.mem_cons.mp hpc with rfl | hpc
  · intro x
    refine (congrFun (alone0_4 x0) x).trans (piece3 x0 hf 0 _ (ld0 x0) 4 _ tail4_at x _ ?_)
    rintro d r rfl
    exact funext fun a => Fin.ext (by
      fin_cases a
      · show 0 + 1 * 0 = 0; rfl
      · show 0 + 1 * 0 = 0; rfl
      · show 4 + 1 * 0 = 4; rfl
      · show 0 + 1 * d.val = d.val; omega
      · show 0 + 1 * r.val = r.val; omega)
  rcases List.mem_cons.mp hpc with rfl | hpc
  · intro x
    refine (congrFun (alone0_3 x0) x).trans (piece3 x0 hf 0 _ (ld0 x0) 3 _ tail3_at x _ ?_)
    rintro d r rfl
    exact funext fun a => Fin.ext (by
      fin_cases a
      · show 0 + 1 * 0 = 0; rfl
      · show 0 + 1 * 0 = 0; rfl
      · show 3 + 1 * 0 = 3; rfl
      · show 0 + 1 * d.val = d.val; omega
      · show 0 + 1 * r.val = r.val; omega)
  rcases List.mem_cons.mp hpc with rfl | hpc
  · intro x
    refine (congrFun (alone0_2 x0) x).trans (piece3 x0 hf 0 _ (ld0 x0) 2 _ tail2_at x _ ?_)
    rintro d r rfl
    exact funext fun a => Fin.ext (by
      fin_cases a
      · show 0 + 1 * 0 = 0; rfl
      · show 0 + 1 * 0 = 0; rfl
      · show 2 + 1 * 0 = 2; rfl
      · show 0 + 1 * d.val = d.val; omega
      · show 0 + 1 * r.val = r.val; omega)
  rcases List.mem_cons.mp hpc with rfl | hpc
  · intro x
    refine (congrFun (alone0_1 x0) x).trans (piece3 x0 hf 0 _ (ld0 x0) 1 _ tail1_at x _ ?_)
    rintro d r rfl
    exact funext fun a => Fin.ext (by
      fin_cases a
      · show 0 + 1 * 0 = 0; rfl
      · show 0 + 1 * 0 = 0; rfl
      · show 1 + 1 * 0 = 1; rfl
      · show 0 + 1 * d.val = d.val; omega
      · show 0 + 1 * r.val = r.val; omega)
  rcases List.mem_cons.mp hpc with rfl | hpc
  · intro x
    refine (congrFun (alone0_0 x0) x).trans (piece3 x0 hf 0 _ (ld0 x0) 0 _ tail0_at x _ ?_)
    rintro d r rfl
    exact funext fun a => Fin.ext (by
      fin_cases a
      · show 0 + 1 * 0 = 0; rfl
      · show 0 + 1 * 0 = 0; rfl
      · show 0 + 1 * 0 = 0; rfl
      · show 0 + 1 * d.val = d.val; omega
      · show 0 + 1 * r.val = r.val; omega)
  exact nomatch hpc

end Cert.QuantVIdeal.ValueArray
end
-- ==== Proof.QuantVArr.lean ====
module

public import proofs.«01_k».proof.Proof.QuantVKer

/-!
The quantise kernel's result arrays after the run.
-/

@[expose] public section

set_option maxRecDepth 16384

noncomputable section

open Idealize.ShloMosaic Idealize.ShloMosaic.TcCoe Idealize.SL.Sem
open Idealize.ShloMosaic.Pipeline (Dat Cfg Window)

namespace Cert.QuantVIdeal.ValueArray

open Cert.QuantVIdeal Cert.QuantVIdeal.Gen Cert.Spec

/-- The blocks' places, at every point. -/
theorem idx : ∀ t : Fin cfg0.N, win0_0.index t = ![(grid0.coords t 0).val, (grid0.coords t 1).val, 0] ∧ win0_1.index t = ![(grid0.coords t 0).val, (grid0.coords t 1).val, 0] ∧ win0_2.index t = ![(grid0.coords t 0).val, (grid0.coords t 1).val, 0] ∧ win0_3.index t = ![(grid0.coords t 0).val, 0, (grid0.coords t 1).val, 0, 0] :=
  (by decide +kernel : ∀ t : Fin grid0.N, _)

variable (m : (ℓ : Loc nD τ sig) → Buf (Elt Ideal) ℓ) (c : Dev nD)

/-- The batch of a point. -/
def B (t : Fin cfg0.N) : Fin 2 := grid0.coords t 0

/-- The tile of rows of a point. -/
def T (t : Fin cfg0.N) : Fin 32 := grid0.coords t 1

/-- The tile read at a point. -/
theorem iblk_at (t : Fin cfg0.N) (n : Fin 1024) (w : Fin 512) : iblk m c 0 t (ix3 0 n w)
    = (m ((c : Thread nD τ).loc main_arg0) : FVec Ideal S2x32768x512 .bf16) (ix3 (B t) ⟨(T t).val * 1024 + n.val, by have := (T t).isLt; omega⟩ w) := by
  refine Eq.trans ?_ (congrFun (V_main_arg0 m c) _)
  blk_simp [iblk]
  blk_ext [idx t]
  all_goals first | rfl | (simp only [B, T]; omega)

/-- The block of a global index. -/
def blkOf (t : Fin cfg0.N) (j : Fin 8) : Fin 256 := ⟨(T t).val * 8 + j.val, by have := (T t).isLt; omega⟩

/-- A block of the tile is the argument's block. -/
theorem cell_eq (t : Fin cfg0.N) (j : Fin 8) (h : Fin 4) : cell (iblk m c 0 t) j h = Cert.QuantVReferenceIdeal.ValueAt.blk (m ((c : Thread nD τ).loc main_arg0) : FVec Ideal S2x32768x512 .bf16) (B t) (blkOf t j) h :=
  funext fun r => funext fun d => (iblk_at m c t _ _).trans (congrArg (fun n => (m ((c : Thread nD τ).loc main_arg0) : FVec Ideal S2x32768x512 .bf16) (ix3 (B t) n _)) (Fin.ext (by
    show (T t).val * 1024 + (j.val * 128 + r.val) = ((T t).val * 8 + j.val) * 128 + r.val; omega)))

/-- An index of a tile, by its block, row, head and channel. -/
theorem split1 (y : S1x1024x512.Idx) : ∃ (j : Fin 8) (r : Fin 128) (h : Fin 4) (d : Fin 128), y = ix3 0 ⟨j.val * 128 + r.val, by omega⟩ ⟨h.val * 128 + d.val, by omega⟩ :=
  ⟨⟨(y 1).val / 128, Nat.div_lt_of_lt_mul (y 1).isLt⟩, ⟨(y 1).val % 128, Nat.mod_lt _ (by norm_num)⟩, ⟨(y 2).val / 128, Nat.div_lt_of_lt_mul (y 2).isLt⟩, ⟨(y 2).val % 128, Nat.mod_lt _ (by norm_num)⟩, by
    funext a
    fin_cases a
    · exact Subsingleton.elim (α := Fin 1) _ _
    · exact Fin.ext (by show (y 1).val = (y 1).val / 128 * 128 + (y 1).val % 128; omega)
    · exact Fin.ext (by show (y 2).val = (y 2).val / 128 * 128 + (y 2).val % 128; omega)⟩

variable (hm : ∀ (b : Fin 2) (j : Fin 256) (h : Fin 4), amax (Cert.QuantVReferenceIdeal.ValueAt.blk (m ((c : Thread nD τ).loc main_arg0) : FVec Ideal S2x32768x512 .bf16) b j h) ≤ most)
include hm

/-- Every block of a tile is in range. -/
theorem small (t : Fin cfg0.N) (j : Fin 8) (h : Fin 4) : amax (cell (iblk m c 0 t) j h) ≤ most := by
  rw [cell_eq]; exact hm _ _ _

/-- A code the body leaves at a point. -/
theorem out1_at (t : Fin cfg0.N) (j : Fin 8) (h : Fin 4) (r d : Fin 128) :
    out0_1 (F := Ideal) (iblk m c 0 t) (ix3 0 ⟨j.val * 128 + r.val, by omega⟩ ⟨h.val * 128 + d.val, by omega⟩)
      = qcode (amax (Cert.QuantVReferenceIdeal.ValueAt.blk (m ((c : Thread nD τ).loc main_arg0) : FVec Ideal S2x32768x512 .bf16) (B t) (blkOf t j) h)) (Cert.QuantVReferenceIdeal.ValueAt.blk (m ((c : Thread nD τ).loc main_arg0) : FVec Ideal S2x32768x512 .bf16) (B t) (blkOf t j) h r d) := by
  rw [out1_eq _ (small m c hm t), E1_at, cell_eq]

/-- The codes after the run are the reference's. -/
theorem final1 : (dats m 0 c).arrAt 1 (cfgs 0).N = Cert.QuantVReferenceIdeal.ValueRun.G1 (F := Ideal) (m ((c : Thread nD τ).loc main_arg0) : FVec Ideal S2x32768x512 .bf16) :=
  (dats m 0 c).arrAt_eq_of_covers 1 (Cert.QuantVReferenceIdeal.ValueRun.G1 (F := Ideal) (m ((c : Thread nD τ).loc main_arg0) : FVec Ideal S2x32768x512 .bf16)) (by decide +kernel) fun t hfl y => by
    obtain ⟨j, r, h, d, rfl⟩ := split1 y
    rw [after0_1]
    have hh := out1_at m c hm t j h r d
    generalize out0_1 (F := Ideal) (iblk m c 0 t) = X at hh ⊢
    refine hh.trans ?_
    refine (Cert.QuantVReferenceIdeal.ValueAt.G1_at (m ((c : Thread nD τ).loc main_arg0) : FVec Ideal S2x32768x512 .bf16) (B t) (blkOf t j) h r d (hm _ _ _)).symm.trans ?_
    generalize Cert.QuantVReferenceIdeal.ValueRun.G1 (F := Ideal) (m ((c : Thread nD τ).loc main_arg0) : FVec Ideal S2x32768x512 .bf16) = g
    blk_ext [idx t]
    all_goals first | rfl | (simp only [B, T, blkOf]; omega)

/-- The scales after the run are the reference's. -/
theorem final2 : (dats m 0 c).arrAt 2 (cfgs 0).N = Cert.QuantVReferenceIdeal.ValueRun.G2 (F := Ideal) (m ((c : Thread nD τ).loc main_arg0) : FVec Ideal S2x32768x512 .bf16) :=
  (dats m 0 c).arrAt_eq_of_covers 2 (Cert.QuantVReferenceIdeal.ValueRun.G2 (F := Ideal) (m ((c : Thread nD τ).loc main_arg0) : FVec Ideal S2x32768x512 .bf16)) (by decide +kernel) fun t hfl y => by
    obtain ⟨j, h, rfl⟩ : ∃ (j : Fin 8) (h : Fin 4), y = ix3 0 j h :=
      ⟨y 1, y 2, by
        funext a
        fin_cases a
        · exact Subsingleton.elim (α := Fin 1) _ _
        · rfl
        · rfl⟩
    rw [after0_2]
    refine (out2_at _ (small m c hm t) j h).trans ?_
    rw [cell_eq]
    refine (Cert.QuantVReferenceIdeal.ValueAt.G2_at (m ((c : Thread nD τ).loc main_arg0) : FVec Ideal S2x32768x512 .bf16) (B t) (blkOf t j) h (hm _ _ _)).symm.trans ?_
    generalize Cert.QuantVReferenceIdeal.ValueRun.G2 (F := Ideal) (m ((c : Thread nD τ).loc main_arg0) : FVec Ideal S2x32768x512 .bf16) = g
    blk_ext [idx t]
    all_goals first | rfl | (simp only [B, T, blkOf]; omega)

/-- A code the body leaves at a point, in the array of heads. -/
theorem out3_at (t : Fin cfg0.N) (j : Fin 8) (h : Fin 4) (r d : Fin 128) :
    out0_3 (F := Ideal) (iblk m c 0 t) (ix5 0 h j d r)
      = qcode (amax (Cert.QuantVReferenceIdeal.ValueAt.blk (m ((c : Thread nD τ).loc main_arg0) : FVec Ideal S2x32768x512 .bf16) (B t) (blkOf t j) h)) (Cert.QuantVReferenceIdeal.ValueAt.blk (m ((c : Thread nD τ).loc main_arg0) : FVec Ideal S2x32768x512 .bf16) (B t) (blkOf t j) h r d) := by
  rw [out3_eq _ (small m c hm t), E3_at, cell_eq]

/-- The codes head by head after the run are the reference's. -/
theorem final3 : (dats m 0 c).arrAt 3 (cfgs 0).N = Cert.QuantVReferenceIdeal.ValueRun.G3 (F := Ideal) (m ((c : Thread nD τ).loc main_arg0) : FVec Ideal S2x32768x512 .bf16) :=
  (dats m 0 c).arrAt_eq_of_covers 3 (Cert.QuantVReferenceIdeal.ValueRun.G3 (F := Ideal) (m ((c : Thread nD τ).loc main_arg0) : FVec Ideal S2x32768x512 .bf16)) (by decide +kernel) fun t hfl y => by
    obtain ⟨h, j, d, r, rfl⟩ : ∃ (h : Fin 4) (j : Fin 8) (d r : Fin 128), y = ix5 0 h j d r :=
      ⟨y 1, y 2, y 3, y 4, by
        funext a
        fin_cases a
        · exact Subsingleton.elim (α := Fin 1) _ _
        · rfl
        · rfl
        · rfl
        · rfl⟩
    rw [after0_3]
    have hh := out3_at m c hm t j h r d
    generalize out0_3 (F := Ideal) (iblk m c 0 t) = X at hh ⊢
    refine hh.trans ?_
    refine (Cert.QuantVReferenceIdeal.ValueAt.G3_at (m ((c : Thread nD τ).loc main_arg0) : FVec Ideal S2x32768x512 .bf16) (B t) (blkOf t j) h r d (hm _ _ _)).symm.trans ?_
    generalize Cert.QuantVReferenceIdeal.ValueRun.G3 (F := Ideal) (m ((c : Thread nD τ).loc main_arg0) : FVec Ideal S2x32768x512 .bf16) = g
    blk_ext [idx t]
    all_goals first | rfl | (simp only [B, T, blkOf]; omega)

end Cert.QuantVIdeal.ValueArray
end
-- ==== Proof.QuantPre.lean ====
module

public import proofs.«01_k».proof.Pre_finite_x
public import proofs.«01_k».proof.Pre_finite_k
public import proofs.«01_k».proof.Pre_finite_v
public import proofs.«01_k».proof.Proof.QuantSpec
public import Idealize.ShloMosaic.Lib.ReduceAll

/-!
The precondition of the three quantise calls, read back: no element is larger in magnitude than the largest finite number of
the inputs' format.
-/

@[expose] public section

noncomputable section
open Idealize.ShloMosaic Cert.Spec

namespace Cert.QuantPre

/-- A reduction over every axis has one result. -/
theorem one_index : Subsingleton (⟨0, ![]⟩ : Shape).Idx := ⟨fun a b => by funext i; exact i.elim0⟩

/-- A comparison that came out 1 holds. -/
theorem le_of_cmp {a b : EReal} (h : Ideal.cmp .ole a b = 1#1) : a ≤ b := by
  by_contra hc
  simp [Ideal.cmp, hc] at h

/-- The shape relations of the precondition on `x`. -/
theorem facts_x : Cert.Pre_finite_x.Facts where
  bitsLt_bf16_f32 := by decide
  bcast_S_S2x32768x2048 := by decide
  reducesTo_S2x32768x2048_S_d0_1_2 := by decide
  h_S_ := by decide

/-- Under the precondition on `x` no element's magnitude passes the largest finite number. -/
theorem small_x (x : FVec Ideal Cert.Pre_finite_x.S2x32768x2048 .bf16)
    (h : (@Cert.Pre_finite_x.fn facts_x Ideal _ x) = fun _ => 1#1) (i : Cert.Pre_finite_x.S2x32768x2048.Idx) :
    max (x i : EReal) (-(x i : EReal)) ≤ most := by
  have e := congrFun h (fun a => a.elim0)
  have := @Host.reduce_andi_all _ _ _ _ one_index _ _ _ _ _ e i
  exact le_of_cmp this

/-- The shape relations of the precondition on `k`. -/
theorem facts_k : Cert.Pre_finite_k.Facts where
  bitsLt_bf16_f32 := by decide
  bcast_S_S2x32768x512 := by decide
  reducesTo_S2x32768x512_S_d0_1_2 := by decide
  h_S_ := by decide

/-- Under the precondition on `k` no element's magnitude passes the largest finite number. -/
theorem small_k (x : FVec Ideal Cert.Pre_finite_k.S2x32768x512 .bf16)
    (h : (@Cert.Pre_finite_k.fn facts_k Ideal _ x) = fun _ => 1#1) (i : Cert.Pre_finite_k.S2x32768x512.Idx) :
    max (x i : EReal) (-(x i : EReal)) ≤ most := by
  have e := congrFun h (fun a => a.elim0)
  have := @Host.reduce_andi_all _ _ _ _ one_index _ _ _ _ _ e i
  exact le_of_cmp this

/-- The shape relations of the precondition on `v`. -/
theorem facts_v : Cert.Pre_finite_v.Facts where
  bitsLt_bf16_f32 := by decide
  bcast_S_S2x32768x512 := by decide
  reducesTo_S2x32768x512_S_d0_1_2 := by decide
  h_S_ := by decide

/-- Under the precondition on `v` no element's magnitude passes the largest finite number. -/
theorem small_v (x : FVec Ideal Cert.Pre_finite_v.S2x32768x512 .bf16)
    (h : (@Cert.Pre_finite_v.fn facts_v Ideal _ x) = fun _ => 1#1) (i : Cert.Pre_finite_v.S2x32768x512.Idx) :
    max (x i : EReal) (-(x i : EReal)) ≤ most := by
  have e := congrFun h (fun a => a.elim0)
  have := @Host.reduce_andi_all _ _ _ _ one_index _ _ _ _ _ e i
  exact le_of_cmp this

end Cert.QuantPre
end
-- ==== Proof.lean ====
module

public import proofs.«01_k».proof.Defs
public import proofs.«01_k».proof.Proof.Body
public import proofs.«01_k».proof.Proof.BodyBits
public import proofs.«01_k».proof.Proof.KerArray
public import proofs.«01_k».proof.Proof.RefRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.QuantX
public import proofs.«01_k».proof.Proof.Gen.QuantX.Frame
public import proofs.«01_k».proof.Proof.Gen.QuantXIdeal
public import proofs.«01_k».proof.Proof.Gen.QuantXIdeal.Frame
public import proofs.«01_k».proof.Proof.Gen.QuantXIdeal.Value
public import proofs.«01_k».proof.Proof.Gen.QuantXReferenceIdeal
public import proofs.«01_k».proof.Proof.Gen.QuantXReferenceIdeal.Frame
public import proofs.«01_k».proof.Proof.QuantXArr
public import proofs.«01_k».proof.Proof.Gen.QuantK
public import proofs.«01_k».proof.Proof.Gen.QuantK.Frame
public import proofs.«01_k».proof.Proof.Gen.QuantKIdeal
public import proofs.«01_k».proof.Proof.Gen.QuantKIdeal.Frame
public import proofs.«01_k».proof.Proof.Gen.QuantKIdeal.Value
public import proofs.«01_k».proof.Proof.Gen.QuantKReferenceIdeal
public import proofs.«01_k».proof.Proof.Gen.QuantKReferenceIdeal.Frame
public import proofs.«01_k».proof.Proof.QuantKArr
public import proofs.«01_k».proof.Proof.Gen.QuantV
public import proofs.«01_k».proof.Proof.Gen.QuantV.Frame
public import proofs.«01_k».proof.Proof.Gen.QuantVIdeal
public import proofs.«01_k».proof.Proof.Gen.QuantVIdeal.Frame
public import proofs.«01_k».proof.Proof.Gen.QuantVIdeal.Value
public import proofs.«01_k».proof.Proof.Gen.QuantVReferenceIdeal
public import proofs.«01_k».proof.Proof.Gen.QuantVReferenceIdeal.Frame
public import proofs.«01_k».proof.Proof.QuantVArr
public import proofs.«01_k».proof.Proof.QuantPre
public import Idealize.ShloMosaic.Adequacy
public import Idealize.ShloMosaic.Init

@[expose] public section

noncomputable section

namespace Cert.Proof

open Idealize.ShloMosaic Idealize.SL.Sem Cert.Kernel

/-- Over the ideal numbers the kernel and the reference leave the same result array: both leave the attention formula of the
    argument arrays, at every batch, query, head and channel. -/
theorem algebraic : Cert.algebraic_KernelIdeal_ReferenceIdeal (hKernelIdeal := Cert.KernelIdeal.Gen.facts) (hReferenceIdeal := Cert.ReferenceIdeal.Gen.facts) :=
  fun m g m' g' _ h => ⟨fun c => Cert.KernelIdeal.ValueArray.RES m c, Cert.KernelIdeal.ValueArray.run m g,
    (θ_run _ _ _).mono (fun r hr c => ⟨(hr c).1.trans (by
      obtain ⟨h0, h1, h2, h3, h4, h5⟩ := h c
      exact Cert.ReferenceIdeal.Value.TALL_congr h3 h4 h5 h0 h1 h2), (hr c).2⟩) (Cert.ReferenceIdeal.Value.run m' g')⟩

/-- Over the ideal numbers the quantise call on `x` and its reference leave the same result arrays, when no element of `x` is
    larger in magnitude than the largest finite number of its format. -/
theorem algebraic_x : Cert.algebraic_QuantXIdeal_QuantXReferenceIdeal_pre_finite_x (hQuantXIdeal := Cert.QuantXIdeal.Gen.facts) (hQuantXReferenceIdeal := Cert.QuantXReferenceIdeal.Gen.facts) (hPre_finite_x := Cert.QuantPre.facts_x) :=
  fun m g m' g' hp h =>
    have hm : ∀ c : Dev Cert.QuantXIdeal.nD, ∀ (b : Fin 2) (j : Fin 256) (k : Fin 16), Cert.Spec.amax (Cert.QuantXReferenceIdeal.ValueAt.blk (m ((c.tc : Thread Cert.QuantXIdeal.nD Cert.QuantXIdeal.τ).loc Cert.QuantXIdeal.main_arg0)) b j k) ≤ Cert.Spec.most :=
      fun c b j k => Cert.Spec.amax_le fun r d => Cert.QuantPre.small_x _ (hp c) _
    ⟨fun c => Cert.QuantXReferenceIdeal.ValueRun.G1 (F := Ideal) (m ((c.tc : Thread Cert.QuantXIdeal.nD Cert.QuantXIdeal.τ).loc Cert.QuantXIdeal.main_arg0)), fun c => Cert.QuantXReferenceIdeal.ValueRun.G2 (F := Ideal) (m ((c.tc : Thread Cert.QuantXIdeal.nD Cert.QuantXIdeal.τ).loc Cert.QuantXIdeal.main_arg0)),
      (θ_run _ _ _).mono (fun r hr c => ⟨(hr c).1.trans (Cert.QuantXIdeal.ValueArray.final1 m c (hm c)), (hr c).2.1.trans (Cert.QuantXIdeal.ValueArray.final2 m c (hm c)), (hr c).2.2⟩) (Cert.QuantXIdeal.Value.run_blocks m g),
      (θ_run _ _ _).mono (fun r hr c => ⟨(hr c).1.trans (congrArg (Cert.QuantXReferenceIdeal.ValueRun.G1 (F := Ideal)) (h c)), (hr c).2.1.trans (congrArg (Cert.QuantXReferenceIdeal.ValueRun.G2 (F := Ideal)) (h c)), (hr c).2.2⟩) (Cert.QuantXReferenceIdeal.ValueRun.run m' g')⟩

/-- Over the ideal numbers the quantise call on `k` and its reference leave the same result arrays, when no element of `k` is
    larger in magnitude than the largest finite number of its format. -/
theorem algebraic_k : Cert.algebraic_QuantKIdeal_QuantKReferenceIdeal_pre_finite_k (hQuantKIdeal := Cert.QuantKIdeal.Gen.facts) (hQuantKReferenceIdeal := Cert.QuantKReferenceIdeal.Gen.facts) (hPre_finite_k := Cert.QuantPre.facts_k) :=
  fun m g m' g' hp h =>
    have hm : ∀ c : Dev Cert.QuantKIdeal.nD, ∀ (b : Fin 2) (j : Fin 256) (k : Fin 4), Cert.Spec.amax (Cert.QuantKReferenceIdeal.ValueAt.blk (m ((c.tc : Thread Cert.QuantKIdeal.nD Cert.QuantKIdeal.τ).loc Cert.QuantKIdeal.main_arg0)) b j k) ≤ Cert.Spec.most :=
      fun c b j k => Cert.Spec.amax_le fun r d => Cert.QuantPre.small_k _ (hp c) _
    ⟨fun c => Cert.QuantKReferenceIdeal.ValueRun.G1 (F := Ideal) (m ((c.tc : Thread Cert.QuantKIdeal.nD Cert.QuantKIdeal.τ).loc Cert.QuantKIdeal.main_arg0)), fun c => Cert.QuantKReferenceIdeal.ValueRun.G2 (F := Ideal) (m ((c.tc : Thread Cert.QuantKIdeal.nD Cert.QuantKIdeal.τ).loc Cert.QuantKIdeal.main_arg0)), fun c => Cert.QuantKReferenceIdeal.ValueRun.G3 (F := Ideal) (m ((c.tc : Thread Cert.QuantKIdeal.nD Cert.QuantKIdeal.τ).loc Cert.QuantKIdeal.main_arg0)),
      (θ_run _ _ _).mono (fun r hr c => ⟨(hr c).1.trans (Cert.QuantKIdeal.ValueArray.final1 m c (hm c)), (hr c).2.1.trans (Cert.QuantKIdeal.ValueArray.final2 m c (hm c)), (hr c).2.2.1.trans (Cert.QuantKIdeal.ValueArray.final3 m c (hm c)), (hr c).2.2.2⟩) (Cert.QuantKIdeal.Value.run_blocks m g),
      (θ_run _ _ _).mono (fun r hr c => ⟨(hr c).1.trans (congrArg (Cert.QuantKReferenceIdeal.ValueRun.G1 (F := Ideal)) (h c)), (hr c).2.1.trans (congrArg (Cert.QuantKReferenceIdeal.ValueRun.G2 (F := Ideal)) (h c)), (hr c).2.2.1.trans (congrArg (Cert.QuantKReferenceIdeal.ValueRun.G3 (F := Ideal)) (h c)), (hr c).2.2.2⟩) (Cert.QuantKReferenceIdeal.ValueRun.run m' g')⟩

/-- Over the ideal numbers the quantise call on `v` and its reference leave the same result arrays, when no element of `v` is
    larger in magnitude than the largest finite number of its format. -/
theorem algebraic_v : Cert.algebraic_QuantVIdeal_QuantVReferenceIdeal_pre_finite_v (hQuantVIdeal := Cert.QuantVIdeal.Gen.facts) (hQuantVReferenceIdeal := Cert.QuantVReferenceIdeal.Gen.facts) (hPre_finite_v := Cert.QuantPre.facts_v) :=
  fun m g m' g' hp h =>
    have hm : ∀ c : Dev Cert.QuantVIdeal.nD, ∀ (b : Fin 2) (j : Fin 256) (k : Fin 4), Cert.Spec.amax (Cert.QuantVReferenceIdeal.ValueAt.blk (m ((c.tc : Thread Cert.QuantVIdeal.nD Cert.QuantVIdeal.τ).loc Cert.QuantVIdeal.main_arg0)) b j k) ≤ Cert.Spec.most :=
      fun c b j k => Cert.Spec.amax_le fun r d => Cert.QuantPre.small_v _ (hp c) _
    ⟨fun c => Cert.QuantVReferenceIdeal.ValueRun.G1 (F := Ideal) (m ((c.tc : Thread Cert.QuantVIdeal.nD Cert.QuantVIdeal.τ).loc Cert.QuantVIdeal.main_arg0)), fun c => Cert.QuantVReferenceIdeal.ValueRun.G2 (F := Ideal) (m ((c.tc : Thread Cert.QuantVIdeal.nD Cert.QuantVIdeal.τ).loc Cert.QuantVIdeal.main_arg0)), fun c => Cert.QuantVReferenceIdeal.ValueRun.G3 (F := Ideal) (m ((c.tc : Thread Cert.QuantVIdeal.nD Cert.QuantVIdeal.τ).loc Cert.QuantVIdeal.main_arg0)),
      (θ_run _ _ _).mono (fun r hr c => ⟨(hr c).1.trans (Cert.QuantVIdeal.ValueArray.final1 m c (hm c)), (hr c).2.1.trans (Cert.QuantVIdeal.ValueArray.final2 m c (hm c)), (hr c).2.2.1.trans (Cert.QuantVIdeal.ValueArray.final3 m c (hm c)), (hr c).2.2.2⟩) (Cert.QuantVIdeal.Value.run_blocks m g),
      (θ_run _ _ _).mono (fun r hr c => ⟨(hr c).1.trans (congrArg (Cert.QuantVReferenceIdeal.ValueRun.G1 (F := Ideal)) (h c)), (hr c).2.1.trans (congrArg (Cert.QuantVReferenceIdeal.ValueRun.G2 (F := Ideal)) (h c)), (hr c).2.2.1.trans (congrArg (Cert.QuantVReferenceIdeal.ValueRun.G3 (F := Ideal)) (h c)), (hr c).2.2.2⟩) (Cert.QuantVReferenceIdeal.ValueRun.run m' g')⟩

/-- For the attention call and for each of the three quantise calls: the three programs run and leave their arguments as they
    were, idealization rewrote nothing, and over the ideal numbers the kernel's results are the reference's. -/
theorem claim : Cert.Claim := ⟨Cert.Kernel.Gen.facts, Cert.KernelIdeal.Gen.facts, Cert.ReferenceIdeal.Gen.facts,
  Cert.QuantX.Gen.facts, Cert.QuantXIdeal.Gen.facts, Cert.QuantXReferenceIdeal.Gen.facts,
  Cert.QuantK.Gen.facts, Cert.QuantKIdeal.Gen.facts, Cert.QuantKReferenceIdeal.Gen.facts,
  Cert.QuantV.Gen.facts, Cert.QuantVIdeal.Gen.facts, Cert.QuantVReferenceIdeal.Gen.facts,
  Cert.QuantPre.facts_x, Cert.QuantPre.facts_k, Cert.QuantPre.facts_v,
  fun m ρ _ => Cert.Kernel.Body.frame m ρ, fun m ρ _ => Cert.KernelIdeal.Body.frame m ρ,
  fun m ρ _ => Cert.ReferenceIdeal.Gen.frame m ρ,
  fun m ρ _ => Cert.QuantX.Gen.frame m ρ, fun m ρ _ => Cert.QuantXIdeal.Gen.frame m ρ, fun m ρ _ => Cert.QuantXIdeal.Gen.frame m ρ,
  fun m ρ _ => Cert.QuantXReferenceIdeal.Gen.frame m ρ, fun m ρ _ => Cert.QuantXReferenceIdeal.Gen.frame m ρ,
  fun m ρ _ => Cert.QuantK.Gen.frame m ρ, fun m ρ _ => Cert.QuantKIdeal.Gen.frame m ρ, fun m ρ _ => Cert.QuantKIdeal.Gen.frame m ρ,
  fun m ρ _ => Cert.QuantKReferenceIdeal.Gen.frame m ρ, fun m ρ _ => Cert.QuantKReferenceIdeal.Gen.frame m ρ,
  fun m ρ _ => Cert.QuantV.Gen.frame m ρ, fun m ρ _ => Cert.QuantVIdeal.Gen.frame m ρ, fun m ρ _ => Cert.QuantVIdeal.Gen.frame m ρ,
  fun m ρ _ => Cert.QuantVReferenceIdeal.Gen.frame m ρ, fun m ρ _ => Cert.QuantVReferenceIdeal.Gen.frame m ρ,
  trivial, algebraic, trivial, algebraic_x, trivial, algebraic_k, trivial, algebraic_v⟩

end Cert.Proof

end
